-- ==== Defs.lean ====
def Pre_Kernel [hPre_groups_in_range : Cert.Pre_groups_in_range.Facts] (m : (ℓ : Loc Cert.Kernel.nD Cert.Kernel.τ Cert.Kernel.sig) → Buf (Elt Bits) ℓ) : Prop :=
  ∀ c : Dev Cert.Kernel.nD,
    (Cert.Pre_groups_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_groups_in_range : Cert.Pre_groups_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_groups_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_groups_in_range : Cert.Pre_groups_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_groups_in_range : Cert.Pre_groups_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_groups_in_range : Cert.Pre_groups_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S664x2x128 Cert.KernelIdeal.S664x1x128
  ∧ IdealRules.bf16_pair.BufferStatement Cert.KernelIdeal.S2304x2x128 Cert.KernelIdeal.S2304x1x128
  ∧ IdealRules.bf16_pair.Statement Cert.KernelIdeal.S664x2x128 Cert.KernelIdeal.S664x1x128
  ∧ IdealRules.bf16_pair.SelectZeroStatement Cert.KernelIdeal.S664x128
  ∧ IdealRules.bf16_pair.HalfStatement Cert.KernelIdeal.S39x128
  ∧ IdealRules.bf16_pair.Statement Cert.KernelIdeal.S39x2x128 Cert.KernelIdeal.S39x1x128
  ∧ IdealRules.bf16_pair.Statement Cert.KernelIdeal.S8x2x128 Cert.KernelIdeal.S8x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_groups_in_range : Cert.Pre_groups_in_range.Facts),
    quiescent_Kernel (hKernel := hKernel) (hPre_groups_in_range := hPre_groups_in_range)
    ∧ quiescent_KernelIdeal (hKernelIdeal := hKernelIdeal) (hPre_groups_in_range := hPre_groups_in_range)
    ∧ quiescent_ReferenceIdeal (hReferenceIdeal := hReferenceIdeal) (hPre_groups_in_range := hPre_groups_in_range)
    ∧ preserves_Kernel_KernelIdeal
    ∧ algebraic_KernelIdeal_ReferenceIdeal (hKernelIdeal := hKernelIdeal) (hReferenceIdeal := hReferenceIdeal) (hPre_groups_in_range := hPre_groups_in_range)
-- ==== Pre_groups_in_range.lean ====
abbrev S8x1x4992 : Shape := ⟨3, ![8, 1, 4992]⟩
abbrev S2496x26880 : Shape := ⟨2, ![2496, 26880]⟩
abbrev S39x26880 : Shape := ⟨2, ![39, 26880]⟩
abbrev S4992 : Shape := ⟨1, ![4992]⟩
abbrev S_ : Shape := ⟨0, ![]⟩

class Facts : Prop where
  bcast_S_S4992 : S_.BroadcastsInDim S4992 (![] : Fin 0 → Fin S4992.rank)
  reducesTo_S4992_S_d0 : S4992.ReducesTo [0] S_
  h_S_ : 0 < S_.numel

variable [Facts]

def fn {F : FTy → Type} [FloatOps F] (main_arg0 : FVec F S8x1x4992 .bf16) (main_arg1 : IVec S2496x26880 8) (main_arg2 : FVec F S39x26880 .bf16) (main_arg3 : IVec S4992 32) : IVec S_ 1 :=
  let main_c : IVec S_ 32 := constantI S_ 32 0#32
  let main_v0 : IVec S4992 32 := broadcastInDim S4992 ![] bcast_S_S4992 main_c
  let main_v1 : IVec S4992 1 := cmpi .sge main_arg3 main_v0
  let main_c_0 : IVec S_ 32 := constantI S_ 32 39#32
  let main_v2 : IVec S4992 32 := broadcastInDim S4992 ![] bcast_S_S4992 main_c_0
  let main_v3 : IVec S4992 1 := cmpi .slt main_arg3 main_v2
  let main_v4 : IVec S4992 1 := andi main_v1 main_v3
  let main_c_1 : IVec S_ 1 := constantI S_ 1 1#1
  let main_v5 : IVec S_ 1 := (fun x v => Host.reduce IntOp.andi x v reducesTo_S4992_S_d0 h_S_) main_v4 main_c_1
  main_v5
-- ==== Kernel.lean ====
abbrev S8x1x4992 : Shape := ⟨3, ![8, 1, 4992]⟩
abbrev S2496x26880 : Shape := ⟨2, ![2496, 26880]⟩
abbrev S39x26880 : Shape := ⟨2, ![39, 26880]⟩
abbrev S4992 : Shape := ⟨1, ![4992]⟩
abbrev S8x4992 : Shape := ⟨2, ![8, 4992]⟩
abbrev S8x26880 : Shape := ⟨2, ![8, 26880]⟩
abbrev S832x3840 : Shape := ⟨2, ![832, 3840]⟩
abbrev S39x3840 : Shape := ⟨2, ![39, 3840]⟩
abbrev S8x3840 : Shape := ⟨2, ![8, 3840]⟩
abbrev S39x16x256 : Shape := ⟨3, ![39, 16, 256]⟩
abbrev S664x128 : Shape := ⟨2, ![664, 128]⟩
abbrev S2304x128 : Shape := ⟨2, ![2304, 128]⟩
abbrev S16x1920 : Shape := ⟨2, ![16, 1920]⟩
abbrev S7x16x256 : Shape := ⟨3, ![7, 16, 256]⟩
abbrev S8x128 : Shape := ⟨2, ![8, 128]⟩
abbrev S16x128 : Shape := ⟨2, ![16, 128]⟩
abbrev S1x16x128 : Shape := ⟨3, ![1, 16, 128]⟩
abbrev S39x128 : Shape := ⟨2, ![39, 128]⟩
abbrev S1 : Shape := ⟨1, ![1]⟩
abbrev S32x256 : Shape := ⟨2, ![32, 256]⟩
abbrev S1x16x256 : Shape := ⟨3, ![1, 16, 256]⟩
abbrev S16x256 : Shape := ⟨2, ![16, 256]⟩
abbrev S32x128 : Shape := ⟨2, ![32, 128]⟩
abbrev S8x1x128 : Shape := ⟨3, ![8, 1, 128]⟩
abbrev S8x8x128 : Shape := ⟨3, ![8, 8, 128]⟩
abbrev S64x128 : Shape := ⟨2, ![64, 128]⟩
abbrev S256x128 : Shape := ⟨2, ![256, 128]⟩
abbrev S256x256 : Shape := ⟨2, ![256, 256]⟩

abbrev nBuf : Space → Nat
  | .hbm => 6
  | .vmem => 13
  | .smem => 1
  | _ => 0

abbrev bufTy : (tb : Table) → Fin (tcTables nBuf tb) → BufTy
  | .hbm, ⟨0, _⟩ => ⟨S8x1x4992, .bf16⟩
  | .hbm, ⟨1, _⟩ => ⟨S2496x26880, .i8⟩
  | .hbm, ⟨2, _⟩ => ⟨S39x26880, .bf16⟩
  | .hbm, ⟨3, _⟩ => ⟨S4992, .i32⟩
  | .hbm, ⟨4, _⟩ => ⟨S8x4992, .bf16⟩
  | .hbm, ⟨5, _⟩ => ⟨S8x26880, .bf16⟩
  | .local _ .vmem, ⟨0, _⟩ => ⟨S8x4992, .bf16⟩
  | .local _ .vmem, ⟨1, _⟩ => ⟨S832x3840, .i8⟩
  | .local _ .vmem, ⟨2, _⟩ => ⟨S832x3840, .i8⟩
  | .local _ .vmem, ⟨3, _⟩ => ⟨S39x3840, .bf16⟩
  | .local _ .vmem, ⟨4, _⟩ => ⟨S39x3840, .bf16⟩
  | .local _ .vmem, ⟨5, _⟩ => ⟨S8x3840, .bf16⟩
  | .local _ .vmem, ⟨6, _⟩ => ⟨S8x3840, .bf16⟩
  | .local _ .vmem, ⟨7, _⟩ => ⟨S39x16x256, .bf16⟩
  | .local _ .vmem, ⟨8, _⟩ => ⟨S664x128, .i32⟩
  | .local _ .vmem, ⟨9, _⟩ => ⟨S2304x128, .i32⟩
  | .local _ .vmem, ⟨10, _⟩ => ⟨S2304x128, .i32⟩
  | .local _ .vmem, ⟨11, _⟩ => ⟨S16x1920, .f32⟩
  | .local _ .vmem, ⟨12, _⟩ => ⟨S7x16x256, .f32⟩
  | .local _ .smem, ⟨0, _⟩ => ⟨S4992, .i32⟩
  | _, _ => ⟨S8x1x4992, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨2, ![7, 3], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_75 : BitVec 32 := 0#32
  let c39_i32 : BitVec 32 := 39#32
  let v191 : BitVec 32 := Scalar.addi c0_i32_75 c39_i32
  let c1_i32_76 : BitVec 32 := 1#32
  ⟨c0_i32_75, v191, c1_i32_76⟩
def k0_off1 (k0_t1 : Fin k0_t1_loop.trips) : Fin 2 → Nat :=
  let c0_82 : Index := 0#32
  let c0_i32_75 : BitVec 32 := 0#32
  let c1_i32_76 : BitVec 32 := 1#32
  let arg13 : BitVec 32 := Scf.iv c0_i32_75 c1_i32_76 k0_t1
  let c128_i32_81 : BitVec 32 := 128#32
  let v196 : BitVec 32 := Scalar.muli arg13 c128_i32_81
  let v197 : Index := Scalar.indexCast v196
  ![0, v197.toNat]
def k0_off2 (k0_t1 : Fin k0_t1_loop.trips) : Fin 3 → Nat :=
  let c0_i32_75 : BitVec 32 := 0#32
  let c1_i32_76 : BitVec 32 := 1#32
  let arg13 : BitVec 32 := Scf.iv c0_i32_75 c1_i32_76 k0_t1
  let v214 : Index := Scalar.indexCast arg13
  let c0_88 : Index := 0#32
  let c0_89 : Index := 0#32
  ![v214.toNat, 0, 0]
def k0_off3 (k0_t1 : Fin k0_t1_loop.trips) : Fin 3 → Nat :=
  let c0_i32_75 : BitVec 32 := 0#32
  let c1_i32_76 : BitVec 32 := 1#32
  let arg13 : BitVec 32 := Scf.iv c0_i32_75 c1_i32_76 k0_t1
  let v219 : Index := Scalar.indexCast arg13
  let c0_90 : Index := 0#32
  let c128 : Index := 128#32
  ![v219.toNat, 0, 128]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

@[reducible] def k0_t2_loop : Scf.Loop 32 :=
  let c0_i32_68 : BitVec 32 := 0#32
  let c15_i32 : BitVec 32 := 15#32
  let v172 : BitVec 32 := Scalar.addi c0_i32_68 c15_i32
  let c1_i32_69 : BitVec 32 := 1#32
  ⟨c0_i32_68, v172, c1_i32_69⟩
def k0_off4 (k0_t2 : Fin k0_t2_loop.trips) : Fin 2 → Nat :=
  let c0_76 : Index := 0#32
  let c2_i32_74 : BitVec 32 := 2#32
  let c0_i32_68 : BitVec 32 := 0#32
  let c1_i32_69 : BitVec 32 := 1#32
  let arg13 : BitVec 32 := Scf.iv c0_i32_68 c1_i32_69 k0_t2
  let v177 : BitVec 32 := Scalar.muli c2_i32_74 arg13
  let c128_i32_75 : BitVec 32 := 128#32
  let v178 : BitVec 32 := Scalar.muli v177 c128_i32_75
  let v179 : Index := Scalar.indexCast v178
  ![0, v179.toNat]
def k0_off5 (k0_t2 : Fin k0_t2_loop.trips) : Fin 2 → Nat :=
  let c0_80 : Index := 0#32
  let c2_i32_77 : BitVec 32 := 2#32
  let c0_i32_68 : BitVec 32 := 0#32
  let c1_i32_69 : BitVec 32 := 1#32
  let arg13 : BitVec 32 := Scf.iv c0_i32_68 c1_i32_69 k0_t2
  let v182 : BitVec 32 := Scalar.muli c2_i32_77 arg13
  let c1_i32_78 : BitVec 32 := 1#32
  let v183 : BitVec 32 := Scalar.addi v182 c1_i32_78
  let c128_i32_79 : BitVec 32 := 128#32
  let v184 : BitVec 32 := Scalar.muli v183 c128_i32_79
  let v185 : Index := Scalar.indexCast v184
  ![0, v185.toNat]
def k0_off6 (k0_t2 : Fin k0_t2_loop.trips) : Fin 2 → Nat :=
  let c0_i32_68 : BitVec 32 := 0#32
  let c1_i32_69 : BitVec 32 := 1#32
  let arg13 : BitVec 32 := Scf.iv c0_i32_68 c1_i32_69 k0_t2
  let v193 : Index := Scalar.indexCast arg13
  let c0_81 : Index := 0#32
  ![v193.toNat, 0]
@[reducible] def k0_t3_loop : Scf.Loop 32 :=
  let c0_i32_6 : BitVec 32 := 0#32
  let c128_i32 : BitVec 32 := 128#32
  let v13 : BitVec 32 := Scalar.addi c0_i32_6 c128_i32
  let c1_i32 : BitVec 32 := 1#32
  ⟨c0_i32_6, v13, c1_i32⟩
def k0_off7 (i : grid0.Coords) (k0_t3 : Fin k0_t3_loop.trips) : Fin 1 → Nat :=
  let arg1 : BitVec 32 := BitVec.ofNat 32 (i 1).val
  let c1664_i32 : BitVec 32 := 1664#32
  let v8 : BitVec 32 := Scalar.muli arg1 c1664_i32
  let c0_i32_6 : BitVec 32 := 0#32
  let c1_i32 : BitVec 32 := 1#32
  let arg13 : BitVec 32 := Scf.iv c0_i32_6 c1_i32 k0_t3
  let v172 : BitVec 32 := Scalar.addi v8 arg13
  let v173 : Index := Scalar.indexCast v172
  ![v173.toNat]
def k0_off8 (v174 : BitVec 32) (c0_i32_72 : BitVec 32) : Fin 2 → Nat :=
  let c17_i32 : BitVec 32 := 17#32
  let v175 : BitVec 32 := Scalar.muli v174 c17_i32
  let v184 : BitVec 32 := Scalar.addi v175 c0_i32_72
  let v185 : Index := Scalar.indexCast v184
  let c0_73 : Index := 0#32
  ![v185.toNat, 0]

def k0_chk1 (v174 : BitVec 32) : Prop :=
  (∀ (r : Fin 2), ∀ a, (k0_off8 v174 (BitVec.ofNat 32 (8 * r.val))) a + S8x128.size a ≤ S664x128.size a)
theorem k0_off8_inb : ∀ (v174 : BitVec 32) (k0_hw1 : k0_chk1 v174), ∀ (r : Fin 2), ∀ a, (k0_off8 v174 (BitVec.ofNat 32 (8 * r.val))) a + S8x128.size a ≤ S664x128.size a := fun v174 k0_hw1 r => k0_hw1 r

def k0_off9 (k0_t3 : Fin k0_t3_loop.trips) (c0_i32_74 : BitVec 32) : Fin 2 → Nat :=
  let c0_i32_6 : BitVec 32 := 0#32
  let c1_i32 : BitVec 32 := 1#32
  let arg13 : BitVec 32 := Scf.iv c0_i32_6 c1_i32 k0_t3
  let c4_i32_68 : BitVec 32 := 4#32
  let v176 : BitVec 32 := Scalar.shrsi arg13 c4_i32_68
  let c2_i32_69 : BitVec 32 := 2#32
  let v177 : BitVec 32 := Scalar.muli v176 c2_i32_69
  let c1_i32_70 : BitVec 32 := 1#32
  let v178 : BitVec 32 := Scalar.andi arg13 c1_i32_70
  let v179 : BitVec 32 := Scalar.addi v177 v178
  let c144_i32 : BitVec 32 := 144#32
  let v180 : BitVec 32 := Scalar.muli v179 c144_i32
  let c15_i32 : BitVec 32 := 15#32
  let v181 : BitVec 32 := Scalar.andi arg13 c15_i32
  let c1_i32_71 : BitVec 32 := 1#32
  let v182 : BitVec 32 := Scalar.shrsi v181 c1_i32_71
  let v183 : BitVec 32 := Scalar.addi v180 v182
  let v187 : BitVec 32 := Scalar.addi v183 c0_i32_74
  let v188 : Index := Scalar.indexCast v187
  let c0_75 : Index := 0#32
  ![v188.toNat, 0]
@[reducible] def k0_t4_loop : Scf.Loop 32 :=
  let c0_i32_9 : BitVec 32 := 0#32
  let c6_i32 : BitVec 32 := 6#32
  let v15 : BitVec 32 := Scalar.addi c0_i32_9 c6_i32
  let c1_i32_10 : BitVec 32 := 1#32
  ⟨c0_i32_9, v15, c1_i32_10⟩
@[reducible] def k0_t5_loop : Scf.Loop 32 :=
  let c0_i32_71 : BitVec 32 := 0#32
  let c128_i32_72 : BitVec 32 := 128#32
  let v176 : BitVec 32 := Scalar.addi c0_i32_71 c128_i32_72
  let c1_i32_73 : BitVec 32 := 1#32
  ⟨c0_i32_71, v176, c1_i32_73⟩
def k0_off10 (i : grid0.Coords) (k0_t4 : Fin k0_t4_loop.trips) (k0_t5 : Fin k0_t5_loop.trips) : Fin 1 → Nat :=
  let arg1 : BitVec 32 := BitVec.ofNat 32 (i 1).val
  let c1664_i32 : BitVec 32 := 1664#32
  let v8 : BitVec 32 := Scalar.muli arg1 c1664_i32
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c1_i32_69 : BitVec 32 := 1#32
  let v173 : BitVec 32 := Scalar.addi v172 c1_i32_69
  let c128_i32_70 : BitVec 32 := 128#32
  let v174 : BitVec 32 := Scalar.muli v173 c128_i32_70
  let v175 : BitVec 32 := Scalar.addi v8 v174
  let c0_i32_71 : BitVec 32 := 0#32
  let c1_i32_73 : BitVec 32 := 1#32
  let arg15 : BitVec 32 := Scf.iv c0_i32_71 c1_i32_73 k0_t5
  let v485 : BitVec 32 := Scalar.addi v175 arg15
  let v486 : Index := Scalar.indexCast v485
  ![v486.toNat]
def k0_off11 (v487 : BitVec 32) (c0_i32_232 : BitVec 32) : Fin 2 → Nat :=
  let c17_i32 : BitVec 32 := 17#32
  let v488 : BitVec 32 := Scalar.muli v487 c17_i32
  let v497 : BitVec 32 := Scalar.addi v488 c0_i32_232
  let v498 : Index := Scalar.indexCast v497
  let c0_233 : Index := 0#32
  ![v498.toNat, 0]

def k0_chk2 (v487 : BitVec 32) : Prop :=
  (∀ (r : Fin 2), ∀ a, (k0_off11 v487 (BitVec.ofNat 32 (8 * r.val))) a + S8x128.size a ≤ S664x128.size a)
theorem k0_off11_inb : ∀ (v487 : BitVec 32) (k0_hw2 : k0_chk2 v487), ∀ (r : Fin 2), ∀ a, (k0_off11 v487 (BitVec.ofNat 32 (8 * r.val))) a + S8x128.size a ≤ S664x128.size a := fun v487 k0_hw2 r => k0_hw2 r

def k0_off12 (k0_t5 : Fin k0_t5_loop.trips) (c0_i32_234 : BitVec 32) : Fin 2 → Nat :=
  let c0_i32_71 : BitVec 32 := 0#32
  let c1_i32_73 : BitVec 32 := 1#32
  let arg15 : BitVec 32 := Scf.iv c0_i32_71 c1_i32_73 k0_t5
  let c4_i32_228 : BitVec 32 := 4#32
  let v489 : BitVec 32 := Scalar.shrsi arg15 c4_i32_228
  let c2_i32_229 : BitVec 32 := 2#32
  let v490 : BitVec 32 := Scalar.muli v489 c2_i32_229
  let c1_i32_230 : BitVec 32 := 1#32
  let v491 : BitVec 32 := Scalar.andi arg15 c1_i32_230
  let v492 : BitVec 32 := Scalar.addi v490 v491
  let c144_i32 : BitVec 32 := 144#32
  let v493 : BitVec 32 := Scalar.muli v492 c144_i32
  let c15_i32 : BitVec 32 := 15#32
  let v494 : BitVec 32 := Scalar.andi arg15 c15_i32
  let c1_i32_231 : BitVec 32 := 1#32
  let v495 : BitVec 32 := Scalar.shrsi v494 c1_i32_231
  let v496 : BitVec 32 := Scalar.addi v493 v495
  let v500 : BitVec 32 := Scalar.addi v496 c0_i32_234
  let v501 : Index := Scalar.indexCast v500
  let c0_235 : Index := 0#32
  ![v501.toNat, 0]
def k0_off13 (i : grid0.Coords) (k0_t4 : Fin k0_t4_loop.trips) : Fin 3 → Nat :=
  let arg1 : BitVec 32 := BitVec.ofNat 32 (i 1).val
  let c13_i32_75 : BitVec 32 := 13#32
  let v177 : BitVec 32 := Scalar.muli arg1 c13_i32_75
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let v178 : BitVec 32 := Scalar.addi v177 v172
  let v179 : Index := Scalar.indexCast v178
  let c0_76 : Index := 0#32
  let c0_77 : Index := 0#32
  ![v179.toNat, 0, 0]
@[reducible] def k0_t6_loop : Scf.Loop 32 :=
  let c0_i32_78 : BitVec 32 := 0#32
  let c7_i32_79 : BitVec 32 := 7#32
  let v182 : BitVec 32 := Scalar.addi c0_i32_78 c7_i32_79
  let c1_i32_80 : BitVec 32 := 1#32
  ⟨c0_i32_78, v182, c1_i32_80⟩
def k0_off14 (k0_t4 : Fin k0_t4_loop.trips) (k0_t6 : Fin k0_t6_loop.trips) (c0_i32_230 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c64_i32_229 : BitVec 32 := 64#32
  let v486 : BitVec 32 := Scalar.muli v172 c64_i32_229
  let v487 : BitVec 32 := Scalar.addi v486 c0_i32_230
  let v490 : Index := Scalar.indexCast v487
  let c2_i32_231 : BitVec 32 := 2#32
  let c2_i32_228 : BitVec 32 := 2#32
  let c0_i32_78 : BitVec 32 := 0#32
  let c1_i32_80 : BitVec 32 := 1#32
  let arg15 : BitVec 32 := Scf.iv c0_i32_78 c1_i32_80 k0_t6
  let v485 : BitVec 32 := Scalar.muli c2_i32_228 arg15
  let v488 : BitVec 32 := Scalar.muli c2_i32_231 v485
  let c128_i32_232 : BitVec 32 := 128#32
  let v489 : BitVec 32 := Scalar.muli v488 c128_i32_232
  let v491 : Index := Scalar.indexCast v489
  ![v490.toNat, v491.toNat]
def k0_off15 (k0_t4 : Fin k0_t4_loop.trips) (k0_t6 : Fin k0_t6_loop.trips) (c0_i32_230 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c64_i32_229 : BitVec 32 := 64#32
  let v486 : BitVec 32 := Scalar.muli v172 c64_i32_229
  let v487 : BitVec 32 := Scalar.addi v486 c0_i32_230
  let v497 : Index := Scalar.indexCast v487
  let c2_i32_233 : BitVec 32 := 2#32
  let c2_i32_228 : BitVec 32 := 2#32
  let c0_i32_78 : BitVec 32 := 0#32
  let c1_i32_80 : BitVec 32 := 1#32
  let arg15 : BitVec 32 := Scf.iv c0_i32_78 c1_i32_80 k0_t6
  let v485 : BitVec 32 := Scalar.muli c2_i32_228 arg15
  let v494 : BitVec 32 := Scalar.muli c2_i32_233 v485
  let c1_i32_234 : BitVec 32 := 1#32
  let v495 : BitVec 32 := Scalar.addi v494 c1_i32_234
  let c128_i32_235 : BitVec 32 := 128#32
  let v496 : BitVec 32 := Scalar.muli v495 c128_i32_235
  let v498 : Index := Scalar.indexCast v496
  ![v497.toNat, v498.toNat]
def k0_off16 (k0_t6 : Fin k0_t6_loop.trips) (c0_i32_245 : BitVec 32) : Fin 2 → Nat :=
  let c2_i32_228 : BitVec 32 := 2#32
  let c0_i32_78 : BitVec 32 := 0#32
  let c1_i32_80 : BitVec 32 := 1#32
  let arg15 : BitVec 32 := Scf.iv c0_i32_78 c1_i32_80 k0_t6
  let v485 : BitVec 32 := Scalar.muli c2_i32_228 arg15
  let c9_i32 : BitVec 32 := 9#32
  let v529 : BitVec 32 := Scalar.muli v485 c9_i32
  let v530 : BitVec 32 := Scalar.addi c0_i32_245 v529
  let v531 : Index := Scalar.indexCast v530
  let c0_246 : Index := 0#32
  ![v531.toNat, 0]
def k0_off17 (k0_t4 : Fin k0_t4_loop.trips) (k0_t6 : Fin k0_t6_loop.trips) (c0_i32_304 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c64_i32_303 : BitVec 32 := 64#32
  let v693 : BitVec 32 := Scalar.muli v172 c64_i32_303
  let v694 : BitVec 32 := Scalar.addi v693 c0_i32_304
  let v697 : Index := Scalar.indexCast v694
  let c2_i32_305 : BitVec 32 := 2#32
  let c2_i32_301 : BitVec 32 := 2#32
  let c0_i32_78 : BitVec 32 := 0#32
  let c1_i32_80 : BitVec 32 := 1#32
  let arg15 : BitVec 32 := Scf.iv c0_i32_78 c1_i32_80 k0_t6
  let v691 : BitVec 32 := Scalar.muli c2_i32_301 arg15
  let c1_i32_302 : BitVec 32 := 1#32
  let v692 : BitVec 32 := Scalar.addi v691 c1_i32_302
  let v695 : BitVec 32 := Scalar.muli c2_i32_305 v692
  let c128_i32_306 : BitVec 32 := 128#32
  let v696 : BitVec 32 := Scalar.muli v695 c128_i32_306
  let v698 : Index := Scalar.indexCast v696
  ![v697.toNat, v698.toNat]
def k0_off18 (k0_t4 : Fin k0_t4_loop.trips) (k0_t6 : Fin k0_t6_loop.trips) (c0_i32_304 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c64_i32_303 : BitVec 32 := 64#32
  let v693 : BitVec 32 := Scalar.muli v172 c64_i32_303
  let v694 : BitVec 32 := Scalar.addi v693 c0_i32_304
  let v704 : Index := Scalar.indexCast v694
  let c2_i32_307 : BitVec 32 := 2#32
  let c2_i32_301 : BitVec 32 := 2#32
  let c0_i32_78 : BitVec 32 := 0#32
  let c1_i32_80 : BitVec 32 := 1#32
  let arg15 : BitVec 32 := Scf.iv c0_i32_78 c1_i32_80 k0_t6
  let v691 : BitVec 32 := Scalar.muli c2_i32_301 arg15
  let c1_i32_302 : BitVec 32 := 1#32
  let v692 : BitVec 32 := Scalar.addi v691 c1_i32_302
  let v701 : BitVec 32 := Scalar.muli c2_i32_307 v692
  let c1_i32_308 : BitVec 32 := 1#32
  let v702 : BitVec 32 := Scalar.addi v701 c1_i32_308
  let c128_i32_309 : BitVec 32 := 128#32
  let v703 : BitVec 32 := Scalar.muli v702 c128_i32_309
  let v705 : Index := Scalar.indexCast v703
  ![v704.toNat, v705.toNat]
def k0_off19 (k0_t6 : Fin k0_t6_loop.trips) (c0_i32_320 : BitVec 32) : Fin 2 → Nat :=
  let c2_i32_301 : BitVec 32 := 2#32
  let c0_i32_78 : BitVec 32 := 0#32
  let c1_i32_80 : BitVec 32 := 1#32
  let arg15 : BitVec 32 := Scf.iv c0_i32_78 c1_i32_80 k0_t6
  let v691 : BitVec 32 := Scalar.muli c2_i32_301 arg15
  let c1_i32_302 : BitVec 32 := 1#32
  let v692 : BitVec 32 := Scalar.addi v691 c1_i32_302
  let c9_i32_319 : BitVec 32 := 9#32
  let v736 : BitVec 32 := Scalar.muli v692 c9_i32_319
  let v737 : BitVec 32 := Scalar.addi c0_i32_320 v736
  let v738 : Index := Scalar.indexCast v737
  let c0_321 : Index := 0#32
  ![v738.toNat, 0]
def k0_off20 (k0_t6 : Fin k0_t6_loop.trips) : Fin 3 → Nat :=
  let c0_i32_78 : BitVec 32 := 0#32
  let c1_i32_80 : BitVec 32 := 1#32
  let arg15 : BitVec 32 := Scf.iv c0_i32_78 c1_i32_80 k0_t6
  let v899 : Index := Scalar.indexCast arg15
  let c0_391 : Index := 0#32
  let c0_392 : Index := 0#32
  ![v899.toNat, 0, 0]
def k0_off21 (k0_t4 : Fin k0_t4_loop.trips) (c0_i32_82 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c64_i32 : BitVec 32 := 64#32
  let v183 : BitVec 32 := Scalar.muli v172 c64_i32
  let v184 : BitVec 32 := Scalar.addi v183 c0_i32_82
  let v185 : Index := Scalar.indexCast v184
  let c3584_83 : Index := 3584#32
  ![v185.toNat, 3584]
def k0_off22 (k0_t4 : Fin k0_t4_loop.trips) (c0_i32_82 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c64_i32 : BitVec 32 := 64#32
  let v183 : BitVec 32 := Scalar.muli v172 c64_i32
  let v184 : BitVec 32 := Scalar.addi v183 c0_i32_82
  let v188 : Index := Scalar.indexCast v184
  let c3712_84 : Index := 3712#32
  ![v188.toNat, 3712]
@[reducible] def k0_t7_loop : Scf.Loop 32 :=
  let c0_i32_148 : BitVec 32 := 0#32
  let c128_i32_149 : BitVec 32 := 128#32
  let v329 : BitVec 32 := Scalar.addi c0_i32_148 c128_i32_149
  let c1_i32_150 : BitVec 32 := 1#32
  ⟨c0_i32_148, v329, c1_i32_150⟩
def k0_off23 (i : grid0.Coords) (k0_t4 : Fin k0_t4_loop.trips) (k0_t7 : Fin k0_t7_loop.trips) : Fin 1 → Nat :=
  let arg1 : BitVec 32 := BitVec.ofNat 32 (i 1).val
  let c1664_i32 : BitVec 32 := 1664#32
  let v8 : BitVec 32 := Scalar.muli arg1 c1664_i32
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c2_i32_146 : BitVec 32 := 2#32
  let v326 : BitVec 32 := Scalar.addi v172 c2_i32_146
  let c128_i32_147 : BitVec 32 := 128#32
  let v327 : BitVec 32 := Scalar.muli v326 c128_i32_147
  let v328 : BitVec 32 := Scalar.addi v8 v327
  let c0_i32_148 : BitVec 32 := 0#32
  let c1_i32_150 : BitVec 32 := 1#32
  let arg15 : BitVec 32 := Scf.iv c0_i32_148 c1_i32_150 k0_t7
  let v485 : BitVec 32 := Scalar.addi v328 arg15
  let v486 : Index := Scalar.indexCast v485
  ![v486.toNat]
def k0_off24 (v487 : BitVec 32) (c0_i32_232 : BitVec 32) : Fin 2 → Nat :=
  let c17_i32 : BitVec 32 := 17#32
  let v488 : BitVec 32 := Scalar.muli v487 c17_i32
  let v497 : BitVec 32 := Scalar.addi v488 c0_i32_232
  let v498 : Index := Scalar.indexCast v497
  let c0_233 : Index := 0#32
  ![v498.toNat, 0]

def k0_chk3 (v487 : BitVec 32) : Prop :=
  (∀ (r : Fin 2), ∀ a, (k0_off24 v487 (BitVec.ofNat 32 (8 * r.val))) a + S8x128.size a ≤ S664x128.size a)
theorem k0_off24_inb : ∀ (v487 : BitVec 32) (k0_hw3 : k0_chk3 v487), ∀ (r : Fin 2), ∀ a, (k0_off24 v487 (BitVec.ofNat 32 (8 * r.val))) a + S8x128.size a ≤ S664x128.size a := fun v487 k0_hw3 r => k0_hw3 r

def k0_off25 (k0_t7 : Fin k0_t7_loop.trips) (c0_i32_234 : BitVec 32) : Fin 2 → Nat :=
  let c0_i32_148 : BitVec 32 := 0#32
  let c1_i32_150 : BitVec 32 := 1#32
  let arg15 : BitVec 32 := Scf.iv c0_i32_148 c1_i32_150 k0_t7
  let c4_i32_228 : BitVec 32 := 4#32
  let v489 : BitVec 32 := Scalar.shrsi arg15 c4_i32_228
  let c2_i32_229 : BitVec 32 := 2#32
  let v490 : BitVec 32 := Scalar.muli v489 c2_i32_229
  let c1_i32_230 : BitVec 32 := 1#32
  let v491 : BitVec 32 := Scalar.andi arg15 c1_i32_230
  let v492 : BitVec 32 := Scalar.addi v490 v491
  let c144_i32 : BitVec 32 := 144#32
  let v493 : BitVec 32 := Scalar.muli v492 c144_i32
  let c15_i32 : BitVec 32 := 15#32
  let v494 : BitVec 32 := Scalar.andi arg15 c15_i32
  let c1_i32_231 : BitVec 32 := 1#32
  let v495 : BitVec 32 := Scalar.shrsi v494 c1_i32_231
  let v496 : BitVec 32 := Scalar.addi v493 v495
  let v500 : BitVec 32 := Scalar.addi v496 c0_i32_234
  let v501 : Index := Scalar.indexCast v500
  let c0_235 : Index := 0#32
  ![v501.toNat, 0]
def k0_off26 (i : grid0.Coords) (k0_t4 : Fin k0_t4_loop.trips) : Fin 3 → Nat :=
  let arg1 : BitVec 32 := BitVec.ofNat 32 (i 1).val
  let c13_i32_152 : BitVec 32 := 13#32
  let v330 : BitVec 32 := Scalar.muli arg1 c13_i32_152
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c1_i32_153 : BitVec 32 := 1#32
  let v331 : BitVec 32 := Scalar.addi v172 c1_i32_153
  let v332 : BitVec 32 := Scalar.addi v330 v331
  let v333 : Index := Scalar.indexCast v332
  let c0_154 : Index := 0#32
  let c0_155 : Index := 0#32
  ![v333.toNat, 0, 0]
@[reducible] def k0_t8_loop : Scf.Loop 32 :=
  let c0_i32_157 : BitVec 32 := 0#32
  let c7_i32_158 : BitVec 32 := 7#32
  let v337 : BitVec 32 := Scalar.addi c0_i32_157 c7_i32_158
  let c1_i32_159 : BitVec 32 := 1#32
  ⟨c0_i32_157, v337, c1_i32_159⟩
def k0_off27 (k0_t4 : Fin k0_t4_loop.trips) (k0_t8 : Fin k0_t8_loop.trips) (c0_i32_230 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c1_i32_156 : BitVec 32 := 1#32
  let v336 : BitVec 32 := Scalar.addi v172 c1_i32_156
  let c64_i32_229 : BitVec 32 := 64#32
  let v486 : BitVec 32 := Scalar.muli v336 c64_i32_229
  let v487 : BitVec 32 := Scalar.addi v486 c0_i32_230
  let v490 : Index := Scalar.indexCast v487
  let c2_i32_231 : BitVec 32 := 2#32
  let c2_i32_228 : BitVec 32 := 2#32
  let c0_i32_157 : BitVec 32 := 0#32
  let c1_i32_159 : BitVec 32 := 1#32
  let arg15 : BitVec 32 := Scf.iv c0_i32_157 c1_i32_159 k0_t8
  let v485 : BitVec 32 := Scalar.muli c2_i32_228 arg15
  let v488 : BitVec 32 := Scalar.muli c2_i32_231 v485
  let c128_i32_232 : BitVec 32 := 128#32
  let v489 : BitVec 32 := Scalar.muli v488 c128_i32_232
  let v491 : Index := Scalar.indexCast v489
  ![v490.toNat, v491.toNat]
def k0_off28 (k0_t4 : Fin k0_t4_loop.trips) (k0_t8 : Fin k0_t8_loop.trips) (c0_i32_230 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c1_i32_156 : BitVec 32 := 1#32
  let v336 : BitVec 32 := Scalar.addi v172 c1_i32_156
  let c64_i32_229 : BitVec 32 := 64#32
  let v486 : BitVec 32 := Scalar.muli v336 c64_i32_229
  let v487 : BitVec 32 := Scalar.addi v486 c0_i32_230
  let v497 : Index := Scalar.indexCast v487
  let c2_i32_233 : BitVec 32 := 2#32
  let c2_i32_228 : BitVec 32 := 2#32
  let c0_i32_157 : BitVec 32 := 0#32
  let c1_i32_159 : BitVec 32 := 1#32
  let arg15 : BitVec 32 := Scf.iv c0_i32_157 c1_i32_159 k0_t8
  let v485 : BitVec 32 := Scalar.muli c2_i32_228 arg15
  let v494 : BitVec 32 := Scalar.muli c2_i32_233 v485
  let c1_i32_234 : BitVec 32 := 1#32
  let v495 : BitVec 32 := Scalar.addi v494 c1_i32_234
  let c128_i32_235 : BitVec 32 := 128#32
  let v496 : BitVec 32 := Scalar.muli v495 c128_i32_235
  let v498 : Index := Scalar.indexCast v496
  ![v497.toNat, v498.toNat]
def k0_off29 (k0_t8 : Fin k0_t8_loop.trips) (c0_i32_245 : BitVec 32) : Fin 2 → Nat :=
  let c2_i32_228 : BitVec 32 := 2#32
  let c0_i32_157 : BitVec 32 := 0#32
  let c1_i32_159 : BitVec 32 := 1#32
  let arg15 : BitVec 32 := Scf.iv c0_i32_157 c1_i32_159 k0_t8
  let v485 : BitVec 32 := Scalar.muli c2_i32_228 arg15
  let c9_i32 : BitVec 32 := 9#32
  let v529 : BitVec 32 := Scalar.muli v485 c9_i32
  let v530 : BitVec 32 := Scalar.addi c0_i32_245 v529
  let v531 : Index := Scalar.indexCast v530
  let c0_246 : Index := 0#32
  ![v531.toNat, 0]
def k0_off30 (k0_t4 : Fin k0_t4_loop.trips) (k0_t8 : Fin k0_t8_loop.trips) (c0_i32_304 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c1_i32_156 : BitVec 32 := 1#32
  let v336 : BitVec 32 := Scalar.addi v172 c1_i32_156
  let c64_i32_303 : BitVec 32 := 64#32
  let v693 : BitVec 32 := Scalar.muli v336 c64_i32_303
  let v694 : BitVec 32 := Scalar.addi v693 c0_i32_304
  let v697 : Index := Scalar.indexCast v694
  let c2_i32_305 : BitVec 32 := 2#32
  let c2_i32_301 : BitVec 32 := 2#32
  let c0_i32_157 : BitVec 32 := 0#32
  let c1_i32_159 : BitVec 32 := 1#32
  let arg15 : BitVec 32 := Scf.iv c0_i32_157 c1_i32_159 k0_t8
  let v691 : BitVec 32 := Scalar.muli c2_i32_301 arg15
  let c1_i32_302 : BitVec 32 := 1#32
  let v692 : BitVec 32 := Scalar.addi v691 c1_i32_302
  let v695 : BitVec 32 := Scalar.muli c2_i32_305 v692
  let c128_i32_306 : BitVec 32 := 128#32
  let v696 : BitVec 32 := Scalar.muli v695 c128_i32_306
  let v698 : Index := Scalar.indexCast v696
  ![v697.toNat, v698.toNat]
def k0_off31 (k0_t4 : Fin k0_t4_loop.trips) (k0_t8 : Fin k0_t8_loop.trips) (c0_i32_304 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c1_i32_156 : BitVec 32 := 1#32
  let v336 : BitVec 32 := Scalar.addi v172 c1_i32_156
  let c64_i32_303 : BitVec 32 := 64#32
  let v693 : BitVec 32 := Scalar.muli v336 c64_i32_303
  let v694 : BitVec 32 := Scalar.addi v693 c0_i32_304
  let v704 : Index := Scalar.indexCast v694
  let c2_i32_307 : BitVec 32 := 2#32
  let c2_i32_301 : BitVec 32 := 2#32
  let c0_i32_157 : BitVec 32 := 0#32
  let c1_i32_159 : BitVec 32 := 1#32
  let arg15 : BitVec 32 := Scf.iv c0_i32_157 c1_i32_159 k0_t8
  let v691 : BitVec 32 := Scalar.muli c2_i32_301 arg15
  let c1_i32_302 : BitVec 32 := 1#32
  let v692 : BitVec 32 := Scalar.addi v691 c1_i32_302
  let v701 : BitVec 32 := Scalar.muli c2_i32_307 v692
  let c1_i32_308 : BitVec 32 := 1#32
  let v702 : BitVec 32 := Scalar.addi v701 c1_i32_308
  let c128_i32_309 : BitVec 32 := 128#32
  let v703 : BitVec 32 := Scalar.muli v702 c128_i32_309
  let v705 : Index := Scalar.indexCast v703
  ![v704.toNat, v705.toNat]
def k0_off32 (k0_t8 : Fin k0_t8_loop.trips) (c0_i32_320 : BitVec 32) : Fin 2 → Nat :=
  let c2_i32_301 : BitVec 32 := 2#32
  let c0_i32_157 : BitVec 32 := 0#32
  let c1_i32_159 : BitVec 32 := 1#32
  let arg15 : BitVec 32 := Scf.iv c0_i32_157 c1_i32_159 k0_t8
  let v691 : BitVec 32 := Scalar.muli c2_i32_301 arg15
  let c1_i32_302 : BitVec 32 := 1#32
  let v692 : BitVec 32 := Scalar.addi v691 c1_i32_302
  let c9_i32_319 : BitVec 32 := 9#32
  let v736 : BitVec 32 := Scalar.muli v692 c9_i32_319
  let v737 : BitVec 32 := Scalar.addi c0_i32_320 v736
  let v738 : Index := Scalar.indexCast v737
  let c0_321 : Index := 0#32
  ![v738.toNat, 0]
def k0_off33 (k0_t8 : Fin k0_t8_loop.trips) : Fin 3 → Nat :=
  let c0_i32_157 : BitVec 32 := 0#32
  let c1_i32_159 : BitVec 32 := 1#32
  let arg15 : BitVec 32 := Scf.iv c0_i32_157 c1_i32_159 k0_t8
  let v899 : Index := Scalar.indexCast arg15
  let c0_391 : Index := 0#32
  let c0_392 : Index := 0#32
  ![v899.toNat, 0, 0]
def k0_off34 (k0_t4 : Fin k0_t4_loop.trips) (c0_i32_162 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c1_i32_156 : BitVec 32 := 1#32
  let v336 : BitVec 32 := Scalar.addi v172 c1_i32_156
  let c64_i32_161 : BitVec 32 := 64#32
  let v338 : BitVec 32 := Scalar.muli v336 c64_i32_161
  let v339 : BitVec 32 := Scalar.addi v338 c0_i32_162
  let v340 : Index := Scalar.indexCast v339
  let c3584_163 : Index := 3584#32
  ![v340.toNat, 3584]
def k0_off35 (k0_t4 : Fin k0_t4_loop.trips) (c0_i32_162 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c1_i32_156 : BitVec 32 := 1#32
  let v336 : BitVec 32 := Scalar.addi v172 c1_i32_156
  let c64_i32_161 : BitVec 32 := 64#32
  let v338 : BitVec 32 := Scalar.muli v336 c64_i32_161
  let v339 : BitVec 32 := Scalar.addi v338 c0_i32_162
  let v343 : Index := Scalar.indexCast v339
  let c3712_164 : Index := 3712#32
  ![v343.toNat, 3712]
def k0_off36 (i : grid0.Coords) : Fin 3 → Nat :=
  let arg1 : BitVec 32 := BitVec.ofNat 32 (i 1).val
  let c13_i32 : BitVec 32 := 13#32
  let v17 : BitVec 32 := Scalar.muli arg1 c13_i32
  let c12_i32 : BitVec 32 := 12#32
  let v18 : BitVec 32 := Scalar.addi v17 c12_i32
  let v19 : Index := Scalar.indexCast v18
  let c0_12 : Index := 0#32
  let c0_13 : Index := 0#32
  ![v19.toNat, 0, 0]
@[reducible] def k0_t9_loop : Scf.Loop 32 :=
  let c0_i32_14 : BitVec 32 := 0#32
  let c7_i32 : BitVec 32 := 7#32
  let v22 : BitVec 32 := Scalar.addi c0_i32_14 c7_i32
  let c1_i32_15 : BitVec 32 := 1#32
  ⟨c0_i32_14, v22, c1_i32_15⟩
def k0_off37 (k0_t9 : Fin k0_t9_loop.trips) : Fin 2 → Nat :=
  let c768_71 : Index := 768#32
  let c2_i32_69 : BitVec 32 := 2#32
  let c2_i32_68 : BitVec 32 := 2#32
  let c0_i32_14 : BitVec 32 := 0#32
  let c1_i32_15 : BitVec 32 := 1#32
  let arg13 : BitVec 32 := Scf.iv c0_i32_14 c1_i32_15 k0_t9
  let v172 : BitVec 32 := Scalar.muli c2_i32_68 arg13
  let v173 : BitVec 32 := Scalar.muli c2_i32_69 v172
  let c128_i32_70 : BitVec 32 := 128#32
  let v174 : BitVec 32 := Scalar.muli v173 c128_i32_70
  let v175 : Index := Scalar.indexCast v174
  ![768, v175.toNat]
def k0_off38 (k0_t9 : Fin k0_t9_loop.trips) : Fin 2 → Nat :=
  let c768_75 : Index := 768#32
  let c2_i32_72 : BitVec 32 := 2#32
  let c2_i32_68 : BitVec 32 := 2#32
  let c0_i32_14 : BitVec 32 := 0#32
  let c1_i32_15 : BitVec 32 := 1#32
  let arg13 : BitVec 32 := Scf.iv c0_i32_14 c1_i32_15 k0_t9
  let v172 : BitVec 32 := Scalar.muli c2_i32_68 arg13
  let v178 : BitVec 32 := Scalar.muli c2_i32_72 v172
  let c1_i32_73 : BitVec 32 := 1#32
  let v179 : BitVec 32 := Scalar.addi v178 c1_i32_73
  let c128_i32_74 : BitVec 32 := 128#32
  let v180 : BitVec 32 := Scalar.muli v179 c128_i32_74
  let v181 : Index := Scalar.indexCast v180
  ![768, v181.toNat]
def k0_off39 (k0_t9 : Fin k0_t9_loop.trips) (c0_i32_85 : BitVec 32) : Fin 2 → Nat :=
  let c2_i32_68 : BitVec 32 := 2#32
  let c0_i32_14 : BitVec 32 := 0#32
  let c1_i32_15 : BitVec 32 := 1#32
  let arg13 : BitVec 32 := Scf.iv c0_i32_14 c1_i32_15 k0_t9
  let v172 : BitVec 32 := Scalar.muli c2_i32_68 arg13
  let c9_i32 : BitVec 32 := 9#32
  let v212 : BitVec 32 := Scalar.muli v172 c9_i32
  let v213 : BitVec 32 := Scalar.addi c0_i32_85 v212
  let v214 : Index := Scalar.indexCast v213
  let c0_86 : Index := 0#32
  ![v214.toNat, 0]
def k0_off40 (k0_t9 : Fin k0_t9_loop.trips) : Fin 2 → Nat :=
  let c800_107 : Index := 800#32
  let c2_i32_105 : BitVec 32 := 2#32
  let c2_i32_68 : BitVec 32 := 2#32
  let c0_i32_14 : BitVec 32 := 0#32
  let c1_i32_15 : BitVec 32 := 1#32
  let arg13 : BitVec 32 := Scf.iv c0_i32_14 c1_i32_15 k0_t9
  let v172 : BitVec 32 := Scalar.muli c2_i32_68 arg13
  let v271 : BitVec 32 := Scalar.muli c2_i32_105 v172
  let c128_i32_106 : BitVec 32 := 128#32
  let v272 : BitVec 32 := Scalar.muli v271 c128_i32_106
  let v273 : Index := Scalar.indexCast v272
  ![800, v273.toNat]
def k0_off41 (k0_t9 : Fin k0_t9_loop.trips) : Fin 2 → Nat :=
  let c800_111 : Index := 800#32
  let c2_i32_108 : BitVec 32 := 2#32
  let c2_i32_68 : BitVec 32 := 2#32
  let c0_i32_14 : BitVec 32 := 0#32
  let c1_i32_15 : BitVec 32 := 1#32
  let arg13 : BitVec 32 := Scf.iv c0_i32_14 c1_i32_15 k0_t9
  let v172 : BitVec 32 := Scalar.muli c2_i32_68 arg13
  let v276 : BitVec 32 := Scalar.muli c2_i32_108 v172
  let c1_i32_109 : BitVec 32 := 1#32
  let v277 : BitVec 32 := Scalar.addi v276 c1_i32_109
  let c128_i32_110 : BitVec 32 := 128#32
  let v278 : BitVec 32 := Scalar.muli v277 c128_i32_110
  let v279 : Index := Scalar.indexCast v278
  ![800, v279.toNat]
def k0_off42 (k0_t9 : Fin k0_t9_loop.trips) : Fin 2 → Nat :=
  let c768_145 : Index := 768#32
  let c2_i32_143 : BitVec 32 := 2#32
  let c2_i32_141 : BitVec 32 := 2#32
  let c0_i32_14 : BitVec 32 := 0#32
  let c1_i32_15 : BitVec 32 := 1#32
  let arg13 : BitVec 32 := Scf.iv c0_i32_14 c1_i32_15 k0_t9
  let v370 : BitVec 32 := Scalar.muli c2_i32_141 arg13
  let c1_i32_142 : BitVec 32 := 1#32
  let v371 : BitVec 32 := Scalar.addi v370 c1_i32_142
  let v372 : BitVec 32 := Scalar.muli c2_i32_143 v371
  let c128_i32_144 : BitVec 32 := 128#32
  let v373 : BitVec 32 := Scalar.muli v372 c128_i32_144
  let v374 : Index := Scalar.indexCast v373
  ![768, v374.toNat]
def k0_off43 (k0_t9 : Fin k0_t9_loop.trips) : Fin 2 → Nat :=
  let c768_149 : Index := 768#32
  let c2_i32_146 : BitVec 32 := 2#32
  let c2_i32_141 : BitVec 32 := 2#32
  let c0_i32_14 : BitVec 32 := 0#32
  let c1_i32_15 : BitVec 32 := 1#32
  let arg13 : BitVec 32 := Scf.iv c0_i32_14 c1_i32_15 k0_t9
  let v370 : BitVec 32 := Scalar.muli c2_i32_141 arg13
  let c1_i32_142 : BitVec 32 := 1#32
  let v371 : BitVec 32 := Scalar.addi v370 c1_i32_142
  let v377 : BitVec 32 := Scalar.muli c2_i32_146 v371
  let c1_i32_147 : BitVec 32 := 1#32
  let v378 : BitVec 32 := Scalar.addi v377 c1_i32_147
  let c128_i32_148 : BitVec 32 := 128#32
  let v379 : BitVec 32 := Scalar.muli v378 c128_i32_148
  let v380 : Index := Scalar.indexCast v379
  ![768, v380.toNat]
def k0_off44 (k0_t9 : Fin k0_t9_loop.trips) (c0_i32_160 : BitVec 32) : Fin 2 → Nat :=
  let c2_i32_141 : BitVec 32 := 2#32
  let c0_i32_14 : BitVec 32 := 0#32
  let c1_i32_15 : BitVec 32 := 1#32
  let arg13 : BitVec 32 := Scf.iv c0_i32_14 c1_i32_15 k0_t9
  let v370 : BitVec 32 := Scalar.muli c2_i32_141 arg13
  let c1_i32_142 : BitVec 32 := 1#32
  let v371 : BitVec 32 := Scalar.addi v370 c1_i32_142
  let c9_i32_159 : BitVec 32 := 9#32
  let v411 : BitVec 32 := Scalar.muli v371 c9_i32_159
  let v412 : BitVec 32 := Scalar.addi c0_i32_160 v411
  let v413 : Index := Scalar.indexCast v412
  let c0_161 : Index := 0#32
  ![v413.toNat, 0]
def k0_off45 (k0_t9 : Fin k0_t9_loop.trips) : Fin 2 → Nat :=
  let c800_189 : Index := 800#32
  let c2_i32_187 : BitVec 32 := 2#32
  let c2_i32_141 : BitVec 32 := 2#32
  let c0_i32_14 : BitVec 32 := 0#32
  let c1_i32_15 : BitVec 32 := 1#32
  let arg13 : BitVec 32 := Scf.iv c0_i32_14 c1_i32_15 k0_t9
  let v370 : BitVec 32 := Scalar.muli c2_i32_141 arg13
  let c1_i32_142 : BitVec 32 := 1#32
  let v371 : BitVec 32 := Scalar.addi v370 c1_i32_142
  let v470 : BitVec 32 := Scalar.muli c2_i32_187 v371
  let c128_i32_188 : BitVec 32 := 128#32
  let v471 : BitVec 32 := Scalar.muli v470 c128_i32_188
  let v472 : Index := Scalar.indexCast v471
  ![800, v472.toNat]
def k0_off46 (k0_t9 : Fin k0_t9_loop.trips) : Fin 2 → Nat :=
  let c800_193 : Index := 800#32
  let c2_i32_190 : BitVec 32 := 2#32
  let c2_i32_141 : BitVec 32 := 2#32
  let c0_i32_14 : BitVec 32 := 0#32
  let c1_i32_15 : BitVec 32 := 1#32
  let arg13 : BitVec 32 := Scf.iv c0_i32_14 c1_i32_15 k0_t9
  let v370 : BitVec 32 := Scalar.muli c2_i32_141 arg13
  let c1_i32_142 : BitVec 32 := 1#32
  let v371 : BitVec 32 := Scalar.addi v370 c1_i32_142
  let v475 : BitVec 32 := Scalar.muli c2_i32_190 v371
  let c1_i32_191 : BitVec 32 := 1#32
  let v476 : BitVec 32 := Scalar.addi v475 c1_i32_191
  let c128_i32_192 : BitVec 32 := 128#32
  let v477 : BitVec 32 := Scalar.muli v476 c128_i32_192
  let v478 : Index := Scalar.indexCast v477
  ![800, v478.toNat]
def k0_off47 (k0_t9 : Fin k0_t9_loop.trips) : Fin 3 → Nat :=
  let c0_i32_14 : BitVec 32 := 0#32
  let c1_i32_15 : BitVec 32 := 1#32
  let arg13 : BitVec 32 := Scf.iv c0_i32_14 c1_i32_15 k0_t9
  let v570 : Index := Scalar.indexCast arg13
  let c0_231 : Index := 0#32
  let c0_232 : Index := 0#32
  ![v570.toNat, 0, 0]
@[reducible] def k0_t10_loop : Scf.Loop 32 :=
  let c0_i32_60 : BitVec 32 := 0#32
  let c7_i32_61 : BitVec 32 := 7#32
  let v159 : BitVec 32 := Scalar.addi c0_i32_60 c7_i32_61
  let c1_i32_62 : BitVec 32 := 1#32
  ⟨c0_i32_60, v159, c1_i32_62⟩
def k0_off48 (k0_t10 : Fin k0_t10_loop.trips) : Fin 2 → Nat :=
  let c0_70 : Index := 0#32
  let c2_i32_68 : BitVec 32 := 2#32
  let c0_i32_60 : BitVec 32 := 0#32
  let c1_i32_62 : BitVec 32 := 1#32
  let arg13 : BitVec 32 := Scf.iv c0_i32_60 c1_i32_62 k0_t10
  let v172 : BitVec 32 := Scalar.muli c2_i32_68 arg13
  let c128_i32_69 : BitVec 32 := 128#32
  let v173 : BitVec 32 := Scalar.muli v172 c128_i32_69
  let v174 : Index := Scalar.indexCast v173
  ![0, v174.toNat]
def k0_off49 (k0_t10 : Fin k0_t10_loop.trips) : Fin 3 → Nat :=
  let c0_i32_60 : BitVec 32 := 0#32
  let c1_i32_62 : BitVec 32 := 1#32
  let arg13 : BitVec 32 := Scf.iv c0_i32_60 c1_i32_62 k0_t10
  let v176 : Index := Scalar.indexCast arg13
  let c0_71 : Index := 0#32
  let c0_72 : Index := 0#32
  ![v176.toNat, 0, 0]
def k0_cond3 (i : grid0.Coords) : BitVec 1 :=
  let arg1 : BitVec 32 := BitVec.ofNat 32 (i 1).val
  let c2_i32 : BitVec 32 := 2#32
  let v169 : BitVec 1 := Scalar.cmpi .eq arg1 c2_i32
  let v170 : BitVec 32 := Scalar.extui v169
  let c0_i32_67 : BitVec 32 := 0#32
  let v171 : BitVec 1 := Scalar.cmpi .ne v170 c0_i32_67
  v171

@[reducible] def k0_t11_loop : Scf.Loop 32 :=
  let c0_i32_68 : BitVec 32 := 0#32
  let c15_i32 : BitVec 32 := 15#32
  let v172 : BitVec 32 := Scalar.addi c0_i32_68 c15_i32
  let c1_i32_69 : BitVec 32 := 1#32
  ⟨c0_i32_68, v172, c1_i32_69⟩
def k0_off50 (k0_t11 : Fin k0_t11_loop.trips) : Fin 2 → Nat :=
  let c0_72 : Index := 0#32
  let c0_i32_68 : BitVec 32 := 0#32
  let c1_i32_69 : BitVec 32 := 1#32
  let arg13 : BitVec 32 := Scf.iv c0_i32_68 c1_i32_69 k0_t11
  let c128_i32_71 : BitVec 32 := 128#32
  let v173 : BitVec 32 := Scalar.muli arg13 c128_i32_71
  let v174 : Index := Scalar.indexCast v173
  ![0, v174.toNat]
def k0_off51 (k0_t11 : Fin k0_t11_loop.trips) (c0_i32_74 : BitVec 32) : Fin 2 → Nat :=
  let c0_76 : Index := 0#32
  let c2_i32_73 : BitVec 32 := 2#32
  let c0_i32_68 : BitVec 32 := 0#32
  let c1_i32_69 : BitVec 32 := 1#32
  let arg13 : BitVec 32 := Scf.iv c0_i32_68 c1_i32_69 k0_t11
  let v177 : BitVec 32 := Scalar.muli c2_i32_73 arg13
  let v178 : BitVec 32 := Scalar.addi v177 c0_i32_74
  let c128_i32_75 : BitVec 32 := 128#32
  let v179 : BitVec 32 := Scalar.muli v178 c128_i32_75
  let v180 : Index := Scalar.indexCast v179
  ![0, v180.toNat]
def k0_off52 (k0_t11 : Fin k0_t11_loop.trips) : Fin 2 → Nat :=
  let c8 : Index := 8#32
  let c0_i32_68 : BitVec 32 := 0#32
  let c1_i32_69 : BitVec 32 := 1#32
  let arg13 : BitVec 32 := Scf.iv c0_i32_68 c1_i32_69 k0_t11
  let c128_i32_77 : BitVec 32 := 128#32
  let v182 : BitVec 32 := Scalar.muli arg13 c128_i32_77
  let v183 : Index := Scalar.indexCast v182
  ![8, v183.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S4992 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x4992 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S832x3840 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S39x3840 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x3840 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
abbrev S8x1x4992 : Shape := ⟨3, ![8, 1, 4992]⟩
abbrev S2496x26880 : Shape := ⟨2, ![2496, 26880]⟩
abbrev S39x26880 : Shape := ⟨2, ![39, 26880]⟩
abbrev S4992 : Shape := ⟨1, ![4992]⟩
abbrev S8x4992 : Shape := ⟨2, ![8, 4992]⟩
abbrev S8x26880 : Shape := ⟨2, ![8, 26880]⟩
abbrev S832x3840 : Shape := ⟨2, ![832, 3840]⟩
abbrev S39x3840 : Shape := ⟨2, ![39, 3840]⟩
abbrev S8x3840 : Shape := ⟨2, ![8, 3840]⟩
abbrev S39x16x256 : Shape := ⟨3, ![39, 16, 256]⟩
abbrev S664x128 : Shape := ⟨2, ![664, 128]⟩
abbrev S664x2x128 : Shape := ⟨3, ![664, 2, 128]⟩
abbrev S664x1x128 : Shape := ⟨3, ![664, 1, 128]⟩
abbrev S2304x128 : Shape := ⟨2, ![2304, 128]⟩
abbrev S2304x2x128 : Shape := ⟨3, ![2304, 2, 128]⟩
abbrev S2304x1x128 : Shape := ⟨3, ![2304, 1, 128]⟩
abbrev S16x1920 : Shape := ⟨2, ![16, 1920]⟩
abbrev S7x16x256 : Shape := ⟨3, ![7, 16, 256]⟩
abbrev S8x128 : Shape := ⟨2, ![8, 128]⟩
abbrev S16x128 : Shape := ⟨2, ![16, 128]⟩
abbrev S1x16x128 : Shape := ⟨3, ![1, 16, 128]⟩
abbrev S39x128 : Shape := ⟨2, ![39, 128]⟩
abbrev S39x2x128 : Shape := ⟨3, ![39, 2, 128]⟩
abbrev S39x1x128 : Shape := ⟨3, ![39, 1, 128]⟩
abbrev S1 : Shape := ⟨1, ![1]⟩
abbrev S8x2x128 : Shape := ⟨3, ![8, 2, 128]⟩
abbrev S8x1x128 : Shape := ⟨3, ![8, 1, 128]⟩
abbrev S32x256 : Shape := ⟨2, ![32, 256]⟩
abbrev S1x16x256 : Shape := ⟨3, ![1, 16, 256]⟩
abbrev S16x256 : Shape := ⟨2, ![16, 256]⟩
abbrev S32x128 : Shape := ⟨2, ![32, 128]⟩
abbrev S8x8x128 : Shape := ⟨3, ![8, 8, 128]⟩
abbrev S64x128 : Shape := ⟨2, ![64, 128]⟩
abbrev S256x128 : Shape := ⟨2, ![256, 128]⟩
abbrev S256x256 : Shape := ⟨2, ![256, 256]⟩

abbrev nBuf : Space → Nat
  | .hbm => 6
  | .vmem => 13
  | .smem => 1
  | _ => 0

abbrev bufTy : (tb : Table) → Fin (tcTables nBuf tb) → BufTy
  | .hbm, ⟨0, _⟩ => ⟨S8x1x4992, .bf16⟩
  | .hbm, ⟨1, _⟩ => ⟨S2496x26880, .i8⟩
  | .hbm, ⟨2, _⟩ => ⟨S39x26880, .bf16⟩
  | .hbm, ⟨3, _⟩ => ⟨S4992, .i32⟩
  | .hbm, ⟨4, _⟩ => ⟨S8x4992, .bf16⟩
  | .hbm, ⟨5, _⟩ => ⟨S8x26880, .bf16⟩
  | .local _ .vmem, ⟨0, _⟩ => ⟨S8x4992, .bf16⟩
  | .local _ .vmem, ⟨1, _⟩ => ⟨S832x3840, .i8⟩
  | .local _ .vmem, ⟨2, _⟩ => ⟨S832x3840, .i8⟩
  | .local _ .vmem, ⟨3, _⟩ => ⟨S39x3840, .bf16⟩
  | .local _ .vmem, ⟨4, _⟩ => ⟨S39x3840, .bf16⟩
  | .local _ .vmem, ⟨5, _⟩ => ⟨S8x3840, .bf16⟩
  | .local _ .vmem, ⟨6, _⟩ => ⟨S8x3840, .bf16⟩
  | .local _ .vmem, ⟨7, _⟩ => ⟨S39x16x256, .bf16⟩
  | .local _ .vmem, ⟨8, _⟩ => ⟨S664x2x128, .bf16⟩
  | .local _ .vmem, ⟨9, _⟩ => ⟨S2304x2x128, .bf16⟩
  | .local _ .vmem, ⟨10, _⟩ => ⟨S2304x2x128, .bf16⟩
  | .local _ .vmem, ⟨11, _⟩ => ⟨S16x1920, .f32⟩
  | .local _ .vmem, ⟨12, _⟩ => ⟨S7x16x256, .f32⟩
  | .local _ .smem, ⟨0, _⟩ => ⟨S4992, .i32⟩
  | _, _ => ⟨S8x1x4992, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![7, 3], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_75 : BitVec 32 := 0#32
  let c39_i32 : BitVec 32 := 39#32
  let v191 : BitVec 32 := Scalar.addi c0_i32_75 c39_i32
  let c1_i32_76 : BitVec 32 := 1#32
  ⟨c0_i32_75, v191, c1_i32_76⟩
def k0_off1 (k0_t1 : Fin k0_t1_loop.trips) : Fin 2 → Nat :=
  let c0_82 : Index := 0#32
  let c0_i32_75 : BitVec 32 := 0#32
  let c1_i32_76 : BitVec 32 := 1#32
  let arg13 : BitVec 32 := Scf.iv c0_i32_75 c1_i32_76 k0_t1
  let c128_i32_81 : BitVec 32 := 128#32
  let v196 : BitVec 32 := Scalar.muli arg13 c128_i32_81
  let v197 : Index := Scalar.indexCast v196
  ![0, v197.toNat]
def k0_off2 (k0_t1 : Fin k0_t1_loop.trips) : Fin 3 → Nat :=
  let c0_i32_75 : BitVec 32 := 0#32
  let c1_i32_76 : BitVec 32 := 1#32
  let arg13 : BitVec 32 := Scf.iv c0_i32_75 c1_i32_76 k0_t1
  let v214 : Index := Scalar.indexCast arg13
  let c0_88 : Index := 0#32
  let c0_89 : Index := 0#32
  ![v214.toNat, 0, 0]
def k0_off3 (k0_t1 : Fin k0_t1_loop.trips) : Fin 3 → Nat :=
  let c0_i32_75 : BitVec 32 := 0#32
  let c1_i32_76 : BitVec 32 := 1#32
  let arg13 : BitVec 32 := Scf.iv c0_i32_75 c1_i32_76 k0_t1
  let v219 : Index := Scalar.indexCast arg13
  let c0_90 : Index := 0#32
  let c128 : Index := 128#32
  ![v219.toNat, 0, 128]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

@[reducible] def k0_t2_loop : Scf.Loop 32 :=
  let c0_i32_68 : BitVec 32 := 0#32
  let c15_i32 : BitVec 32 := 15#32
  let v172 : BitVec 32 := Scalar.addi c0_i32_68 c15_i32
  let c1_i32_69 : BitVec 32 := 1#32
  ⟨c0_i32_68, v172, c1_i32_69⟩
def k0_off4 (k0_t2 : Fin k0_t2_loop.trips) : Fin 2 → Nat :=
  let c0_76 : Index := 0#32
  let c2_i32_74 : BitVec 32 := 2#32
  let c0_i32_68 : BitVec 32 := 0#32
  let c1_i32_69 : BitVec 32 := 1#32
  let arg13 : BitVec 32 := Scf.iv c0_i32_68 c1_i32_69 k0_t2
  let v177 : BitVec 32 := Scalar.muli c2_i32_74 arg13
  let c128_i32_75 : BitVec 32 := 128#32
  let v178 : BitVec 32 := Scalar.muli v177 c128_i32_75
  let v179 : Index := Scalar.indexCast v178
  ![0, v179.toNat]
def k0_off5 (k0_t2 : Fin k0_t2_loop.trips) : Fin 2 → Nat :=
  let c0_80 : Index := 0#32
  let c2_i32_77 : BitVec 32 := 2#32
  let c0_i32_68 : BitVec 32 := 0#32
  let c1_i32_69 : BitVec 32 := 1#32
  let arg13 : BitVec 32 := Scf.iv c0_i32_68 c1_i32_69 k0_t2
  let v182 : BitVec 32 := Scalar.muli c2_i32_77 arg13
  let c1_i32_78 : BitVec 32 := 1#32
  let v183 : BitVec 32 := Scalar.addi v182 c1_i32_78
  let c128_i32_79 : BitVec 32 := 128#32
  let v184 : BitVec 32 := Scalar.muli v183 c128_i32_79
  let v185 : Index := Scalar.indexCast v184
  ![0, v185.toNat]
def k0_off6 (k0_t2 : Fin k0_t2_loop.trips) : Fin 3 → Nat :=
  let c0_i32_68 : BitVec 32 := 0#32
  let c1_i32_69 : BitVec 32 := 1#32
  let arg13 : BitVec 32 := Scf.iv c0_i32_68 c1_i32_69 k0_t2
  let v193 : Index := Scalar.indexCast arg13
  let c0_81 : Index := 0#32
  ![v193.toNat, 0, 0]
@[reducible] def k0_t3_loop : Scf.Loop 32 :=
  let c0_i32_6 : BitVec 32 := 0#32
  let c128_i32 : BitVec 32 := 128#32
  let v13 : BitVec 32 := Scalar.addi c0_i32_6 c128_i32
  let c1_i32 : BitVec 32 := 1#32
  ⟨c0_i32_6, v13, c1_i32⟩
def k0_off7 (i : grid0.Coords) (k0_t3 : Fin k0_t3_loop.trips) : Fin 1 → Nat :=
  let arg1 : BitVec 32 := BitVec.ofNat 32 (i 1).val
  let c1664_i32 : BitVec 32 := 1664#32
  let v8 : BitVec 32 := Scalar.muli arg1 c1664_i32
  let c0_i32_6 : BitVec 32 := 0#32
  let c1_i32 : BitVec 32 := 1#32
  let arg13 : BitVec 32 := Scf.iv c0_i32_6 c1_i32 k0_t3
  let v172 : BitVec 32 := Scalar.addi v8 arg13
  let v173 : Index := Scalar.indexCast v172
  ![v173.toNat]
def k0_off8 (v174 : BitVec 32) (c0_i32_72 : BitVec 32) : Fin 3 → Nat :=
  let c17_i32 : BitVec 32 := 17#32
  let v175 : BitVec 32 := Scalar.muli v174 c17_i32
  let v184 : BitVec 32 := Scalar.addi v175 c0_i32_72
  let v185 : Index := Scalar.indexCast v184
  let c0_73 : Index := 0#32
  ![v185.toNat, 0, 0]

def k0_chk1 (v174 : BitVec 32) : Prop :=
  (∀ (r : Fin 2), ∀ a, (k0_off8 v174 (BitVec.ofNat 32 (8 * r.val))) a + S8x2x128.size a ≤ S664x2x128.size a)
theorem k0_off8_inb : ∀ (v174 : BitVec 32) (k0_hw1 : k0_chk1 v174), ∀ (r : Fin 2), ∀ a, (k0_off8 v174 (BitVec.ofNat 32 (8 * r.val))) a + S8x2x128.size a ≤ S664x2x128.size a := fun v174 k0_hw1 r => k0_hw1 r

def k0_off9 (k0_t3 : Fin k0_t3_loop.trips) (c0_i32_74 : BitVec 32) : Fin 3 → Nat :=
  let c0_i32_6 : BitVec 32 := 0#32
  let c1_i32 : BitVec 32 := 1#32
  let arg13 : BitVec 32 := Scf.iv c0_i32_6 c1_i32 k0_t3
  let c4_i32_68 : BitVec 32 := 4#32
  let v176 : BitVec 32 := Scalar.shrsi arg13 c4_i32_68
  let c2_i32_69 : BitVec 32 := 2#32
  let v177 : BitVec 32 := Scalar.muli v176 c2_i32_69
  let c1_i32_70 : BitVec 32 := 1#32
  let v178 : BitVec 32 := Scalar.andi arg13 c1_i32_70
  let v179 : BitVec 32 := Scalar.addi v177 v178
  let c144_i32 : BitVec 32 := 144#32
  let v180 : BitVec 32 := Scalar.muli v179 c144_i32
  let c15_i32 : BitVec 32 := 15#32
  let v181 : BitVec 32 := Scalar.andi arg13 c15_i32
  let c1_i32_71 : BitVec 32 := 1#32
  let v182 : BitVec 32 := Scalar.shrsi v181 c1_i32_71
  let v183 : BitVec 32 := Scalar.addi v180 v182
  let v187 : BitVec 32 := Scalar.addi v183 c0_i32_74
  let v188 : Index := Scalar.indexCast v187
  let c0_75 : Index := 0#32
  ![v188.toNat, 0, 0]
@[reducible] def k0_t4_loop : Scf.Loop 32 :=
  let c0_i32_9 : BitVec 32 := 0#32
  let c6_i32 : BitVec 32 := 6#32
  let v15 : BitVec 32 := Scalar.addi c0_i32_9 c6_i32
  let c1_i32_10 : BitVec 32 := 1#32
  ⟨c0_i32_9, v15, c1_i32_10⟩
@[reducible] def k0_t5_loop : Scf.Loop 32 :=
  let c0_i32_71 : BitVec 32 := 0#32
  let c128_i32_72 : BitVec 32 := 128#32
  let v176 : BitVec 32 := Scalar.addi c0_i32_71 c128_i32_72
  let c1_i32_73 : BitVec 32 := 1#32
  ⟨c0_i32_71, v176, c1_i32_73⟩
def k0_off10 (i : grid0.Coords) (k0_t4 : Fin k0_t4_loop.trips) (k0_t5 : Fin k0_t5_loop.trips) : Fin 1 → Nat :=
  let arg1 : BitVec 32 := BitVec.ofNat 32 (i 1).val
  let c1664_i32 : BitVec 32 := 1664#32
  let v8 : BitVec 32 := Scalar.muli arg1 c1664_i32
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c1_i32_69 : BitVec 32 := 1#32
  let v173 : BitVec 32 := Scalar.addi v172 c1_i32_69
  let c128_i32_70 : BitVec 32 := 128#32
  let v174 : BitVec 32 := Scalar.muli v173 c128_i32_70
  let v175 : BitVec 32 := Scalar.addi v8 v174
  let c0_i32_71 : BitVec 32 := 0#32
  let c1_i32_73 : BitVec 32 := 1#32
  let arg15 : BitVec 32 := Scf.iv c0_i32_71 c1_i32_73 k0_t5
  let v485 : BitVec 32 := Scalar.addi v175 arg15
  let v486 : Index := Scalar.indexCast v485
  ![v486.toNat]
def k0_off11 (v487 : BitVec 32) (c0_i32_232 : BitVec 32) : Fin 3 → Nat :=
  let c17_i32 : BitVec 32 := 17#32
  let v488 : BitVec 32 := Scalar.muli v487 c17_i32
  let v497 : BitVec 32 := Scalar.addi v488 c0_i32_232
  let v498 : Index := Scalar.indexCast v497
  let c0_233 : Index := 0#32
  ![v498.toNat, 0, 0]

def k0_chk2 (v487 : BitVec 32) : Prop :=
  (∀ (r : Fin 2), ∀ a, (k0_off11 v487 (BitVec.ofNat 32 (8 * r.val))) a + S8x2x128.size a ≤ S664x2x128.size a)
theorem k0_off11_inb : ∀ (v487 : BitVec 32) (k0_hw2 : k0_chk2 v487), ∀ (r : Fin 2), ∀ a, (k0_off11 v487 (BitVec.ofNat 32 (8 * r.val))) a + S8x2x128.size a ≤ S664x2x128.size a := fun v487 k0_hw2 r => k0_hw2 r

def k0_off12 (k0_t5 : Fin k0_t5_loop.trips) (c0_i32_234 : BitVec 32) : Fin 3 → Nat :=
  let c0_i32_71 : BitVec 32 := 0#32
  let c1_i32_73 : BitVec 32 := 1#32
  let arg15 : BitVec 32 := Scf.iv c0_i32_71 c1_i32_73 k0_t5
  let c4_i32_228 : BitVec 32 := 4#32
  let v489 : BitVec 32 := Scalar.shrsi arg15 c4_i32_228
  let c2_i32_229 : BitVec 32 := 2#32
  let v490 : BitVec 32 := Scalar.muli v489 c2_i32_229
  let c1_i32_230 : BitVec 32 := 1#32
  let v491 : BitVec 32 := Scalar.andi arg15 c1_i32_230
  let v492 : BitVec 32 := Scalar.addi v490 v491
  let c144_i32 : BitVec 32 := 144#32
  let v493 : BitVec 32 := Scalar.muli v492 c144_i32
  let c15_i32 : BitVec 32 := 15#32
  let v494 : BitVec 32 := Scalar.andi arg15 c15_i32
  let c1_i32_231 : BitVec 32 := 1#32
  let v495 : BitVec 32 := Scalar.shrsi v494 c1_i32_231
  let v496 : BitVec 32 := Scalar.addi v493 v495
  let v500 : BitVec 32 := Scalar.addi v496 c0_i32_234
  let v501 : Index := Scalar.indexCast v500
  let c0_235 : Index := 0#32
  ![v501.toNat, 0, 0]
def k0_off13 (i : grid0.Coords) (k0_t4 : Fin k0_t4_loop.trips) : Fin 3 → Nat :=
  let arg1 : BitVec 32 := BitVec.ofNat 32 (i 1).val
  let c13_i32_75 : BitVec 32 := 13#32
  let v177 : BitVec 32 := Scalar.muli arg1 c13_i32_75
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let v178 : BitVec 32 := Scalar.addi v177 v172
  let v179 : Index := Scalar.indexCast v178
  let c0_76 : Index := 0#32
  let c0_77 : Index := 0#32
  ![v179.toNat, 0, 0]
@[reducible] def k0_t6_loop : Scf.Loop 32 :=
  let c0_i32_78 : BitVec 32 := 0#32
  let c7_i32_79 : BitVec 32 := 7#32
  let v182 : BitVec 32 := Scalar.addi c0_i32_78 c7_i32_79
  let c1_i32_80 : BitVec 32 := 1#32
  ⟨c0_i32_78, v182, c1_i32_80⟩
def k0_off14 (k0_t4 : Fin k0_t4_loop.trips) (k0_t6 : Fin k0_t6_loop.trips) (c0_i32_230 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c64_i32_229 : BitVec 32 := 64#32
  let v486 : BitVec 32 := Scalar.muli v172 c64_i32_229
  let v487 : BitVec 32 := Scalar.addi v486 c0_i32_230
  let v490 : Index := Scalar.indexCast v487
  let c2_i32_231 : BitVec 32 := 2#32
  let c2_i32_228 : BitVec 32 := 2#32
  let c0_i32_78 : BitVec 32 := 0#32
  let c1_i32_80 : BitVec 32 := 1#32
  let arg15 : BitVec 32 := Scf.iv c0_i32_78 c1_i32_80 k0_t6
  let v485 : BitVec 32 := Scalar.muli c2_i32_228 arg15
  let v488 : BitVec 32 := Scalar.muli c2_i32_231 v485
  let c128_i32_232 : BitVec 32 := 128#32
  let v489 : BitVec 32 := Scalar.muli v488 c128_i32_232
  let v491 : Index := Scalar.indexCast v489
  ![v490.toNat, v491.toNat]
def k0_off15 (k0_t4 : Fin k0_t4_loop.trips) (k0_t6 : Fin k0_t6_loop.trips) (c0_i32_230 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c64_i32_229 : BitVec 32 := 64#32
  let v486 : BitVec 32 := Scalar.muli v172 c64_i32_229
  let v487 : BitVec 32 := Scalar.addi v486 c0_i32_230
  let v497 : Index := Scalar.indexCast v487
  let c2_i32_233 : BitVec 32 := 2#32
  let c2_i32_228 : BitVec 32 := 2#32
  let c0_i32_78 : BitVec 32 := 0#32
  let c1_i32_80 : BitVec 32 := 1#32
  let arg15 : BitVec 32 := Scf.iv c0_i32_78 c1_i32_80 k0_t6
  let v485 : BitVec 32 := Scalar.muli c2_i32_228 arg15
  let v494 : BitVec 32 := Scalar.muli c2_i32_233 v485
  let c1_i32_234 : BitVec 32 := 1#32
  let v495 : BitVec 32 := Scalar.addi v494 c1_i32_234
  let c128_i32_235 : BitVec 32 := 128#32
  let v496 : BitVec 32 := Scalar.muli v495 c128_i32_235
  let v498 : Index := Scalar.indexCast v496
  ![v497.toNat, v498.toNat]
def k0_off16 (k0_t6 : Fin k0_t6_loop.trips) (c0_i32_245 : BitVec 32) : Fin 3 → Nat :=
  let c2_i32_228 : BitVec 32 := 2#32
  let c0_i32_78 : BitVec 32 := 0#32
  let c1_i32_80 : BitVec 32 := 1#32
  let arg15 : BitVec 32 := Scf.iv c0_i32_78 c1_i32_80 k0_t6
  let v485 : BitVec 32 := Scalar.muli c2_i32_228 arg15
  let c9_i32 : BitVec 32 := 9#32
  let v529 : BitVec 32 := Scalar.muli v485 c9_i32
  let v530 : BitVec 32 := Scalar.addi c0_i32_245 v529
  let v531 : Index := Scalar.indexCast v530
  let c0_246 : Index := 0#32
  ![v531.toNat, 0, 0]
def k0_off17 (k0_t4 : Fin k0_t4_loop.trips) (k0_t6 : Fin k0_t6_loop.trips) (c0_i32_304 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c64_i32_303 : BitVec 32 := 64#32
  let v693 : BitVec 32 := Scalar.muli v172 c64_i32_303
  let v694 : BitVec 32 := Scalar.addi v693 c0_i32_304
  let v697 : Index := Scalar.indexCast v694
  let c2_i32_305 : BitVec 32 := 2#32
  let c2_i32_301 : BitVec 32 := 2#32
  let c0_i32_78 : BitVec 32 := 0#32
  let c1_i32_80 : BitVec 32 := 1#32
  let arg15 : BitVec 32 := Scf.iv c0_i32_78 c1_i32_80 k0_t6
  let v691 : BitVec 32 := Scalar.muli c2_i32_301 arg15
  let c1_i32_302 : BitVec 32 := 1#32
  let v692 : BitVec 32 := Scalar.addi v691 c1_i32_302
  let v695 : BitVec 32 := Scalar.muli c2_i32_305 v692
  let c128_i32_306 : BitVec 32 := 128#32
  let v696 : BitVec 32 := Scalar.muli v695 c128_i32_306
  let v698 : Index := Scalar.indexCast v696
  ![v697.toNat, v698.toNat]
def k0_off18 (k0_t4 : Fin k0_t4_loop.trips) (k0_t6 : Fin k0_t6_loop.trips) (c0_i32_304 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c64_i32_303 : BitVec 32 := 64#32
  let v693 : BitVec 32 := Scalar.muli v172 c64_i32_303
  let v694 : BitVec 32 := Scalar.addi v693 c0_i32_304
  let v704 : Index := Scalar.indexCast v694
  let c2_i32_307 : BitVec 32 := 2#32
  let c2_i32_301 : BitVec 32 := 2#32
  let c0_i32_78 : BitVec 32 := 0#32
  let c1_i32_80 : BitVec 32 := 1#32
  let arg15 : BitVec 32 := Scf.iv c0_i32_78 c1_i32_80 k0_t6
  let v691 : BitVec 32 := Scalar.muli c2_i32_301 arg15
  let c1_i32_302 : BitVec 32 := 1#32
  let v692 : BitVec 32 := Scalar.addi v691 c1_i32_302
  let v701 : BitVec 32 := Scalar.muli c2_i32_307 v692
  let c1_i32_308 : BitVec 32 := 1#32
  let v702 : BitVec 32 := Scalar.addi v701 c1_i32_308
  let c128_i32_309 : BitVec 32 := 128#32
  let v703 : BitVec 32 := Scalar.muli v702 c128_i32_309
  let v705 : Index := Scalar.indexCast v703
  ![v704.toNat, v705.toNat]
def k0_off19 (k0_t6 : Fin k0_t6_loop.trips) (c0_i32_320 : BitVec 32) : Fin 3 → Nat :=
  let c2_i32_301 : BitVec 32 := 2#32
  let c0_i32_78 : BitVec 32 := 0#32
  let c1_i32_80 : BitVec 32 := 1#32
  let arg15 : BitVec 32 := Scf.iv c0_i32_78 c1_i32_80 k0_t6
  let v691 : BitVec 32 := Scalar.muli c2_i32_301 arg15
  let c1_i32_302 : BitVec 32 := 1#32
  let v692 : BitVec 32 := Scalar.addi v691 c1_i32_302
  let c9_i32_319 : BitVec 32 := 9#32
  let v736 : BitVec 32 := Scalar.muli v692 c9_i32_319
  let v737 : BitVec 32 := Scalar.addi c0_i32_320 v736
  let v738 : Index := Scalar.indexCast v737
  let c0_321 : Index := 0#32
  ![v738.toNat, 0, 0]
def k0_off20 (k0_t6 : Fin k0_t6_loop.trips) : Fin 3 → Nat :=
  let c0_i32_78 : BitVec 32 := 0#32
  let c1_i32_80 : BitVec 32 := 1#32
  let arg15 : BitVec 32 := Scf.iv c0_i32_78 c1_i32_80 k0_t6
  let v899 : Index := Scalar.indexCast arg15
  let c0_391 : Index := 0#32
  let c0_392 : Index := 0#32
  ![v899.toNat, 0, 0]
def k0_off21 (k0_t4 : Fin k0_t4_loop.trips) (c0_i32_82 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c64_i32 : BitVec 32 := 64#32
  let v183 : BitVec 32 := Scalar.muli v172 c64_i32
  let v184 : BitVec 32 := Scalar.addi v183 c0_i32_82
  let v185 : Index := Scalar.indexCast v184
  let c3584_83 : Index := 3584#32
  ![v185.toNat, 3584]
def k0_off22 (k0_t4 : Fin k0_t4_loop.trips) (c0_i32_82 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c64_i32 : BitVec 32 := 64#32
  let v183 : BitVec 32 := Scalar.muli v172 c64_i32
  let v184 : BitVec 32 := Scalar.addi v183 c0_i32_82
  let v188 : Index := Scalar.indexCast v184
  let c3712_84 : Index := 3712#32
  ![v188.toNat, 3712]
@[reducible] def k0_t7_loop : Scf.Loop 32 :=
  let c0_i32_148 : BitVec 32 := 0#32
  let c128_i32_149 : BitVec 32 := 128#32
  let v329 : BitVec 32 := Scalar.addi c0_i32_148 c128_i32_149
  let c1_i32_150 : BitVec 32 := 1#32
  ⟨c0_i32_148, v329, c1_i32_150⟩
def k0_off23 (i : grid0.Coords) (k0_t4 : Fin k0_t4_loop.trips) (k0_t7 : Fin k0_t7_loop.trips) : Fin 1 → Nat :=
  let arg1 : BitVec 32 := BitVec.ofNat 32 (i 1).val
  let c1664_i32 : BitVec 32 := 1664#32
  let v8 : BitVec 32 := Scalar.muli arg1 c1664_i32
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c2_i32_146 : BitVec 32 := 2#32
  let v326 : BitVec 32 := Scalar.addi v172 c2_i32_146
  let c128_i32_147 : BitVec 32 := 128#32
  let v327 : BitVec 32 := Scalar.muli v326 c128_i32_147
  let v328 : BitVec 32 := Scalar.addi v8 v327
  let c0_i32_148 : BitVec 32 := 0#32
  let c1_i32_150 : BitVec 32 := 1#32
  let arg15 : BitVec 32 := Scf.iv c0_i32_148 c1_i32_150 k0_t7
  let v485 : BitVec 32 := Scalar.addi v328 arg15
  let v486 : Index := Scalar.indexCast v485
  ![v486.toNat]
def k0_off24 (v487 : BitVec 32) (c0_i32_232 : BitVec 32) : Fin 3 → Nat :=
  let c17_i32 : BitVec 32 := 17#32
  let v488 : BitVec 32 := Scalar.muli v487 c17_i32
  let v497 : BitVec 32 := Scalar.addi v488 c0_i32_232
  let v498 : Index := Scalar.indexCast v497
  let c0_233 : Index := 0#32
  ![v498.toNat, 0, 0]

def k0_chk3 (v487 : BitVec 32) : Prop :=
  (∀ (r : Fin 2), ∀ a, (k0_off24 v487 (BitVec.ofNat 32 (8 * r.val))) a + S8x2x128.size a ≤ S664x2x128.size a)
theorem k0_off24_inb : ∀ (v487 : BitVec 32) (k0_hw3 : k0_chk3 v487), ∀ (r : Fin 2), ∀ a, (k0_off24 v487 (BitVec.ofNat 32 (8 * r.val))) a + S8x2x128.size a ≤ S664x2x128.size a := fun v487 k0_hw3 r => k0_hw3 r

def k0_off25 (k0_t7 : Fin k0_t7_loop.trips) (c0_i32_234 : BitVec 32) : Fin 3 → Nat :=
  let c0_i32_148 : BitVec 32 := 0#32
  let c1_i32_150 : BitVec 32 := 1#32
  let arg15 : BitVec 32 := Scf.iv c0_i32_148 c1_i32_150 k0_t7
  let c4_i32_228 : BitVec 32 := 4#32
  let v489 : BitVec 32 := Scalar.shrsi arg15 c4_i32_228
  let c2_i32_229 : BitVec 32 := 2#32
  let v490 : BitVec 32 := Scalar.muli v489 c2_i32_229
  let c1_i32_230 : BitVec 32 := 1#32
  let v491 : BitVec 32 := Scalar.andi arg15 c1_i32_230
  let v492 : BitVec 32 := Scalar.addi v490 v491
  let c144_i32 : BitVec 32 := 144#32
  let v493 : BitVec 32 := Scalar.muli v492 c144_i32
  let c15_i32 : BitVec 32 := 15#32
  let v494 : BitVec 32 := Scalar.andi arg15 c15_i32
  let c1_i32_231 : BitVec 32 := 1#32
  let v495 : BitVec 32 := Scalar.shrsi v494 c1_i32_231
  let v496 : BitVec 32 := Scalar.addi v493 v495
  let v500 : BitVec 32 := Scalar.addi v496 c0_i32_234
  let v501 : Index := Scalar.indexCast v500
  let c0_235 : Index := 0#32
  ![v501.toNat, 0, 0]
def k0_off26 (i : grid0.Coords) (k0_t4 : Fin k0_t4_loop.trips) : Fin 3 → Nat :=
  let arg1 : BitVec 32 := BitVec.ofNat 32 (i 1).val
  let c13_i32_152 : BitVec 32 := 13#32
  let v330 : BitVec 32 := Scalar.muli arg1 c13_i32_152
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c1_i32_153 : BitVec 32 := 1#32
  let v331 : BitVec 32 := Scalar.addi v172 c1_i32_153
  let v332 : BitVec 32 := Scalar.addi v330 v331
  let v333 : Index := Scalar.indexCast v332
  let c0_154 : Index := 0#32
  let c0_155 : Index := 0#32
  ![v333.toNat, 0, 0]
@[reducible] def k0_t8_loop : Scf.Loop 32 :=
  let c0_i32_157 : BitVec 32 := 0#32
  let c7_i32_158 : BitVec 32 := 7#32
  let v337 : BitVec 32 := Scalar.addi c0_i32_157 c7_i32_158
  let c1_i32_159 : BitVec 32 := 1#32
  ⟨c0_i32_157, v337, c1_i32_159⟩
def k0_off27 (k0_t4 : Fin k0_t4_loop.trips) (k0_t8 : Fin k0_t8_loop.trips) (c0_i32_230 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c1_i32_156 : BitVec 32 := 1#32
  let v336 : BitVec 32 := Scalar.addi v172 c1_i32_156
  let c64_i32_229 : BitVec 32 := 64#32
  let v486 : BitVec 32 := Scalar.muli v336 c64_i32_229
  let v487 : BitVec 32 := Scalar.addi v486 c0_i32_230
  let v490 : Index := Scalar.indexCast v487
  let c2_i32_231 : BitVec 32 := 2#32
  let c2_i32_228 : BitVec 32 := 2#32
  let c0_i32_157 : BitVec 32 := 0#32
  let c1_i32_159 : BitVec 32 := 1#32
  let arg15 : BitVec 32 := Scf.iv c0_i32_157 c1_i32_159 k0_t8
  let v485 : BitVec 32 := Scalar.muli c2_i32_228 arg15
  let v488 : BitVec 32 := Scalar.muli c2_i32_231 v485
  let c128_i32_232 : BitVec 32 := 128#32
  let v489 : BitVec 32 := Scalar.muli v488 c128_i32_232
  let v491 : Index := Scalar.indexCast v489
  ![v490.toNat, v491.toNat]
def k0_off28 (k0_t4 : Fin k0_t4_loop.trips) (k0_t8 : Fin k0_t8_loop.trips) (c0_i32_230 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c1_i32_156 : BitVec 32 := 1#32
  let v336 : BitVec 32 := Scalar.addi v172 c1_i32_156
  let c64_i32_229 : BitVec 32 := 64#32
  let v486 : BitVec 32 := Scalar.muli v336 c64_i32_229
  let v487 : BitVec 32 := Scalar.addi v486 c0_i32_230
  let v497 : Index := Scalar.indexCast v487
  let c2_i32_233 : BitVec 32 := 2#32
  let c2_i32_228 : BitVec 32 := 2#32
  let c0_i32_157 : BitVec 32 := 0#32
  let c1_i32_159 : BitVec 32 := 1#32
  let arg15 : BitVec 32 := Scf.iv c0_i32_157 c1_i32_159 k0_t8
  let v485 : BitVec 32 := Scalar.muli c2_i32_228 arg15
  let v494 : BitVec 32 := Scalar.muli c2_i32_233 v485
  let c1_i32_234 : BitVec 32 := 1#32
  let v495 : BitVec 32 := Scalar.addi v494 c1_i32_234
  let c128_i32_235 : BitVec 32 := 128#32
  let v496 : BitVec 32 := Scalar.muli v495 c128_i32_235
  let v498 : Index := Scalar.indexCast v496
  ![v497.toNat, v498.toNat]
def k0_off29 (k0_t8 : Fin k0_t8_loop.trips) (c0_i32_245 : BitVec 32) : Fin 3 → Nat :=
  let c2_i32_228 : BitVec 32 := 2#32
  let c0_i32_157 : BitVec 32 := 0#32
  let c1_i32_159 : BitVec 32 := 1#32
  let arg15 : BitVec 32 := Scf.iv c0_i32_157 c1_i32_159 k0_t8
  let v485 : BitVec 32 := Scalar.muli c2_i32_228 arg15
  let c9_i32 : BitVec 32 := 9#32
  let v529 : BitVec 32 := Scalar.muli v485 c9_i32
  let v530 : BitVec 32 := Scalar.addi c0_i32_245 v529
  let v531 : Index := Scalar.indexCast v530
  let c0_246 : Index := 0#32
  ![v531.toNat, 0, 0]
def k0_off30 (k0_t4 : Fin k0_t4_loop.trips) (k0_t8 : Fin k0_t8_loop.trips) (c0_i32_304 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c1_i32_156 : BitVec 32 := 1#32
  let v336 : BitVec 32 := Scalar.addi v172 c1_i32_156
  let c64_i32_303 : BitVec 32 := 64#32
  let v693 : BitVec 32 := Scalar.muli v336 c64_i32_303
  let v694 : BitVec 32 := Scalar.addi v693 c0_i32_304
  let v697 : Index := Scalar.indexCast v694
  let c2_i32_305 : BitVec 32 := 2#32
  let c2_i32_301 : BitVec 32 := 2#32
  let c0_i32_157 : BitVec 32 := 0#32
  let c1_i32_159 : BitVec 32 := 1#32
  let arg15 : BitVec 32 := Scf.iv c0_i32_157 c1_i32_159 k0_t8
  let v691 : BitVec 32 := Scalar.muli c2_i32_301 arg15
  let c1_i32_302 : BitVec 32 := 1#32
  let v692 : BitVec 32 := Scalar.addi v691 c1_i32_302
  let v695 : BitVec 32 := Scalar.muli c2_i32_305 v692
  let c128_i32_306 : BitVec 32 := 128#32
  let v696 : BitVec 32 := Scalar.muli v695 c128_i32_306
  let v698 : Index := Scalar.indexCast v696
  ![v697.toNat, v698.toNat]
def k0_off31 (k0_t4 : Fin k0_t4_loop.trips) (k0_t8 : Fin k0_t8_loop.trips) (c0_i32_304 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c1_i32_156 : BitVec 32 := 1#32
  let v336 : BitVec 32 := Scalar.addi v172 c1_i32_156
  let c64_i32_303 : BitVec 32 := 64#32
  let v693 : BitVec 32 := Scalar.muli v336 c64_i32_303
  let v694 : BitVec 32 := Scalar.addi v693 c0_i32_304
  let v704 : Index := Scalar.indexCast v694
  let c2_i32_307 : BitVec 32 := 2#32
  let c2_i32_301 : BitVec 32 := 2#32
  let c0_i32_157 : BitVec 32 := 0#32
  let c1_i32_159 : BitVec 32 := 1#32
  let arg15 : BitVec 32 := Scf.iv c0_i32_157 c1_i32_159 k0_t8
  let v691 : BitVec 32 := Scalar.muli c2_i32_301 arg15
  let c1_i32_302 : BitVec 32 := 1#32
  let v692 : BitVec 32 := Scalar.addi v691 c1_i32_302
  let v701 : BitVec 32 := Scalar.muli c2_i32_307 v692
  let c1_i32_308 : BitVec 32 := 1#32
  let v702 : BitVec 32 := Scalar.addi v701 c1_i32_308
  let c128_i32_309 : BitVec 32 := 128#32
  let v703 : BitVec 32 := Scalar.muli v702 c128_i32_309
  let v705 : Index := Scalar.indexCast v703
  ![v704.toNat, v705.toNat]
def k0_off32 (k0_t8 : Fin k0_t8_loop.trips) (c0_i32_320 : BitVec 32) : Fin 3 → Nat :=
  let c2_i32_301 : BitVec 32 := 2#32
  let c0_i32_157 : BitVec 32 := 0#32
  let c1_i32_159 : BitVec 32 := 1#32
  let arg15 : BitVec 32 := Scf.iv c0_i32_157 c1_i32_159 k0_t8
  let v691 : BitVec 32 := Scalar.muli c2_i32_301 arg15
  let c1_i32_302 : BitVec 32 := 1#32
  let v692 : BitVec 32 := Scalar.addi v691 c1_i32_302
  let c9_i32_319 : BitVec 32 := 9#32
  let v736 : BitVec 32 := Scalar.muli v692 c9_i32_319
  let v737 : BitVec 32 := Scalar.addi c0_i32_320 v736
  let v738 : Index := Scalar.indexCast v737
  let c0_321 : Index := 0#32
  ![v738.toNat, 0, 0]
def k0_off33 (k0_t8 : Fin k0_t8_loop.trips) : Fin 3 → Nat :=
  let c0_i32_157 : BitVec 32 := 0#32
  let c1_i32_159 : BitVec 32 := 1#32
  let arg15 : BitVec 32 := Scf.iv c0_i32_157 c1_i32_159 k0_t8
  let v899 : Index := Scalar.indexCast arg15
  let c0_391 : Index := 0#32
  let c0_392 : Index := 0#32
  ![v899.toNat, 0, 0]
def k0_off34 (k0_t4 : Fin k0_t4_loop.trips) (c0_i32_162 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c1_i32_156 : BitVec 32 := 1#32
  let v336 : BitVec 32 := Scalar.addi v172 c1_i32_156
  let c64_i32_161 : BitVec 32 := 64#32
  let v338 : BitVec 32 := Scalar.muli v336 c64_i32_161
  let v339 : BitVec 32 := Scalar.addi v338 c0_i32_162
  let v340 : Index := Scalar.indexCast v339
  let c3584_163 : Index := 3584#32
  ![v340.toNat, 3584]
def k0_off35 (k0_t4 : Fin k0_t4_loop.trips) (c0_i32_162 : BitVec 32) : Fin 2 → Nat :=
  let c2_i32_68 : BitVec 32 := 2#32
  let c0_i32_9 : BitVec 32 := 0#32
  let c1_i32_10 : BitVec 32 := 1#32
  let arg13 : BitVec 32 := Scf.iv c0_i32_9 c1_i32_10 k0_t4
  let v172 : BitVec 32 := Scalar.muli c2_i32_68 arg13
  let c1_i32_156 : BitVec 32 := 1#32
  let v336 : BitVec 32 := Scalar.addi v172 c1_i32_156
  let c64_i32_161 : BitVec 32 := 64#32
  let v338 : BitVec 32 := Scalar.muli v336 c64_i32_161
  let v339 : BitVec 32 := Scalar.addi v338 c0_i32_162
  let v343 : Index := Scalar.indexCast v339
  let c3712_164 : Index := 3712#32
  ![v343.toNat, 3712]
def k0_off36 (i : grid0.Coords) : Fin 3 → Nat :=
  let arg1 : BitVec 32 := BitVec.ofNat 32 (i 1).val
  let c13_i32 : BitVec 32 := 13#32
  let v17 : BitVec 32 := Scalar.muli arg1 c13_i32
  let c12_i32 : BitVec 32 := 12#32
  let v18 : BitVec 32 := Scalar.addi v17 c12_i32
  let v19 : Index := Scalar.indexCast v18
  let c0_12 : Index := 0#32
  let c0_13 : Index := 0#32
  ![v19.toNat, 0, 0]
@[reducible] def k0_t9_loop : Scf.Loop 32 :=
  let c0_i32_14 : BitVec 32 := 0#32
  let c7_i32 : BitVec 32 := 7#32
  let v22 : BitVec 32 := Scalar.addi c0_i32_14 c7_i32
  let c1_i32_15 : BitVec 32 := 1#32
  ⟨c0_i32_14, v22, c1_i32_15⟩
def k0_off37 (k0_t9 : Fin k0_t9_loop.trips) : Fin 2 → Nat :=
  let c768_71 : Index := 768#32
  let c2_i32_69 : BitVec 32 := 2#32
  let c2_i32_68 : BitVec 32 := 2#32
  let c0_i32_14 : BitVec 32 := 0#32
  let c1_i32_15 : BitVec 32 := 1#32
  let arg13 : BitVec 32 := Scf.iv c0_i32_14 c1_i32_15 k0_t9
  let v172 : BitVec 32 := Scalar.muli c2_i32_68 arg13
  let v173 : BitVec 32 := Scalar.muli c2_i32_69 v172
  let c128_i32_70 : BitVec 32 := 128#32
  let v174 : BitVec 32 := Scalar.muli v173 c128_i32_70
  let v175 : Index := Scalar.indexCast v174
  ![768, v175.toNat]
def k0_off38 (k0_t9 : Fin k0_t9_loop.trips) : Fin 2 → Nat :=
  let c768_75 : Index := 768#32
  let c2_i32_72 : BitVec 32 := 2#32
  let c2_i32_68 : BitVec 32 := 2#32
  let c0_i32_14 : BitVec 32 := 0#32
  let c1_i32_15 : BitVec 32 := 1#32
  let arg13 : BitVec 32 := Scf.iv c0_i32_14 c1_i32_15 k0_t9
  let v172 : BitVec 32 := Scalar.muli c2_i32_68 arg13
  let v178 : BitVec 32 := Scalar.muli c2_i32_72 v172
  let c1_i32_73 : BitVec 32 := 1#32
  let v179 : BitVec 32 := Scalar.addi v178 c1_i32_73
  let c128_i32_74 : BitVec 32 := 128#32
  let v180 : BitVec 32 := Scalar.muli v179 c128_i32_74
  let v181 : Index := Scalar.indexCast v180
  ![768, v181.toNat]
def k0_off39 (k0_t9 : Fin k0_t9_loop.trips) (c0_i32_85 : BitVec 32) : Fin 3 → Nat :=
  let c2_i32_68 : BitVec 32 := 2#32
  let c0_i32_14 : BitVec 32 := 0#32
  let c1_i32_15 : BitVec 32 := 1#32
  let arg13 : BitVec 32 := Scf.iv c0_i32_14 c1_i32_15 k0_t9
  let v172 : BitVec 32 := Scalar.muli c2_i32_68 arg13
  let c9_i32 : BitVec 32 := 9#32
  let v212 : BitVec 32 := Scalar.muli v172 c9_i32
  let v213 : BitVec 32 := Scalar.addi c0_i32_85 v212
  let v214 : Index := Scalar.indexCast v213
  let c0_86 : Index := 0#32
  ![v214.toNat, 0, 0]
def k0_off40 (k0_t9 : Fin k0_t9_loop.trips) : Fin 2 → Nat :=
  let c800_107 : Index := 800#32
  let c2_i32_105 : BitVec 32 := 2#32
  let c2_i32_68 : BitVec 32 := 2#32
  let c0_i32_14 : BitVec 32 := 0#32
  let c1_i32_15 : BitVec 32 := 1#32
  let arg13 : BitVec 32 := Scf.iv c0_i32_14 c1_i32_15 k0_t9
  let v172 : BitVec 32 := Scalar.muli c2_i32_68 arg13
  let v271 : BitVec 32 := Scalar.muli c2_i32_105 v172
  let c128_i32_106 : BitVec 32 := 128#32
  let v272 : BitVec 32 := Scalar.muli v271 c128_i32_106
  let v273 : Index := Scalar.indexCast v272
  ![800, v273.toNat]
def k0_off41 (k0_t9 : Fin k0_t9_loop.trips) : Fin 2 → Nat :=
  let c800_111 : Index := 800#32
  let c2_i32_108 : BitVec 32 := 2#32
  let c2_i32_68 : BitVec 32 := 2#32
  let c0_i32_14 : BitVec 32 := 0#32
  let c1_i32_15 : BitVec 32 := 1#32
  let arg13 : BitVec 32 := Scf.iv c0_i32_14 c1_i32_15 k0_t9
  let v172 : BitVec 32 := Scalar.muli c2_i32_68 arg13
  let v276 : BitVec 32 := Scalar.muli c2_i32_108 v172
  let c1_i32_109 : BitVec 32 := 1#32
  let v277 : BitVec 32 := Scalar.addi v276 c1_i32_109
  let c128_i32_110 : BitVec 32 := 128#32
  let v278 : BitVec 32 := Scalar.muli v277 c128_i32_110
  let v279 : Index := Scalar.indexCast v278
  ![800, v279.toNat]
def k0_off42 (k0_t9 : Fin k0_t9_loop.trips) : Fin 2 → Nat :=
  let c768_145 : Index := 768#32
  let c2_i32_143 : BitVec 32 := 2#32
  let c2_i32_141 : BitVec 32 := 2#32
  let c0_i32_14 : BitVec 32 := 0#32
  let c1_i32_15 : BitVec 32 := 1#32
  let arg13 : BitVec 32 := Scf.iv c0_i32_14 c1_i32_15 k0_t9
  let v370 : BitVec 32 := Scalar.muli c2_i32_141 arg13
  let c1_i32_142 : BitVec 32 := 1#32
  let v371 : BitVec 32 := Scalar.addi v370 c1_i32_142
  let v372 : BitVec 32 := Scalar.muli c2_i32_143 v371
  let c128_i32_144 : BitVec 32 := 128#32
  let v373 : BitVec 32 := Scalar.muli v372 c128_i32_144
  let v374 : Index := Scalar.indexCast v373
  ![768, v374.toNat]
def k0_off43 (k0_t9 : Fin k0_t9_loop.trips) : Fin 2 → Nat :=
  let c768_149 : Index := 768#32
  let c2_i32_146 : BitVec 32 := 2#32
  let c2_i32_141 : BitVec 32 := 2#32
  let c0_i32_14 : BitVec 32 := 0#32
  let c1_i32_15 : BitVec 32 := 1#32
  let arg13 : BitVec 32 := Scf.iv c0_i32_14 c1_i32_15 k0_t9
  let v370 : BitVec 32 := Scalar.muli c2_i32_141 arg13
  let c1_i32_142 : BitVec 32 := 1#32
  let v371 : BitVec 32 := Scalar.addi v370 c1_i32_142
  let v377 : BitVec 32 := Scalar.muli c2_i32_146 v371
  let c1_i32_147 : BitVec 32 := 1#32
  let v378 : BitVec 32 := Scalar.addi v377 c1_i32_147
  let c128_i32_148 : BitVec 32 := 128#32
  let v379 : BitVec 32 := Scalar.muli v378 c128_i32_148
  let v380 : Index := Scalar.indexCast v379
  ![768, v380.toNat]
def k0_off44 (k0_t9 : Fin k0_t9_loop.trips) (c0_i32_160 : BitVec 32) : Fin 3 → Nat :=
  let c2_i32_141 : BitVec 32 := 2#32
  let c0_i32_14 : BitVec 32 := 0#32
  let c1_i32_15 : BitVec 32 := 1#32
  let arg13 : BitVec 32 := Scf.iv c0_i32_14 c1_i32_15 k0_t9
  let v370 : BitVec 32 := Scalar.muli c2_i32_141 arg13
  let c1_i32_142 : BitVec 32 := 1#32
  let v371 : BitVec 32 := Scalar.addi v370 c1_i32_142
  let c9_i32_159 : BitVec 32 := 9#32
  let v411 : BitVec 32 := Scalar.muli v371 c9_i32_159
  let v412 : BitVec 32 := Scalar.addi c0_i32_160 v411
  let v413 : Index := Scalar.indexCast v412
  let c0_161 : Index := 0#32
  ![v413.toNat, 0, 0]
def k0_off45 (k0_t9 : Fin k0_t9_loop.trips) : Fin 2 → Nat :=
  let c800_189 : Index := 800#32
  let c2_i32_187 : BitVec 32 := 2#32
  let c2_i32_141 : BitVec 32 := 2#32
  let c0_i32_14 : BitVec 32 := 0#32
  let c1_i32_15 : BitVec 32 := 1#32
  let arg13 : BitVec 32 := Scf.iv c0_i32_14 c1_i32_15 k0_t9
  let v370 : BitVec 32 := Scalar.muli c2_i32_141 arg13
  let c1_i32_142 : BitVec 32 := 1#32
  let v371 : BitVec 32 := Scalar.addi v370 c1_i32_142
  let v470 : BitVec 32 := Scalar.muli c2_i32_187 v371
  let c128_i32_188 : BitVec 32 := 128#32
  let v471 : BitVec 32 := Scalar.muli v470 c128_i32_188
  let v472 : Index := Scalar.indexCast v471
  ![800, v472.toNat]
def k0_off46 (k0_t9 : Fin k0_t9_loop.trips) : Fin 2 → Nat :=
  let c800_193 : Index := 800#32
  let c2_i32_190 : BitVec 32 := 2#32
  let c2_i32_141 : BitVec 32 := 2#32
  let c0_i32_14 : BitVec 32 := 0#32
  let c1_i32_15 : BitVec 32 := 1#32
  let arg13 : BitVec 32 := Scf.iv c0_i32_14 c1_i32_15 k0_t9
  let v370 : BitVec 32 := Scalar.muli c2_i32_141 arg13
  let c1_i32_142 : BitVec 32 := 1#32
  let v371 : BitVec 32 := Scalar.addi v370 c1_i32_142
  let v475 : BitVec 32 := Scalar.muli c2_i32_190 v371
  let c1_i32_191 : BitVec 32 := 1#32
  let v476 : BitVec 32 := Scalar.addi v475 c1_i32_191
  let c128_i32_192 : BitVec 32 := 128#32
  let v477 : BitVec 32 := Scalar.muli v476 c128_i32_192
  let v478 : Index := Scalar.indexCast v477
  ![800, v478.toNat]
def k0_off47 (k0_t9 : Fin k0_t9_loop.trips) : Fin 3 → Nat :=
  let c0_i32_14 : BitVec 32 := 0#32
  let c1_i32_15 : BitVec 32 := 1#32
  let arg13 : BitVec 32 := Scf.iv c0_i32_14 c1_i32_15 k0_t9
  let v570 : Index := Scalar.indexCast arg13
  let c0_231 : Index := 0#32
  let c0_232 : Index := 0#32
  ![v570.toNat, 0, 0]
@[reducible] def k0_t10_loop : Scf.Loop 32 :=
  let c0_i32_60 : BitVec 32 := 0#32
  let c7_i32_61 : BitVec 32 := 7#32
  let v159 : BitVec 32 := Scalar.addi c0_i32_60 c7_i32_61
  let c1_i32_62 : BitVec 32 := 1#32
  ⟨c0_i32_60, v159, c1_i32_62⟩
def k0_off48 (k0_t10 : Fin k0_t10_loop.trips) : Fin 2 → Nat :=
  let c0_70 : Index := 0#32
  let c2_i32_68 : BitVec 32 := 2#32
  let c0_i32_60 : BitVec 32 := 0#32
  let c1_i32_62 : BitVec 32 := 1#32
  let arg13 : BitVec 32 := Scf.iv c0_i32_60 c1_i32_62 k0_t10
  let v172 : BitVec 32 := Scalar.muli c2_i32_68 arg13
  let c128_i32_69 : BitVec 32 := 128#32
  let v173 : BitVec 32 := Scalar.muli v172 c128_i32_69
  let v174 : Index := Scalar.indexCast v173
  ![0, v174.toNat]
def k0_off49 (k0_t10 : Fin k0_t10_loop.trips) : Fin 3 → Nat :=
  let c0_i32_60 : BitVec 32 := 0#32
  let c1_i32_62 : BitVec 32 := 1#32
  let arg13 : BitVec 32 := Scf.iv c0_i32_60 c1_i32_62 k0_t10
  let v176 : Index := Scalar.indexCast arg13
  let c0_71 : Index := 0#32
  let c0_72 : Index := 0#32
  ![v176.toNat, 0, 0]
def k0_cond3 (i : grid0.Coords) : BitVec 1 :=
  let arg1 : BitVec 32 := BitVec.ofNat 32 (i 1).val
  let c2_i32 : BitVec 32 := 2#32
  let v169 : BitVec 1 := Scalar.cmpi .eq arg1 c2_i32
  let v170 : BitVec 32 := Scalar.extui v169
  let c0_i32_67 : BitVec 32 := 0#32
  let v171 : BitVec 1 := Scalar.cmpi .ne v170 c0_i32_67
  v171

@[reducible] def k0_t11_loop : Scf.Loop 32 :=
  let c0_i32_68 : BitVec 32 := 0#32
  let c15_i32 : BitVec 32 := 15#32
  let v172 : BitVec 32 := Scalar.addi c0_i32_68 c15_i32
  let c1_i32_69 : BitVec 32 := 1#32
  ⟨c0_i32_68, v172, c1_i32_69⟩
def k0_off50 (k0_t11 : Fin k0_t11_loop.trips) : Fin 2 → Nat :=
  let c0_72 : Index := 0#32
  let c0_i32_68 : BitVec 32 := 0#32
  let c1_i32_69 : BitVec 32 := 1#32
  let arg13 : BitVec 32 := Scf.iv c0_i32_68 c1_i32_69 k0_t11
  let c128_i32_71 : BitVec 32 := 128#32
  let v173 : BitVec 32 := Scalar.muli arg13 c128_i32_71
  let v174 : Index := Scalar.indexCast v173
  ![0, v174.toNat]
def k0_off51 (k0_t11 : Fin k0_t11_loop.trips) (c0_i32_74 : BitVec 32) : Fin 2 → Nat :=
  let c0_76 : Index := 0#32
  let c2_i32_73 : BitVec 32 := 2#32
  let c0_i32_68 : BitVec 32 := 0#32
  let c1_i32_69 : BitVec 32 := 1#32
  let arg13 : BitVec 32 := Scf.iv c0_i32_68 c1_i32_69 k0_t11
  let v177 : BitVec 32 := Scalar.muli c2_i32_73 arg13
  let v178 : BitVec 32 := Scalar.addi v177 c0_i32_74
  let c128_i32_75 : BitVec 32 := 128#32
  let v179 : BitVec 32 := Scalar.muli v178 c128_i32_75
  let v180 : Index := Scalar.indexCast v179
  ![0, v180.toNat]
def k0_off52 (k0_t11 : Fin k0_t11_loop.trips) : Fin 2 → Nat :=
  let c8 : Index := 8#32
  let c0_i32_68 : BitVec 32 := 0#32
  let c1_i32_69 : BitVec 32 := 1#32
  let arg13 : BitVec 32 := Scf.iv c0_i32_68 c1_i32_69 k0_t11
  let c128_i32_77 : BitVec 32 := 128#32
  let v182 : BitVec 32 := Scalar.muli arg13 c128_i32_77
  let v183 : Index := Scalar.indexCast v182
  ![8, v183.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S4992 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x4992 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S832x3840 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S39x3840 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x3840 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S8x1x4992 : Shape := ⟨3, ![8, 1, 4992]⟩
abbrev S2496x26880 : Shape := ⟨2, ![2496, 26880]⟩
abbrev S39x26880 : Shape := ⟨2, ![39, 26880]⟩
abbrev S4992 : Shape := ⟨1, ![4992]⟩
abbrev S2496x2 : Shape := ⟨2, ![2496, 2]⟩
abbrev S_ : Shape := ⟨0, ![]⟩
abbrev S2496x2x1 : Shape := ⟨3, ![2496, 2, 1]⟩
abbrev S2496x2x26880 : Shape := ⟨3, ![2496, 2, 26880]⟩
abbrev S2496x1x26880 : Shape := ⟨3, ![2496, 1, 26880]⟩
abbrev S8x1x2496 : Shape := ⟨3, ![8, 1, 2496]⟩
abbrev S8x1x26880 : Shape := ⟨3, ![8, 1, 26880]⟩
abbrev S8x26880 : Shape := ⟨2, ![8, 26880]⟩

abbrev nBuf : Space → Nat
  | .hbm => 42
  | .vmem => 0
  | .smem => 0
  | _ => 0

abbrev bufTy : (tb : Table) → Fin (tcTables nBuf tb) → BufTy
  | .hbm, ⟨0, _⟩ => ⟨S8x1x4992, .bf16⟩
  | .hbm, ⟨1, _⟩ => ⟨S2496x26880, .i8⟩
  | .hbm, ⟨2, _⟩ => ⟨S39x26880, .bf16⟩
  | .hbm, ⟨3, _⟩ => ⟨S4992, .i32⟩
  | .hbm, ⟨4, _⟩ => ⟨S2496x26880, .i32⟩
  | .hbm, ⟨5, _⟩ => ⟨S2496x2, .i32⟩
  | .hbm, ⟨6, _⟩ => ⟨S_, .i32⟩
  | .hbm, ⟨7, _⟩ => ⟨S2496x2, .i32⟩
  | .hbm, ⟨8, _⟩ => ⟨S2496x2, .i1⟩
  | .hbm, ⟨9, _⟩ => ⟨S_, .i32⟩
  | .hbm, ⟨10, _⟩ => ⟨S2496x2, .i32⟩
  | .hbm, ⟨11, _⟩ => ⟨S2496x2, .i32⟩
  | .hbm, ⟨12, _⟩ => ⟨S2496x2, .i32⟩
  | .hbm, ⟨13, _⟩ => ⟨S2496x2x1, .i32⟩
  | .hbm, ⟨14, _⟩ => ⟨S2496x2x26880, .bf16⟩
  | .hbm, ⟨15, _⟩ => ⟨S_, .i32⟩
  | .hbm, ⟨16, _⟩ => ⟨S2496x26880, .i32⟩
  | .hbm, ⟨17, _⟩ => ⟨S2496x26880, .i32⟩
  | .hbm, ⟨18, _⟩ => ⟨S2496x26880, .bf16⟩
  | .hbm, ⟨19, _⟩ => ⟨S_, .bf16⟩
  | .hbm, ⟨20, _⟩ => ⟨S2496x26880, .bf16⟩
  | .hbm, ⟨21, _⟩ => ⟨S2496x26880, .bf16⟩
  | .hbm, ⟨22, _⟩ => ⟨S2496x1x26880, .bf16⟩
  | .hbm, ⟨23, _⟩ => ⟨S2496x26880, .bf16⟩
  | .hbm, ⟨24, _⟩ => ⟨S2496x26880, .bf16⟩
  | .hbm, ⟨25, _⟩ => ⟨S_, .i32⟩
  | .hbm, ⟨26, _⟩ => ⟨S2496x26880, .i32⟩
  | .hbm, ⟨27, _⟩ => ⟨S2496x26880, .i32⟩
  | .hbm, ⟨28, _⟩ => ⟨S2496x26880, .bf16⟩
  | .hbm, ⟨29, _⟩ => ⟨S_, .bf16⟩
  | .hbm, ⟨30, _⟩ => ⟨S2496x26880, .bf16⟩
  | .hbm, ⟨31, _⟩ => ⟨S2496x26880, .bf16⟩
  | .hbm, ⟨32, _⟩ => ⟨S2496x1x26880, .bf16⟩
  | .hbm, ⟨33, _⟩ => ⟨S2496x26880, .bf16⟩
  | .hbm, ⟨34, _⟩ => ⟨S2496x26880, .bf16⟩
  | .hbm, ⟨35, _⟩ => ⟨S8x1x2496, .bf16⟩
  | .hbm, ⟨36, _⟩ => ⟨S8x1x2496, .bf16⟩
  | .hbm, ⟨37, _⟩ => ⟨S8x1x26880, .f32⟩
  | .hbm, ⟨38, _⟩ => ⟨S8x1x26880, .f32⟩
  | .hbm, ⟨39, _⟩ => ⟨S8x1x26880, .f32⟩
  | .hbm, ⟨40, _⟩ => ⟨S8x1x26880, .bf16⟩
  | .hbm, ⟨41, _⟩ => ⟨S8x26880, .bf16⟩
  | _, _ => ⟨S8x1x4992, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Proof.LoopsBits.lean ====
/- The kernel's loops that the generated module leaves open, each by an invariant that says which buffers a trip
   reads and which it writes. What the kernel reads is held at fixed contents, what it writes at some contents. -/
module

public import proofs.«01_k».proof.Proof.Gen.Kernel.Frame
public import proofs.«01_k».proof.Proof.Gen.Kernel.Loops
public import Idealize.ShloMosaic.Lib.Tactic

@[expose] public section

set_option maxRecDepth 16384
set_option maxHeartbeats 4000000

noncomputable section

namespace Cert.Kernel.Frame0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- Every word of the group table names one of the 39 groups. -/
def InRange (arg2 : Memref sig .tc .smem S4992 .i32) (X2 : BufTy.Contents (Elt F) arg2.view.ty) : Prop :=
  ∀ r : LoadRect S4992, ∀ x, (show BitVec 32 from arg2.view.readAt (Elt F) r X2 x).toNat < 39

theorem chk1_of (w : BitVec 32) (h : w.toNat < 39) : k0_chk1 w := by
  have key : ∀ n : Fin 39, k0_chk1 (BitVec.ofNat 32 n.val) := by decide +kernel
  have e : w = BitVec.ofNat 32 w.toNat := by simp
  rw [e]; exact key ⟨w.toNat, h⟩

theorem chk2_of (w : BitVec 32) (h : w.toNat < 39) : k0_chk2 w := by
  have key : ∀ n : Fin 39, k0_chk2 (BitVec.ofNat 32 n.val) := by decide +kernel
  have e : w = BitVec.ofNat 32 w.toNat := by simp
  rw [e]; exact key ⟨w.toNat, h⟩

theorem chk3_of (w : BitVec 32) (h : w.toNat < 39) : k0_chk3 w := by
  have key : ∀ n : Fin 39, k0_chk3 (BitVec.ofNat 32 n.val) := by decide +kernel
  have e : w = BitVec.ofNat 32 w.toNat := by simp
  rw [e]; exact key ⟨w.toNat, h⟩

instance closedOff9_0 (k : Fin k0_t3_loop.trips) : ClosedOff (k0_off9 k 0#32) :=
  ⟨![(k.val / 16 * 2 + k.val % 2) * 144 + k.val % 16 / 2 + 0, 0], (by decide +kernel : ∀ k : Fin k0_t3_loop.trips, k0_off9 k 0#32 = ![(k.val / 16 * 2 + k.val % 2) * 144 + k.val % 16 / 2 + 0, 0]) k⟩

instance closedOff9_72 (k : Fin k0_t3_loop.trips) : ClosedOff (k0_off9 k 72#32) :=
  ⟨![(k.val / 16 * 2 + k.val % 2) * 144 + k.val % 16 / 2 + 72, 0], (by decide +kernel : ∀ k : Fin k0_t3_loop.trips, k0_off9 k 72#32 = ![(k.val / 16 * 2 + k.val % 2) * 144 + k.val % 16 / 2 + 72, 0]) k⟩

instance closedOff12_0 (k : Fin k0_t5_loop.trips) : ClosedOff (k0_off12 k 0#32) :=
  ⟨![(k.val / 16 * 2 + k.val % 2) * 144 + k.val % 16 / 2 + 0, 0], (by decide +kernel : ∀ k : Fin k0_t5_loop.trips, k0_off12 k 0#32 = ![(k.val / 16 * 2 + k.val % 2) * 144 + k.val % 16 / 2 + 0, 0]) k⟩

instance closedOff12_72 (k : Fin k0_t5_loop.trips) : ClosedOff (k0_off12 k 72#32) :=
  ⟨![(k.val / 16 * 2 + k.val % 2) * 144 + k.val % 16 / 2 + 72, 0], (by decide +kernel : ∀ k : Fin k0_t5_loop.trips, k0_off12 k 72#32 = ![(k.val / 16 * 2 + k.val % 2) * 144 + k.val % 16 / 2 + 72, 0]) k⟩

instance closedOff25_0 (k : Fin k0_t7_loop.trips) : ClosedOff (k0_off25 k 0#32) :=
  ⟨![(k.val / 16 * 2 + k.val % 2) * 144 + k.val % 16 / 2 + 0, 0], (by decide +kernel : ∀ k : Fin k0_t7_loop.trips, k0_off25 k 0#32 = ![(k.val / 16 * 2 + k.val % 2) * 144 + k.val % 16 / 2 + 0, 0]) k⟩

instance closedOff25_72 (k : Fin k0_t7_loop.trips) : ClosedOff (k0_off25 k 72#32) :=
  ⟨![(k.val / 16 * 2 + k.val % 2) * 144 + k.val % 16 / 2 + 72, 0], (by decide +kernel : ∀ k : Fin k0_t7_loop.trips, k0_off25 k 72#32 = ![(k.val / 16 * 2 + k.val % 2) * 144 + k.val % 16 / 2 + 72, 0]) k⟩

/-- The invariant of loop 3. -/
abbrev inv_t3 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x128 .i32) (harg8 : arg8.IsWhole) (arg9 : Memref sig .tc .vmem S2304x128 .i32) (harg9 : arg9.IsWhole) (arg10 : Memref sig .tc .vmem S2304x128 .i32) (harg10 : arg10.IsWhole) (arg11 : Memref sig .tc .vmem S16x1920 .f32) (harg11 : arg11.IsWhole) (arg12 : Memref sig .tc .vmem S7x16x256 .f32) (harg12 : arg12.IsWhole) (X2 : BufTy.Contents (Elt F) arg2.view.ty) (X8 : BufTy.Contents (Elt F) arg8.view.ty) (_k : ℕ) (_u : Unit) : sProp 𝕄G :=
  iprop(⌜InRange arg2 X2⌝ ∗ (arg2.view.loc (c : Thread nD τ) ↦[arg2.view.set]{fullShare} X2) ∗ (arg8.view.loc (c : Thread nD τ) ↦[arg8.view.set]{fullShare} X8) ∗ (∃ f, (arg9.view.loc (c : Thread nD τ) ↦[arg9.view.set]{fullShare} f)))

set_option warn.classDefReducibility false in
@[sl_loop] def loopInv_t3 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x128 .i32) (harg8 : arg8.IsWhole) (arg9 : Memref sig .tc .vmem S2304x128 .i32) (harg9 : arg9.IsWhole) (arg10 : Memref sig .tc .vmem S2304x128 .i32) (harg10 : arg10.IsWhole) (arg11 : Memref sig .tc .vmem S16x1920 .f32) (harg11 : arg11.IsWhole) (arg12 : Memref sig .tc .vmem S7x16x256 .f32) (harg12 : arg12.IsWhole)  (X2 : BufTy.Contents (Elt F) arg2.view.ty) (X8 : BufTy.Contents (Elt F) arg8.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12  where
  inv := inv_t3 (F := F) 𝒱 c bd i arg2 harg2 arg3 harg3 arg4 harg4 arg5 harg5 arg6 harg6 arg7 harg7 arg8 harg8 arg9 harg9 arg10 harg10 arg11 harg11 arg12 harg12 X2 X8
  step k acc := by
    have hk := k.isLt
    unfold k0_t3_body
    iintro ⟨%hX, H2, H8, ⟨%f9, H9⟩⟩
    sl_exec
    have hw := chk1_of (loopInv_t3.sl.r i arg2 X2 k) (hX _ _)
    sl_exec
    sl_step
    sl_close

/-- The invariant of loop 5. -/
abbrev inv_t5 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x128 .i32) (harg8 : arg8.IsWhole) (arg9 : Memref sig .tc .vmem S2304x128 .i32) (harg9 : arg9.IsWhole) (arg10 : Memref sig .tc .vmem S2304x128 .i32) (harg10 : arg10.IsWhole) (arg11 : Memref sig .tc .vmem S16x1920 .f32) (harg11 : arg11.IsWhole) (arg12 : Memref sig .tc .vmem S7x16x256 .f32) (harg12 : arg12.IsWhole) (X2 : BufTy.Contents (Elt F) arg2.view.ty) (X8 : BufTy.Contents (Elt F) arg8.view.ty) (_k : ℕ) (_u : Unit) : sProp 𝕄G :=
  iprop(⌜InRange arg2 X2⌝ ∗ (arg2.view.loc (c : Thread nD τ) ↦[arg2.view.set]{fullShare} X2) ∗ (arg8.view.loc (c : Thread nD τ) ↦[arg8.view.set]{fullShare} X8) ∗ (∃ f, (arg10.view.loc (c : Thread nD τ) ↦[arg10.view.set]{fullShare} f)))

set_option warn.classDefReducibility false in
@[sl_loop] def loopInv_t5 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x128 .i32) (harg8 : arg8.IsWhole) (arg9 : Memref sig .tc .vmem S2304x128 .i32) (harg9 : arg9.IsWhole) (arg10 : Memref sig .tc .vmem S2304x128 .i32) (harg10 : arg10.IsWhole) (arg11 : Memref sig .tc .vmem S16x1920 .f32) (harg11 : arg11.IsWhole) (arg12 : Memref sig .tc .vmem S7x16x256 .f32) (harg12 : arg12.IsWhole) (arg1 : BitVec 32) (v8 : BitVec 32) (c0_i32_9 : BitVec 32) (c1_i32_10 : BitVec 32) (k0_t4 : Fin k0_t4_loop.trips) (X2 : BufTy.Contents (Elt F) arg2.view.ty) (X8 : BufTy.Contents (Elt F) arg8.view.ty) :
    LoopInvTy_k0_t5 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg1 v8 c0_i32_9 c1_i32_10 k0_t4 where
  inv := inv_t5 (F := F) 𝒱 c bd i arg2 harg2 arg3 harg3 arg4 harg4 arg5 harg5 arg6 harg6 arg7 harg7 arg8 harg8 arg9 harg9 arg10 harg10 arg11 harg11 arg12 harg12 X2 X8
  step k acc := by
    have hk := k.isLt
    unfold k0_t5_body
    iintro ⟨%hX, H2, H8, ⟨%f10, H10⟩⟩
    sl_exec
    have hw := chk2_of (loopInv_t5.sl.r i arg2 k0_t4 X2 k) (hX _ _)
    sl_exec
    sl_step
    sl_close

/-- The invariant of loop 7. -/
abbrev inv_t7 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x128 .i32) (harg8 : arg8.IsWhole) (arg9 : Memref sig .tc .vmem S2304x128 .i32) (harg9 : arg9.IsWhole) (arg10 : Memref sig .tc .vmem S2304x128 .i32) (harg10 : arg10.IsWhole) (arg11 : Memref sig .tc .vmem S16x1920 .f32) (harg11 : arg11.IsWhole) (arg12 : Memref sig .tc .vmem S7x16x256 .f32) (harg12 : arg12.IsWhole) (X2 : BufTy.Contents (Elt F) arg2.view.ty) (X8 : BufTy.Contents (Elt F) arg8.view.ty) (_k : ℕ) (_u : Unit) : sProp 𝕄G :=
  iprop(⌜InRange arg2 X2⌝ ∗ (arg2.view.loc (c : Thread nD τ) ↦[arg2.view.set]{fullShare} X2) ∗ (arg8.view.loc (c : Thread nD τ) ↦[arg8.view.set]{fullShare} X8) ∗ (∃ f, (arg9.view.loc (c : Thread nD τ) ↦[arg9.view.set]{fullShare} f)))

set_option warn.classDefReducibility false in
@[sl_loop] def loopInv_t7 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x128 .i32) (harg8 : arg8.IsWhole) (arg9 : Memref sig .tc .vmem S2304x128 .i32) (harg9 : arg9.IsWhole) (arg10 : Memref sig .tc .vmem S2304x128 .i32) (harg10 : arg10.IsWhole) (arg11 : Memref sig .tc .vmem S16x1920 .f32) (harg11 : arg11.IsWhole) (arg12 : Memref sig .tc .vmem S7x16x256 .f32) (harg12 : arg12.IsWhole) (arg1 : BitVec 32) (v8 : BitVec 32) (k0_t4 : Fin k0_t4_loop.trips) (v172 : BitVec 32) (v326 : BitVec 32) (c128_i32_147 : BitVec 32) (X2 : BufTy.Contents (Elt F) arg2.view.ty) (X8 : BufTy.Contents (Elt F) arg8.view.ty) :
    LoopInvTy_k0_t7 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg1 v8 k0_t4 v172 v326 c128_i32_147 where
  inv := inv_t7 (F := F) 𝒱 c bd i arg2 harg2 arg3 harg3 arg4 harg4 arg5 harg5 arg6 harg6 arg7 harg7 arg8 harg8 arg9 harg9 arg10 harg10 arg11 harg11 arg12 harg12 X2 X8
  step k acc := by
    have hk := k.isLt
    unfold k0_t7_body
    iintro ⟨%hX, H2, H8, ⟨%f9, H9⟩⟩
    sl_exec
    have hw := chk3_of (loopInv_t7.sl.r i arg2 k0_t4 X2 k) (hX _ _)
    sl_exec
    sl_step
    sl_close

/-- The invariant of loop 2. -/
abbrev inv_t2 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x128 .i32) (harg8 : arg8.IsWhole) (arg9 : Memref sig .tc .vmem S2304x128 .i32) (harg9 : arg9.IsWhole) (arg10 : Memref sig .tc .vmem S2304x128 .i32) (harg10 : arg10.IsWhole) (arg11 : Memref sig .tc .vmem S16x1920 .f32) (harg11 : arg11.IsWhole) (arg12 : Memref sig .tc .vmem S7x16x256 .f32) (harg12 : arg12.IsWhole) (X5 : BufTy.Contents (Elt F) arg5.view.ty) (_k : ℕ) (_u : Unit) : sProp 𝕄G :=
  iprop((arg5.view.loc (c : Thread nD τ) ↦[arg5.view.set]{fullShare} X5) ∗ (∃ f, (arg8.view.loc (c : Thread nD τ) ↦[arg8.view.set]{fullShare} f)))

set_option warn.classDefReducibility false in
@[sl_loop] def loopInv_t2 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x128 .i32) (harg8 : arg8.IsWhole) (arg9 : Memref sig .tc .vmem S2304x128 .i32) (harg9 : arg9.IsWhole) (arg10 : Memref sig .tc .vmem S2304x128 .i32) (harg10 : arg10.IsWhole) (arg11 : Memref sig .tc .vmem S16x1920 .f32) (harg11 : arg11.IsWhole) (arg12 : Memref sig .tc .vmem S7x16x256 .f32) (harg12 : arg12.IsWhole) (k0_h2 : k0_cond2 i = 1#1) (X5 : BufTy.Contents (Elt F) arg5.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 k0_h2 where
  inv := inv_t2 (F := F) 𝒱 c bd i arg2 harg2 arg3 harg3 arg4 harg4 arg5 harg5 arg6 harg6 arg7 harg7 arg8 harg8 arg9 harg9 arg10 harg10 arg11 harg11 arg12 harg12 X5
  step k acc := by
    have hk := k.isLt
    unfold k0_t2_body
    iintro ⟨H5, ⟨%f8, H8⟩⟩
    sl_exec
    sl_step
    sl_close

/-- The invariant of loop 4. -/
abbrev inv_t4 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x128 .i32) (harg8 : arg8.IsWhole) (arg9 : Memref sig .tc .vmem S2304x128 .i32) (harg9 : arg9.IsWhole) (arg10 : Memref sig .tc .vmem S2304x128 .i32) (harg10 : arg10.IsWhole) (arg11 : Memref sig .tc .vmem S16x1920 .f32) (harg11 : arg11.IsWhole) (arg12 : Memref sig .tc .vmem S7x16x256 .f32) (harg12 : arg12.IsWhole) (X2 : BufTy.Contents (Elt F) arg2.view.ty) (X4 : BufTy.Contents (Elt F) arg4.view.ty) (X7 : BufTy.Contents (Elt F) arg7.view.ty) (X8 : BufTy.Contents (Elt F) arg8.view.ty) (_k : ℕ) (_u : FVec F S32x256 .f32) : sProp 𝕄G :=
  iprop(⌜InRange arg2 X2⌝ ∗ (arg2.view.loc (c : Thread nD τ) ↦[arg2.view.set]{fullShare} X2) ∗ (arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (∃ f, (arg9.view.loc (c : Thread nD τ) ↦[arg9.view.set]{fullShare} f)) ∗ (∃ f, (arg10.view.loc (c : Thread nD τ) ↦[arg10.view.set]{fullShare} f)) ∗ (∃ f, (arg12.view.loc (c : Thread nD τ) ↦[arg12.view.set]{fullShare} f)))

set_option warn.classDefReducibility false in
@[sl_loop] def loopInv_t4 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x128 .i32) (harg8 : arg8.IsWhole) (arg9 : Memref sig .tc .vmem S2304x128 .i32) (harg9 : arg9.IsWhole) (arg10 : Memref sig .tc .vmem S2304x128 .i32) (harg10 : arg10.IsWhole) (arg11 : Memref sig .tc .vmem S16x1920 .f32) (harg11 : arg11.IsWhole) (arg12 : Memref sig .tc .vmem S7x16x256 .f32) (harg12 : arg12.IsWhole) (arg1 : BitVec 32) (v8 : BitVec 32) (init : FVec F S32x256 .f32) (X2 : BufTy.Contents (Elt F) arg2.view.ty) (X4 : BufTy.Contents (Elt F) arg4.view.ty) (X7 : BufTy.Contents (Elt F) arg7.view.ty) (X8 : BufTy.Contents (Elt F) arg8.view.ty) :
    LoopInvTy_k0_t4 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg1 v8 init where
  inv := inv_t4 (F := F) 𝒱 c bd i arg2 harg2 arg3 harg3 arg4 harg4 arg5 harg5 arg6 harg6 arg7 harg7 arg8 harg8 arg9 harg9 arg10 harg10 arg11 harg11 arg12 harg12 X2 X4 X7 X8
  step k acc := by
    have hk := k.isLt
    unfold k0_t4_body
    iintro ⟨%hX, H2, H4, H7, H8, ⟨%f9, H9⟩, ⟨%f10, H10⟩, ⟨%f12, H12⟩⟩
    sl_exec_parts
    sl_step
    sl_close

end Cert.Kernel.Frame0

end
-- ==== Proof.RunBits.lean ====
/- The kernel's body at one grid point, run for its frame: from the staged input blocks and the buffers it writes at any contents
   it runs to its end and leaves the inputs as they were; then the launch, and what it says of the arguments. -/
module

public import proofs.«01_k».proof.Proof.LoopsBits
public import proofs.«01_k».proof.Proof.Gen.Kernel.Frame
public import proofs.«01_k».proof.Proof.Gen.Kernel.Skeleton
public import Idealize.ShloMosaic.Lib.Pipeline.Frame
public import Idealize.ShloMosaic.Lib.Tactic

@[expose] public section

set_option maxRecDepth 16384
set_option maxHeartbeats 4000000

noncomputable section

namespace Cert.Kernel.Frame0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)

variable {F : FTy → Type} [BitOps F] [∀ e, Nonempty (Elt F e)]

local notation "𝕄" => MT nD τ sig Unit (Elt F) ℕ (UR sig nD τ) ℕ

/-- The body's triple, for any continuation: the four inputs are handed back as they were, every other buffer at some contents. -/
theorem kernelRun (c : Dev nD) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x128 .i32) (harg8 : arg8.IsWhole) (arg9 : Memref sig .tc .vmem S2304x128 .i32) (harg9 : arg9.IsWhole) (arg10 : Memref sig .tc .vmem S2304x128 .i32) (harg10 : arg10.IsWhole) (arg11 : Memref sig .tc .vmem S16x1920 .f32) (harg11 : arg11.IsWhole) (arg12 : Memref sig .tc .vmem S7x16x256 .f32) (harg12 : arg12.IsWhole)
    (d2 : S4992.Idx → Elt F .i32) (d3 : S8x4992.Idx → Elt F .bf16) (d4 : S832x3840.Idx → Elt F .i8) (d5 : S39x3840.Idx → Elt F .bf16)
    (hd2 : ∀ j, (show BitVec 32 from d2 j).toNat < 39) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare d2 ∗ owns (c : Thread nD τ) arg3 fullShare d3 ∗ owns (c : Thread nD τ) arg4 fullShare d4 ∗ owns (c : Thread nD τ) arg5 fullShare d5
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) Set.univ (cc0_int4_linear i arg2 harg2 arg3 harg3 arg4 harg4 arg5 harg5 arg6 harg6 arg7 harg7 arg8 harg8 arg9 harg9 arg10 harg10 arg11 harg11 arg12 harg12) K := by
  simp only [cc0_int4_linear_eq_skeleton]; unfold cc0_int4_linear_skel
  unfold owns
  iintro ⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  have hX : InRange arg2 f2 := fun r x => by
    have h := hd2 (r.idx x); rw [← e2] at h; exact h
  by_cases k0_h1 : k0_cond1 i = 1#1 <;> by_cases k0_h2 : k0_cond2 i = 1#1 <;> by_cases k0_h3 : k0_cond3 i = 1#1
  all_goals (
    sl_exec_parts
    sl_step
    iapply Hk
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl)

end Cert.Kernel.Frame0

end
-- ==== Proof.Pre.lean ====
/- What the precondition says: every word of the group table names one of the 39 groups. -/
module

public import proofs.«01_k».proof.Proof.Gen.Pre_groups_in_range
public import proofs.«01_k».proof.Defs
public import Idealize.ShloMosaic.Lib.ReduceAll

@[expose] public section

namespace Cert

open Idealize.ShloMosaic

attribute [local instance] Cert.Pre_groups_in_range.Gen.facts

/-- The precondition's word decoded: every word of the table is below 39. -/
theorem pre_lt {F : FTy → Type} [FloatOps F] (a0 a1 a2) (a3 : Cert.Pre_groups_in_range.S4992.Idx → Elt F .i32)
    (h : Cert.Pre_groups_in_range.fn (F := F) a0 a1 a2 a3 = fun _ => 1#1) (j) : (show BitVec 32 from a3 j).toNat < 39 := by
  have h0 := congrFun h (fun a => a.elim0)
  unfold Cert.Pre_groups_in_range.fn at h0
  have h1 := Host.reduce_andi_all _ _ _ _ _ h0 j
  have h2 : (BitVec.ofBool (decide ((0#32 : BitVec 32).toInt ≤ (show BitVec 32 from a3 j).toInt)) &&& BitVec.ofBool (decide ((show BitVec 32 from a3 j).toInt < (39#32 : BitVec 32).toInt))) = 1#1 := h1
  generalize (show BitVec 32 from a3 j) = w at h2 ⊢
  have e0 : (0#32 : BitVec 32).toInt = 0 := by decide
  have e1 : (39#32 : BitVec 32).toInt = 39 := by decide
  rw [e0, e1] at h2
  have h3 : 0 ≤ w.toInt ∧ w.toInt < 39 := by
    by_cases p : 0 ≤ w.toInt <;> by_cases q : w.toInt < 39 <;> simp [p, q] at h2 ⊢
  rw [BitVec.toInt_eq_toNat_cond] at h3
  have := w.isLt
  split at h3 <;> omega

end Cert
-- ==== Proof.FrameBits.lean ====
/- The proof data of the kernel's pipeline, the body obligation from the body's run, and what the launch says of the argument
   arrays and of the semaphores. The output window is forgotten: nothing here reads what the kernel leaves in it. -/
module

public import proofs.«01_k».proof.Proof.RunBits
public import proofs.«01_k».proof.Proof.Gen.Kernel
public import proofs.«01_k».proof.Proof.Pre
public import proofs.«01_k».proof.Defs

@[expose] public section

set_option maxRecDepth 16384
set_option maxHeartbeats 4000000

noncomputable section

namespace Cert.Kernel.Frame0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The output window alone is forgotten. -/
def forgets0 : Fin 5 → Bool := fun w => w == 4

/-- The proof data on core `c`: the arrays as the region finds them, the input blocks left in place, the scratch at anything. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => Pipeline.Dat.unnamed (cfg := cfg0) 4 t
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare d))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ (∃ d, owns (c : Thread nD τ) (win0_4.stage (cfg0.slots t 4)) fullShare d))

/-- The invariant between the points, buffer by buffer. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA
  rw [scopedRest0_eq]; simp only [owns_whole]; try rfl

/-- The body at the point: the invariant opened, the body's run, the invariant closed. -/
theorem sound_body (c : Dev nD) (t : Fin cfg0.N) (hg : ∀ j, (show BitVec 32 from iblk m c 0 t j).toNat < 39) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  rw [show (dats m 0 c).after 0 t = iblk m c 0 t from rfl, show (dats m 0 c).after 1 t = iblk m c 1 t from rfl,
    show (dats m 0 c).after 2 t = iblk m c 2 t from rfl, show (dats m 0 c).after 3 t = iblk m c 3 t from rfl]
  iintro ⟨⟨⟨S0, S1, S2, S3, S4, S5⟩, Hg⟩, HO, ⟨%d0, H0⟩, ⟨%d1, H1⟩, ⟨%d2, H2⟩, ⟨%d3, H3⟩, H4⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) hg _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [HO]; · iexact HO
  isplitl [H0]; · iexact H0
  isplitl [H1]; · iexact H1
  isplitl [H2]; · iexact H2
  isplitl [H3]; · iexact H3
  iexact H4

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the output forgotten. -/
theorem body_obligation (c : Dev nD) (hg : ∀ t j, (show BitVec 32 from iblk m c 0 t j).toNat < 39) :
    BodyObligation (dats (F := F) m 0 c) (defs₀ (F := F)) Variants.none () Set.univ forgets0 := fun t => by
  rw [bigSep_W0, bigSep_W0, defs₀_row]
  exact triple_restated (sound_body m c t (hg t)) rfl .rfl fun _ => .rfl

set_option backward.isDefEq.respectTransparency.types false in
/-- Every weakly fair execution terminates, and in every final state the arrays the kernel only reads are as at launch and every
    semaphore reads zero. -/
theorem run_main (hg : ∀ c t j, (show BitVec 32 from iblk m c 0 t j).toNat < 39) :
    θ_run defs (onTc (τ := τ) (main (F := F))) (s₀ m ρ)
      (fun r => RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c (hg c)).loose) (hshare := fun c => (dats m 0 c).share_full fun _ => rfl)
    (howed := fun _ _ => rfl) (V := V m) (hmain := hmain m Variants.none) (hA := A_eq m)
    (hΦ := fun _ _ => rfl)

/-- The block of the group table is the table. -/
theorem iblk0_lt (c : Dev nD) (h : ∀ j, (show BitVec 32 from m ((c.tc : Thread nD τ).loc main_arg3) j).toNat < 39) (t : Fin cfg0.N) (j) :
    (show BitVec 32 from iblk m c 0 t j).toNat < 39 := by
  unfold iblk
  have e : V m c (Pipeline.arrRef spec0 0) = m ((c.tc : Thread nD τ).loc main_arg3) := V_main_arg3 m c
  rw [e]
  exact h _

/-- The frame: the kernel runs, its arguments end unchanged, every semaphore at zero. -/
theorem frame_run (hg : ∀ c : Dev nD, ∀ j, (show BitVec 32 from m ((c.tc : Thread nD τ).loc main_arg3) j).toNat < 39) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).2 main_arg0 (Pipeline.mem_restRefs_of main_arg0 (by decide) (by decide))).trans (V_main_arg0 m c),
      (RDat.FramePost.arr_in h.1 c 2 rfl).trans (V_main_arg1 m c),
      (RDat.FramePost.arr_in h.1 c 3 rfl).trans (V_main_arg2 m c),
      (RDat.FramePost.arr_in h.1 c 0 rfl).trans (V_main_arg3 m c)⟩, h.2⟩)
    (run_main m ρ fun c t j => iblk0_lt m c (hg c) t j)

end Cert.Kernel.Frame0

end
-- ==== Proof.LoopsIdeal.lean ====
/- The kernel's loops, each by an invariant that says which buffers a trip
   reads and which it writes. What the kernel reads is held at fixed contents, what it writes at some contents. -/
module

public import proofs.«01_k».proof.Proof.Gen.KernelIdeal.Frame
public import proofs.«01_k».proof.Proof.Gen.KernelIdeal.Loops
public import Idealize.ShloMosaic.Lib.Tactic

@[expose] public section

set_option maxRecDepth 16384
set_option maxHeartbeats 4000000

noncomputable section

namespace Cert.KernelIdeal.Frame0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- Every word of the group table names one of the 39 groups. -/
def InRange (arg2 : Memref sig .tc .smem S4992 .i32) (X2 : BufTy.Contents (Elt F) arg2.view.ty) : Prop :=
  ∀ r : LoadRect S4992, ∀ x, (show BitVec 32 from arg2.view.readAt (Elt F) r X2 x).toNat < 39

theorem chk1_of (w : BitVec 32) (h : w.toNat < 39) : k0_chk1 w := by
  have key : ∀ n : Fin 39, k0_chk1 (BitVec.ofNat 32 n.val) := by decide +kernel
  have e : w = BitVec.ofNat 32 w.toNat := by simp
  rw [e]; exact key ⟨w.toNat, h⟩

theorem chk2_of (w : BitVec 32) (h : w.toNat < 39) : k0_chk2 w := by
  have key : ∀ n : Fin 39, k0_chk2 (BitVec.ofNat 32 n.val) := by decide +kernel
  have e : w = BitVec.ofNat 32 w.toNat := by simp
  rw [e]; exact key ⟨w.toNat, h⟩

theorem chk3_of (w : BitVec 32) (h : w.toNat < 39) : k0_chk3 w := by
  have key : ∀ n : Fin 39, k0_chk3 (BitVec.ofNat 32 n.val) := by decide +kernel
  have e : w = BitVec.ofNat 32 w.toNat := by simp
  rw [e]; exact key ⟨w.toNat, h⟩

instance closedOff9_0 (k : Fin k0_t3_loop.trips) : ClosedOff (k0_off9 k 0#32) :=
  ⟨![(k.val / 16 * 2 + k.val % 2) * 144 + k.val % 16 / 2 + 0, 0, 0], (by decide +kernel : ∀ k : Fin k0_t3_loop.trips, k0_off9 k 0#32 = ![(k.val / 16 * 2 + k.val % 2) * 144 + k.val % 16 / 2 + 0, 0, 0]) k⟩

instance closedOff9_72 (k : Fin k0_t3_loop.trips) : ClosedOff (k0_off9 k 72#32) :=
  ⟨![(k.val / 16 * 2 + k.val % 2) * 144 + k.val % 16 / 2 + 72, 0, 0], (by decide +kernel : ∀ k : Fin k0_t3_loop.trips, k0_off9 k 72#32 = ![(k.val / 16 * 2 + k.val % 2) * 144 + k.val % 16 / 2 + 72, 0, 0]) k⟩

instance closedOff12_0 (k : Fin k0_t5_loop.trips) : ClosedOff (k0_off12 k 0#32) :=
  ⟨![(k.val / 16 * 2 + k.val % 2) * 144 + k.val % 16 / 2 + 0, 0, 0], (by decide +kernel : ∀ k : Fin k0_t5_loop.trips, k0_off12 k 0#32 = ![(k.val / 16 * 2 + k.val % 2) * 144 + k.val % 16 / 2 + 0, 0, 0]) k⟩

instance closedOff12_72 (k : Fin k0_t5_loop.trips) : ClosedOff (k0_off12 k 72#32) :=
  ⟨![(k.val / 16 * 2 + k.val % 2) * 144 + k.val % 16 / 2 + 72, 0, 0], (by decide +kernel : ∀ k : Fin k0_t5_loop.trips, k0_off12 k 72#32 = ![(k.val / 16 * 2 + k.val % 2) * 144 + k.val % 16 / 2 + 72, 0, 0]) k⟩

instance closedOff25_0 (k : Fin k0_t7_loop.trips) : ClosedOff (k0_off25 k 0#32) :=
  ⟨![(k.val / 16 * 2 + k.val % 2) * 144 + k.val % 16 / 2 + 0, 0, 0], (by decide +kernel : ∀ k : Fin k0_t7_loop.trips, k0_off25 k 0#32 = ![(k.val / 16 * 2 + k.val % 2) * 144 + k.val % 16 / 2 + 0, 0, 0]) k⟩

instance closedOff25_72 (k : Fin k0_t7_loop.trips) : ClosedOff (k0_off25 k 72#32) :=
  ⟨![(k.val / 16 * 2 + k.val % 2) * 144 + k.val % 16 / 2 + 72, 0, 0], (by decide +kernel : ∀ k : Fin k0_t7_loop.trips, k0_off25 k 72#32 = ![(k.val / 16 * 2 + k.val % 2) * 144 + k.val % 16 / 2 + 72, 0, 0]) k⟩

/-- The invariant of loop 3. -/
abbrev inv_t3 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (X2 : BufTy.Contents (Elt F) arg2.view.ty) (X8 : BufTy.Contents (Elt F) arg8.view.ty) (_k : ℕ) (_u : Unit) : sProp 𝕄G :=
  iprop(⌜InRange arg2 X2⌝ ∗ (arg2.view.loc (c : Thread nD τ) ↦[arg2.view.set]{fullShare} X2) ∗ (arg8.view.loc (c : Thread nD τ) ↦[arg8.view.set]{fullShare} X8) ∗ (∃ f, (arg9.view.loc (c : Thread nD τ) ↦[arg9.view.set]{fullShare} f)))

set_option warn.classDefReducibility false in
@[sl_loop] def loopInv_t3 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (v8 : BitVec 32) (X2 : BufTy.Contents (Elt F) arg2.view.ty) (X8 : BufTy.Contents (Elt F) arg8.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 v8 where
  inv := inv_t3 (F := F) 𝒱 c bd i arg2 harg2 arg3 harg3 arg4 harg4 arg5 harg5 arg6 harg6 arg7 harg7 arg8 harg8 arg9 harg9 arg10 harg10 arg11 harg11 arg12 harg12 X2 X8
  step k acc := by
    have hk := k.isLt
    unfold k0_t3_body
    iintro ⟨%hX, H2, H8, ⟨%f9, H9⟩⟩
    sl_exec
    have hw := chk1_of (loopInv_t3.sl.r i arg2 X2 k) (hX _ _)
    sl_exec
    sl_step
    sl_close

/-- The invariant of loop 5. -/
abbrev inv_t5 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (X2 : BufTy.Contents (Elt F) arg2.view.ty) (X8 : BufTy.Contents (Elt F) arg8.view.ty) (_k : ℕ) (_u : Unit) : sProp 𝕄G :=
  iprop(⌜InRange arg2 X2⌝ ∗ (arg2.view.loc (c : Thread nD τ) ↦[arg2.view.set]{fullShare} X2) ∗ (arg8.view.loc (c : Thread nD τ) ↦[arg8.view.set]{fullShare} X8) ∗ (∃ f, (arg10.view.loc (c : Thread nD τ) ↦[arg10.view.set]{fullShare} f)))

set_option warn.classDefReducibility false in
@[sl_loop] def loopInv_t5 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (arg1 : BitVec 32) (v8 : BitVec 32) (c0_i32_9 : BitVec 32) (c1_i32_10 : BitVec 32) (k0_t4 : Fin k0_t4_loop.trips) (v175 : BitVec 32) (X2 : BufTy.Contents (Elt F) arg2.view.ty) (X8 : BufTy.Contents (Elt F) arg8.view.ty) :
    LoopInvTy_k0_t5 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg1 v8 c0_i32_9 c1_i32_10 k0_t4 v175 where
  inv := inv_t5 (F := F) 𝒱 c bd i arg2 harg2 arg3 harg3 arg4 harg4 arg5 harg5 arg6 harg6 arg7 harg7 arg8 harg8 arg9 harg9 arg10 harg10 arg11 harg11 arg12 harg12 X2 X8
  step k acc := by
    have hk := k.isLt
    unfold k0_t5_body
    iintro ⟨%hX, H2, H8, ⟨%f10, H10⟩⟩
    sl_exec
    have hw := chk2_of (loopInv_t5.sl.r i arg2 k0_t4 X2 k) (hX _ _)
    sl_exec
    sl_step
    sl_close

/-- The invariant of loop 7. -/
abbrev inv_t7 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (X2 : BufTy.Contents (Elt F) arg2.view.ty) (X8 : BufTy.Contents (Elt F) arg8.view.ty) (_k : ℕ) (_u : Unit) : sProp 𝕄G :=
  iprop(⌜InRange arg2 X2⌝ ∗ (arg2.view.loc (c : Thread nD τ) ↦[arg2.view.set]{fullShare} X2) ∗ (arg8.view.loc (c : Thread nD τ) ↦[arg8.view.set]{fullShare} X8) ∗ (∃ f, (arg9.view.loc (c : Thread nD τ) ↦[arg9.view.set]{fullShare} f)))

set_option warn.classDefReducibility false in
@[sl_loop] def loopInv_t7 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (arg1 : BitVec 32) (v8 : BitVec 32) (k0_t4 : Fin k0_t4_loop.trips) (v172 : BitVec 32) (v228 : FVec F S64x128 .bf16) (v253 : FVec F S64x128 .bf16) (v299 : FVec F S64x128 .bf16) (v311 : IVec S64x128 32) (v312 : IVec S64x128 32) (v328 : BitVec 32) (X2 : BufTy.Contents (Elt F) arg2.view.ty) (X8 : BufTy.Contents (Elt F) arg8.view.ty) :
    LoopInvTy_k0_t7 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg1 v8 k0_t4 v172 v228 v253 v299 v311 v312 v328 where
  inv := inv_t7 (F := F) 𝒱 c bd i arg2 harg2 arg3 harg3 arg4 harg4 arg5 harg5 arg6 harg6 arg7 harg7 arg8 harg8 arg9 harg9 arg10 harg10 arg11 harg11 arg12 harg12 X2 X8
  step k acc := by
    have hk := k.isLt
    unfold k0_t7_body
    iintro ⟨%hX, H2, H8, ⟨%f9, H9⟩⟩
    sl_exec
    have hw := chk3_of (loopInv_t7.sl.r i arg2 k0_t4 X2 k) (hX _ _)
    sl_exec
    sl_step
    sl_close

/-- The invariant of loop 2. -/
abbrev inv_t2 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (X5 : BufTy.Contents (Elt F) arg5.view.ty) (_k : ℕ) (_u : Unit) : sProp 𝕄G :=
  iprop((arg5.view.loc (c : Thread nD τ) ↦[arg5.view.set]{fullShare} X5) ∗ (∃ f, (arg8.view.loc (c : Thread nD τ) ↦[arg8.view.set]{fullShare} f)))

set_option warn.classDefReducibility false in
@[sl_loop] def loopInv_t2 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (k0_h2 : k0_cond2 i = 1#1) (X5 : BufTy.Contents (Elt F) arg5.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 k0_h2 where
  inv := inv_t2 (F := F) 𝒱 c bd i arg2 harg2 arg3 harg3 arg4 harg4 arg5 harg5 arg6 harg6 arg7 harg7 arg8 harg8 arg9 harg9 arg10 harg10 arg11 harg11 arg12 harg12 X5
  step k acc := by
    have hk := k.isLt
    unfold k0_t2_body
    iintro ⟨H5, ⟨%f8, H8⟩⟩
    sl_exec
    sl_step
    sl_close

/-- The invariant of loop 1. -/
abbrev inv_t1 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (X3 : BufTy.Contents (Elt F) arg3.view.ty) (_k : ℕ) (_u : Unit) : sProp 𝕄G :=
  iprop((arg3.view.loc (c : Thread nD τ) ↦[arg3.view.set]{fullShare} X3) ∗ (∃ f, (arg7.view.loc (c : Thread nD τ) ↦[arg7.view.set]{fullShare} f)))

set_option warn.classDefReducibility false in
@[sl_loop] def loopInv_t1 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (k0_h1 : k0_cond1 i = 1#1) (X3 : BufTy.Contents (Elt F) arg3.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 k0_h1 where
  inv := inv_t1 (F := F) 𝒱 c bd i arg2 harg2 arg3 harg3 arg4 harg4 arg5 harg5 arg6 harg6 arg7 harg7 arg8 harg8 arg9 harg9 arg10 harg10 arg11 harg11 arg12 harg12 X3
  step k acc := by
    have hk := k.isLt
    unfold k0_t1_body
    iintro ⟨H3, ⟨%f7, H7⟩⟩
    sl_exec
    sl_step
    sl_close

/-- The invariant of loop 6. -/
abbrev inv_t6 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (X4 : BufTy.Contents (Elt F) arg4.view.ty) (X9 : BufTy.Contents (Elt F) arg9.view.ty) (_k : ℕ) (_u : Unit) : sProp 𝕄G :=
  iprop((arg4.view.loc (c : Thread nD τ) ↦[arg4.view.set]{fullShare} X4) ∗ (arg9.view.loc (c : Thread nD τ) ↦[arg9.view.set]{fullShare} X9) ∗ (∃ f, (arg12.view.loc (c : Thread nD τ) ↦[arg12.view.set]{fullShare} f)))

set_option warn.classDefReducibility false in
@[sl_loop] def loopInv_t6 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (arg1 : BitVec 32) (v8 : BitVec 32) (c0_i32_9 : BitVec 32) (c1_i32_10 : BitVec 32) (k0_t4 : Fin k0_t4_loop.trips) (v172 : BitVec 32) (v180 : Vec F S1x16x256 .bf16) (X4 : BufTy.Contents (Elt F) arg4.view.ty) (X9 : BufTy.Contents (Elt F) arg9.view.ty) :
    LoopInvTy_k0_t6 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg1 v8 c0_i32_9 c1_i32_10 k0_t4 v172 v180 where
  inv := inv_t6 (F := F) 𝒱 c bd i arg2 harg2 arg3 harg3 arg4 harg4 arg5 harg5 arg6 harg6 arg7 harg7 arg8 harg8 arg9 harg9 arg10 harg10 arg11 harg11 arg12 harg12 X4 X9
  step k acc := by
    have hk := k.isLt
    unfold k0_t6_body
    iintro ⟨H4, H9, ⟨%f12, H12⟩⟩
    sl_exec
    sl_step
    sl_close

/-- The invariant of loop 8. -/
abbrev inv_t8 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (X4 : BufTy.Contents (Elt F) arg4.view.ty) (X10 : BufTy.Contents (Elt F) arg10.view.ty) (_k : ℕ) (_u : Unit) : sProp 𝕄G :=
  iprop((arg4.view.loc (c : Thread nD τ) ↦[arg4.view.set]{fullShare} X4) ∗ (arg10.view.loc (c : Thread nD τ) ↦[arg10.view.set]{fullShare} X10) ∗ (∃ f, (arg12.view.loc (c : Thread nD τ) ↦[arg12.view.set]{fullShare} f)))

set_option warn.classDefReducibility false in
@[sl_loop] def loopInv_t8 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (arg1 : BitVec 32) (v8 : BitVec 32) (k0_t4 : Fin k0_t4_loop.trips) (v172 : BitVec 32) (v228 : FVec F S64x128 .bf16) (v253 : FVec F S64x128 .bf16) (v299 : FVec F S64x128 .bf16) (v311 : IVec S64x128 32) (v312 : IVec S64x128 32) (v334 : Vec F S1x16x256 .bf16) (v336 : BitVec 32) (X4 : BufTy.Contents (Elt F) arg4.view.ty) (X10 : BufTy.Contents (Elt F) arg10.view.ty) :
    LoopInvTy_k0_t8 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg1 v8 k0_t4 v172 v228 v253 v299 v311 v312 v334 v336 where
  inv := inv_t8 (F := F) 𝒱 c bd i arg2 harg2 arg3 harg3 arg4 harg4 arg5 harg5 arg6 harg6 arg7 harg7 arg8 harg8 arg9 harg9 arg10 harg10 arg11 harg11 arg12 harg12 X4 X10
  step k acc := by
    have hk := k.isLt
    unfold k0_t8_body
    iintro ⟨H4, H10, ⟨%f12, H12⟩⟩
    sl_exec
    sl_step
    sl_close

/-- The invariant of loop 9. -/
abbrev inv_t9 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (X4 : BufTy.Contents (Elt F) arg4.view.ty) (X9 : BufTy.Contents (Elt F) arg9.view.ty) (_k : ℕ) (_u : Unit) : sProp 𝕄G :=
  iprop((arg4.view.loc (c : Thread nD τ) ↦[arg4.view.set]{fullShare} X4) ∗ (arg9.view.loc (c : Thread nD τ) ↦[arg9.view.set]{fullShare} X9) ∗ (∃ f, (arg12.view.loc (c : Thread nD τ) ↦[arg12.view.set]{fullShare} f)))

set_option warn.classDefReducibility false in
@[sl_loop] def loopInv_t9 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (v20 : Vec F S1x16x256 .bf16) (X4 : BufTy.Contents (Elt F) arg4.view.ty) (X9 : BufTy.Contents (Elt F) arg9.view.ty) :
    LoopInvTy_k0_t9 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 v20 where
  inv := inv_t9 (F := F) 𝒱 c bd i arg2 harg2 arg3 harg3 arg4 harg4 arg5 harg5 arg6 harg6 arg7 harg7 arg8 harg8 arg9 harg9 arg10 harg10 arg11 harg11 arg12 harg12 X4 X9
  step k acc := by
    have hk := k.isLt
    unfold k0_t9_body
    iintro ⟨H4, H9, ⟨%f12, H12⟩⟩
    sl_exec
    sl_step
    sl_close

/-- The invariant of loop 10. -/
abbrev inv_t10 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (X12 : BufTy.Contents (Elt F) arg12.view.ty) (_k : ℕ) (_u : Unit) : sProp 𝕄G :=
  iprop((arg12.view.loc (c : Thread nD τ) ↦[arg12.view.set]{fullShare} X12) ∗ (∃ f, (arg11.view.loc (c : Thread nD τ) ↦[arg11.view.set]{fullShare} f)))

set_option warn.classDefReducibility false in
@[sl_loop] def loopInv_t10 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (v21 : FVec F S16x256 .bf16) (v64 : FVec F S64x128 .bf16) (v89 : FVec F S64x128 .bf16) (v106 : IVec S8x128 32) (v121 : FVec F S64x128 .bf16) (v123 : FVec F S16x128 .bf16) (v125 : FVec F S16x128 .bf16) (v127 : FVec F S16x128 .bf16) (v128_raw : Vec F S8x2x128 .bf16) (v128_lo : FVec F S8x128 .bf16) (X12 : BufTy.Contents (Elt F) arg12.view.ty) :
    LoopInvTy_k0_t10 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 v21 v64 v89 v106 v121 v123 v125 v127 v128_raw v128_lo where
  inv := inv_t10 (F := F) 𝒱 c bd i arg2 harg2 arg3 harg3 arg4 harg4 arg5 harg5 arg6 harg6 arg7 harg7 arg8 harg8 arg9 harg9 arg10 harg10 arg11 harg11 arg12 harg12 X12
  step k acc := by
    have hk := k.isLt
    unfold k0_t10_body
    iintro ⟨H12, ⟨%f11, H11⟩⟩
    sl_exec
    sl_step
    sl_close

/-- The invariant of loop 11. -/
abbrev inv_t11 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (X11 : BufTy.Contents (Elt F) arg11.view.ty) (_k : ℕ) (_u : Unit) : sProp 𝕄G :=
  iprop((arg11.view.loc (c : Thread nD τ) ↦[arg11.view.set]{fullShare} X11) ∗ (∃ f, (arg6.view.loc (c : Thread nD τ) ↦[arg6.view.set]{fullShare} f)))

set_option warn.classDefReducibility false in
@[sl_loop] def loopInv_t11 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (k0_h3 : k0_cond3 i = 1#1) (X11 : BufTy.Contents (Elt F) arg11.view.ty) :
    LoopInvTy_k0_t11 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 k0_h3 where
  inv := inv_t11 (F := F) 𝒱 c bd i arg2 harg2 arg3 harg3 arg4 harg4 arg5 harg5 arg6 harg6 arg7 harg7 arg8 harg8 arg9 harg9 arg10 harg10 arg11 harg11 arg12 harg12 X11
  step k acc := by
    have hk := k.isLt
    unfold k0_t11_body
    iintro ⟨H11, ⟨%f6, H6⟩⟩
    sl_exec
    sl_step
    sl_close

/-- The invariant of loop 4. -/
abbrev inv_t4 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (X2 : BufTy.Contents (Elt F) arg2.view.ty) (X4 : BufTy.Contents (Elt F) arg4.view.ty) (X7 : BufTy.Contents (Elt F) arg7.view.ty) (X8 : BufTy.Contents (Elt F) arg8.view.ty) (_k : ℕ) (_u : FVec F S32x256 .f32) : sProp 𝕄G :=
  iprop(⌜InRange arg2 X2⌝ ∗ (arg2.view.loc (c : Thread nD τ) ↦[arg2.view.set]{fullShare} X2) ∗ (arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (∃ f, (arg9.view.loc (c : Thread nD τ) ↦[arg9.view.set]{fullShare} f)) ∗ (∃ f, (arg10.view.loc (c : Thread nD τ) ↦[arg10.view.set]{fullShare} f)) ∗ (∃ f, (arg12.view.loc (c : Thread nD τ) ↦[arg12.view.set]{fullShare} f)))

set_option warn.classDefReducibility false in
@[sl_loop] def loopInv_t4 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (arg1 : BitVec 32) (v8 : BitVec 32) (init : FVec F S32x256 .f32) (X2 : BufTy.Contents (Elt F) arg2.view.ty) (X4 : BufTy.Contents (Elt F) arg4.view.ty) (X7 : BufTy.Contents (Elt F) arg7.view.ty) (X8 : BufTy.Contents (Elt F) arg8.view.ty) :
    LoopInvTy_k0_t4 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg1 v8 init where
  inv := inv_t4 (F := F) 𝒱 c bd i arg2 harg2 arg3 harg3 arg4 harg4 arg5 harg5 arg6 harg6 arg7 harg7 arg8 harg8 arg9 harg9 arg10 harg10 arg11 harg11 arg12 harg12 X2 X4 X7 X8
  step k acc := by
    have hk := k.isLt
    unfold k0_t4_body
    iintro ⟨%hX, H2, H4, H7, H8, ⟨%f9, H9⟩, ⟨%f10, H10⟩, ⟨%f12, H12⟩⟩
    sl_exec_parts
    sl_step
    sl_close

end Cert.KernelIdeal.Frame0

end
-- ==== Proof.RunIdeal.lean ====
/- The kernel's body at one grid point, run for its frame: from the staged input blocks and the buffers it writes at any contents
   it runs to its end and leaves the inputs as they were; then the launch, and what it says of the arguments. -/
module

public import proofs.«01_k».proof.Proof.LoopsIdeal
public import proofs.«01_k».proof.Proof.Gen.KernelIdeal.Frame
public import proofs.«01_k».proof.Proof.Gen.KernelIdeal.Skeleton
public import Idealize.ShloMosaic.Lib.Pipeline.Frame
public import Idealize.ShloMosaic.Lib.Tactic

@[expose] public section

set_option maxRecDepth 16384
set_option maxHeartbeats 4000000

noncomputable section

namespace Cert.KernelIdeal.Frame0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)

variable {F : FTy → Type} [FloatOps F] [∀ e, Nonempty (Elt F e)]

local notation "𝕄" => MT nD τ sig Unit (Elt F) ℕ (UR sig nD τ) ℕ

/-- The body's triple, for any continuation: the four inputs are handed back as they were, every other buffer at some contents. -/
theorem kernelRun (c : Dev nD) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole)
    (d2 : S4992.Idx → Elt F .i32) (d3 : S8x4992.Idx → Elt F .bf16) (d4 : S832x3840.Idx → Elt F .i8) (d5 : S39x3840.Idx → Elt F .bf16)
    (hd2 : ∀ j, (show BitVec 32 from d2 j).toNat < 39) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare d2 ∗ owns (c : Thread nD τ) arg3 fullShare d3 ∗ owns (c : Thread nD τ) arg4 fullShare d4 ∗ owns (c : Thread nD τ) arg5 fullShare d5
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) Set.univ (cc0_int4_linear i arg2 harg2 arg3 harg3 arg4 harg4 arg5 harg5 arg6 harg6 arg7 harg7 arg8 harg8 arg9 harg9 arg10 harg10 arg11 harg11 arg12 harg12) K := by
  simp only [cc0_int4_linear_eq_skeleton]; unfold cc0_int4_linear_skel
  unfold owns
  iintro ⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  have hX : InRange arg2 f2 := fun r x => by
    have h := hd2 (r.idx x); rw [← e2] at h; exact h
  by_cases k0_h1 : k0_cond1 i = 1#1 <;> by_cases k0_h2 : k0_cond2 i = 1#1 <;> by_cases k0_h3 : k0_cond3 i = 1#1
  all_goals (
    sl_exec_parts
    sl_step
    iapply Hk
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl)

end Cert.KernelIdeal.Frame0

end
-- ==== Proof.FrameIdeal.lean ====
/- The proof data of the kernel's pipeline, the body obligation from the body's run, and what the launch says of the argument
   arrays and of the semaphores. The output window is forgotten: nothing here reads what the kernel leaves in it. -/
module

public import proofs.«01_k».proof.Proof.RunIdeal
public import proofs.«01_k».proof.Proof.Gen.KernelIdeal
public import proofs.«01_k».proof.Proof.Pre
public import proofs.«01_k».proof.Defs

@[expose] public section

set_option maxRecDepth 16384
set_option maxHeartbeats 4000000

noncomputable section

namespace Cert.KernelIdeal.Frame0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The output window alone is forgotten. -/
def forgets0 : Fin 5 → Bool := fun w => w == 4

/-- The proof data on core `c`: the arrays as the region finds them, the input blocks left in place, the scratch at anything. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => Pipeline.Dat.unnamed (cfg := cfg0) 4 t
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare d))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ (∃ d, owns (c : Thread nD τ) (win0_4.stage (cfg0.slots t 4)) fullShare d))

/-- The invariant between the points, buffer by buffer. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA
  rw [scopedRest0_eq]; simp only [owns_whole]; try rfl

/-- The body at the point: the invariant opened, the body's run, the invariant closed. -/
theorem sound_body (c : Dev nD) (t : Fin cfg0.N) (hg : ∀ j, (show BitVec 32 from iblk m c 0 t j).toNat < 39) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  rw [show (dats m 0 c).after 0 t = iblk m c 0 t from rfl, show (dats m 0 c).after 1 t = iblk m c 1 t from rfl,
    show (dats m 0 c).after 2 t = iblk m c 2 t from rfl, show (dats m 0 c).after 3 t = iblk m c 3 t from rfl]
  iintro ⟨⟨⟨S0, S1, S2, S3, S4, S5⟩, Hg⟩, HO, ⟨%d0, H0⟩, ⟨%d1, H1⟩, ⟨%d2, H2⟩, ⟨%d3, H3⟩, H4⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) hg _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [HO]; · iexact HO
  isplitl [H0]; · iexact H0
  isplitl [H1]; · iexact H1
  isplitl [H2]; · iexact H2
  isplitl [H3]; · iexact H3
  iexact H4

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the output forgotten. -/
theorem body_obligation (c : Dev nD) (hg : ∀ t j, (show BitVec 32 from iblk m c 0 t j).toNat < 39) :
    BodyObligation (dats (F := F) m 0 c) (defs₀ (F := F)) Variants.none () Set.univ forgets0 := fun t => by
  rw [bigSep_W0, bigSep_W0, defs₀_row]
  exact triple_restated (sound_body m c t (hg t)) rfl .rfl fun _ => .rfl

set_option backward.isDefEq.respectTransparency.types false in
/-- Every weakly fair execution terminates, and in every final state the arrays the kernel only reads are as at launch and every
    semaphore reads zero. -/
theorem run_main (hg : ∀ c t j, (show BitVec 32 from iblk m c 0 t j).toNat < 39) :
    θ_run defs (onTc (τ := τ) (main (F := F))) (s₀ m ρ)
      (fun r => RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c (hg c)).loose) (hshare := fun c => (dats m 0 c).share_full fun _ => rfl)
    (howed := fun _ _ => rfl) (V := V m) (hmain := hmain m Variants.none) (hA := A_eq m)
    (hΦ := fun _ _ => rfl)

/-- The block of the group table is the table. -/
theorem iblk0_lt (c : Dev nD) (h : ∀ j, (show BitVec 32 from m ((c.tc : Thread nD τ).loc main_arg3) j).toNat < 39) (t : Fin cfg0.N) (j) :
    (show BitVec 32 from iblk m c 0 t j).toNat < 39 := by
  unfold iblk
  have e : V m c (Pipeline.arrRef spec0 0) = m ((c.tc : Thread nD τ).loc main_arg3) := V_main_arg3 m c
  rw [e]
  exact h _

/-- The frame: the kernel runs, its arguments end unchanged, every semaphore at zero. -/
theorem frame_run (hg : ∀ c : Dev nD, ∀ j, (show BitVec 32 from m ((c.tc : Thread nD τ).loc main_arg3) j).toNat < 39) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).2 main_arg0 (Pipeline.mem_restRefs_of main_arg0 (by decide) (by decide))).trans (V_main_arg0 m c),
      (RDat.FramePost.arr_in h.1 c 2 rfl).trans (V_main_arg1 m c),
      (RDat.FramePost.arr_in h.1 c 3 rfl).trans (V_main_arg2 m c),
      (RDat.FramePost.arr_in h.1 c 0 rfl).trans (V_main_arg3 m c)⟩, h.2⟩)
    (run_main m ρ fun c t j => iblk0_lt m c (hg c) t j)

end Cert.KernelIdeal.Frame0

end
-- ==== Proof.Claims.lean ====
/- The frames of the kernel, of its idealization and of the reference, and what the idealization preserves. -/
module

public import proofs.«01_k».proof.Proof.FrameBits
public import proofs.«01_k».proof.Proof.FrameIdeal
public import proofs.«01_k».proof.Proof.Gen.ReferenceIdeal
public import proofs.«01_k».proof.Proof.Gen.ReferenceIdeal.Run
public import proofs.«01_k».proof.Proof.Pre
public import Idealize.ShloMosaic.Lib.Bf16PairInverse
public import Idealize.ShloMosaic.Lib.Quiescent

@[expose] public section

noncomputable section

open Idealize.ShloMosaic Idealize.SL.Sem

namespace Cert.Proof

attribute [local instance] Cert.Kernel.Gen.facts Cert.KernelIdeal.Gen.facts Cert.ReferenceIdeal.Gen.facts Cert.Pre_groups_in_range.Gen.facts

theorem frame_p : Cert.quiescent_Kernel := fun m ρ hp =>
  Cert.Kernel.Frame0.frame_run m ρ fun c => Cert.pre_lt _ _ _ _ (hp c)

theorem frame_pi : Cert.quiescent_KernelIdeal := fun m ρ hp =>
  Cert.KernelIdeal.Frame0.frame_run m ρ fun c => Cert.pre_lt _ _ _ _ (hp c)

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Each kind of rewritten site by its rule's statement: the three scratches of packed words, the zero fill, the packing of the
    scales, the packed words stored and loaded, the words read back as rows. -/
theorem preserves : Cert.preserves_Kernel_KernelIdeal :=
  open Cert.KernelIdeal IdealRules.bf16_pair in
  ⟨bufferStatement S664x2x128 S664x1x128, bufferStatement S2304x2x128 S2304x1x128, statement S664x2x128 S664x1x128,
    selectZeroStatement S664x128, halfStatement S39x128, statement S39x2x128 S39x1x128, statement S8x2x128 S8x1x128,
    statement S16x128 S8x128⟩

end Cert.Proof

end
-- ==== Proof.Tile.lean ====
/- The weight tile of one step, read at an element. -/
module

public import proofs.«01_k».proof.Proof.Gen.KernelIdeal.Skeleton
public import Idealize.ShloMosaic.Lib.Pointwise
public import Idealize.ShloMosaic.Lib.BitcastFour
public import Idealize.ShloMosaic.PureOps.Ideal

@[expose] public section

set_option maxRecDepth 16384
set_option maxHeartbeats 1000000

noncomputable section

namespace Cert.KernelIdeal.Val

open Cert.KernelIdeal Cert.KernelIdeal.Gen
open Idealize.ShloMosaic Idealize.ShloMosaic.TcCoe Idealize.ShloMosaic.Tactic

/-- A block of 32 rows of bytes as 8 rows of words, with the sign bit of every nibble turned over. -/
def xw (a : IVec S32x128 8) : IVec S8x128 32 :=
  xori (bitcast S8x128 32 a bitcasts_S32x128_w8_S8x128_w32) (broadcast S8x128 2290649224#32)
def mixw (a b : IVec S32x128 8) : IVec S8x128 32 :=
  andi (xori (shrui (xw a) (broadcast S8x128 4#32)) (xw b)) (broadcast S8x128 252645135#32)
/-- The low nibbles of two blocks, interleaved. -/
def evenw (a b : IVec S32x128 8) : IVec S8x128 32 := xori (xw a) (shli (mixw a b) (broadcast S8x128 4#32))
/-- The high nibbles of two blocks, interleaved. -/
def oddw (a b : IVec S32x128 8) : IVec S8x128 32 := xori (xw b) (mixw a b)
/-- The eight nibbles of a word as numbers, one per row. -/
def nib (v : IVec S8x128 32) : FVec Ideal S64x128 .bf16 :=
  sitofp .bf16 (shrsi (shli
    (shapeCast S64x128 (broadcastTo S8x8x128 (shapeCast S8x1x128 (shapeCast S8x1x128 v shapeCasts_S8x128_S8x1x128) shapeCasts_S8x1x128_S8x1x128)
      broadcasts_S8x1x128_S8x8x128) shapeCasts_S8x8x128_S64x128)
    (subi (broadcast S64x128 28#32) (muli (broadcast S64x128 4#32) (andi (iota .tc S64x128 32 [0] iota_S64x128_d0_w32) (broadcast S64x128 7#32)))))
    (broadcast S64x128 28#32))
/-- The scales of 16 rows: two pairs of a row interleaved. -/
def sc1 (r : FVec Ideal S8x2x128 .bf16) : FVec Ideal S16x128 .bf16 :=
  interleaveRows S16x128 (shapeCast S8x128 (rowsOfParity 0 S8x1x128 r bitcasts_S8x2x128_w16_S8x1x128_w32) shapeCasts_S8x1x128_S8x128)
    (shapeCast S8x128 (rowsOfParity 1 S8x1x128 r bitcasts_S8x2x128_w16_S8x1x128_w32) shapeCasts_S8x1x128_S8x128) bitcasts_S16x128_w16_S8x128_w32
def sc (r0 r1 r2 r3 : FVec Ideal S8x2x128 .bf16) : FVec Ideal S64x128 .bf16 :=
  concatenate S64x128 0 [⟨S16x128, sc1 r0⟩, ⟨S16x128, sc1 r1⟩, ⟨S16x128, sc1 r2⟩, ⟨S16x128, sc1 r3⟩] concatenates_S16x128_S16x128_S16x128_S16x128_S64x128_d0
/-- The weight tile of 128 packed rows of a pair of columns blocks. -/
def tile (a0 b0 a1 b1 : IVec S32x128 8) (e0 e1 e2 e3 e4 e5 e6 e7 o0 o1 o2 o3 o4 o5 o6 o7 : FVec Ideal S8x2x128 .bf16) : FVec Ideal S256x128 .bf16 :=
  concatenate S256x128 0 [⟨S64x128, mulf (nib (evenw a0 b0)) (sc e0 e1 e2 e3)⟩, ⟨S64x128, mulf (nib (evenw a1 b1)) (sc e4 e5 e6 e7)⟩,
    ⟨S64x128, mulf (nib (oddw a0 b0)) (sc o0 o1 o2 o3)⟩, ⟨S64x128, mulf (nib (oddw a1 b1)) (sc o4 o5 o6 o7)⟩] concatenates_S64x128_S64x128_S64x128_S64x128_S256x128_d0

theorem sext_nib (w : BitVec 32) (m : ℕ) (hm : m < 8) :
    BitVec.sshiftRight (w <<< (28 - 4 * m)) 28 = (w.extractLsb' (4 * m) 4).signExtend 32 := by
  apply BitVec.eq_of_getLsbD_eq
  intro i hi
  rw [BitVec.getLsbD_sshiftRight, BitVec.getLsbD_signExtend]
  simp only [BitVec.getLsbD_shiftLeft, BitVec.getLsbD_extractLsb', BitVec.msb_eq_getLsbD_last, BitVec.getLsbD_eq_getElem, hi]
  by_cases h : i < 4
  · have e : 28 + i - (28 - 4 * m) = 4 * m + i := by omega
    simp [h, show ¬ 32 ≤ i by omega, show 28 + i < 32 by omega, show ¬ (28 + i < 28 - 4 * m) by omega, e]
  · have e : 31 - (28 - 4 * m) = 4 * m + 3 := by omega
    simp [h, show ¬ 32 ≤ i by omega, show ¬ 28 + i < 32 by omega, show ¬ (31 < 28 - 4 * m) by omega, e]

theorem amount : ∀ K : Fin 64, (IntOp.subi (28#32) (IntOp.muli (4#32) (IntOp.andi (BitVec.ofNat 32 K.val) 7#32))) = BitVec.ofNat 32 (28 - 4 * (K.val % 8)) := by
  decide +kernel

theorem nib_apply (v : IVec S8x128 32) (K : Fin 64) (l : Fin 128) :
    nib v (ix2 K l) = (((((v (ix2 ⟨K.val / 8, by omega⟩ l)) : BitVec 32).extractLsb' (4 * (K.val % 8)) 4).toInt : ℝ) : EReal) := by
  pointwise [nib]
  rw [amount]
  have h1 : (BitVec.ofNat 32 (28 - 4 * (K.val % 8))).toNat = 28 - 4 * (K.val % 8) := by
    rw [BitVec.toNat_ofNat]; omega
  unfold IntOp.shrsi IntOp.shli
  rw [if_pos (by decide), if_pos (by rw [h1]; omega)]
  show (((_ : BitVec 32).toInt : ℝ) : EReal) = _
  rw [BitVec.shiftLeft_eq', h1]
  rw [BitVec.sshiftRight_eq', show (28#32).toNat = 28 from rfl, sext_nib _ _ (by omega), BitVec.toInt_signExtend_of_le (by omega)]

theorem xw_bit (a : IVec S32x128 8) (r : Fin 8) (l : Fin 128) (q : ℕ) (hq : q < 32) :
    (xw a (ix2 r l)).getLsbD q = ((a (ix2 ⟨4 * r.val + q / 8, by omega⟩ l)).getLsbD (q % 8) ^^ decide (q % 4 = 3)) := by
  pointwise [xw]
  show (_ ^^^ _ : BitVec 32).getLsbD q = _
  rw [BitVec.getLsbD_xor]
  congr 1
  · exact bitcast_8_32_getLsbD_ix2 a _ r l q hq _ rfl
  · exact (by decide +kernel : ∀ q : Fin 32, (2290649224#32).getLsbD q.val = decide (q.val % 4 = 3)) ⟨q, hq⟩

theorem mixw_bit (a b : IVec S32x128 8) (r : Fin 8) (l : Fin 128) (q : ℕ) (hq : q < 32) :
    (mixw a b (ix2 r l)).getLsbD q = (((xw a (ix2 r l)).getLsbD (4 + q) ^^ (xw b (ix2 r l)).getLsbD q) && decide (q % 8 < 4)) := by
  pointwise [mixw]
  show ((IntOp.shrui _ _ _ ^^^ _) &&& _ : BitVec 32).getLsbD q = _
  unfold IntOp.shrui
  rw [if_pos (by decide), BitVec.getLsbD_and, BitVec.getLsbD_xor]
  congr 1
  · congr 1
    show ((_ : BitVec 32) >>> (4#32).toNat).getLsbD q = _
    rw [BitVec.getLsbD_ushiftRight]; rfl
  · exact (by decide +kernel : ∀ q : Fin 32, (252645135#32).getLsbD q.val = decide (q.val % 8 < 4)) ⟨q, hq⟩

theorem evenw_bit (a b : IVec S32x128 8) (r : Fin 8) (l : Fin 128) (q : ℕ) (hq : q < 32) :
    (evenw a b (ix2 r l)).getLsbD q = if q % 8 < 4 then (xw a (ix2 r l)).getLsbD q else (xw b (ix2 r l)).getLsbD (q - 4) := by
  pointwise [evenw]
  show (_ ^^^ IntOp.shli _ _ _ : BitVec 32).getLsbD q = _
  unfold IntOp.shli
  rw [if_pos (by decide), BitVec.getLsbD_xor]
  rw [show ∀ x : BitVec 32, x <<< 4#32 = x <<< 4 from fun x => rfl, BitVec.getLsbD_shiftLeft]
  by_cases h4 : q < 4
  · simp [h4, show q % 8 < 4 by omega]
  · rw [mixw_bit _ _ _ _ _ (by omega), show 4 + (q - 4) = q by omega]
    by_cases h : q % 8 < 4
    · simp [h, show ¬ (q - 4) % 8 < 4 by omega]
    · simp [h, show (q - 4) % 8 < 4 by omega, hq, h4]

theorem oddw_bit (a b : IVec S32x128 8) (r : Fin 8) (l : Fin 128) (q : ℕ) (hq : q < 32) :
    (oddw a b (ix2 r l)).getLsbD q = if q % 8 < 4 then (xw a (ix2 r l)).getLsbD (4 + q) else (xw b (ix2 r l)).getLsbD q := by
  pointwise [oddw]
  show (_ ^^^ _ : BitVec 32).getLsbD q = _
  rw [BitVec.getLsbD_xor, mixw_bit _ _ _ _ _ hq]
  by_cases h : q % 8 < 4
  · rw [if_pos h]
    generalize (xw a (ix2 r l)).getLsbD (4 + q) = x
    generalize (xw b (ix2 r l)).getLsbD q = y
    cases x <;> cases y <;> simp [h]
  · simp [h]

/-- The low and the high nibble of a byte. -/
def lo4 (b : BitVec 8) : BitVec 4 := b.extractLsb' 0 4
def hi4 (b : BitVec 8) : BitVec 4 := b.extractLsb' 4 4
/-- The number that a nibble stands for. -/
def val4 (n : BitVec 4) : EReal := (((n.toNat : ℤ) - 8 : ℤ) : ℝ)

theorem toInt_flip : ∀ n : BitVec 4, (n ^^^ 8#4).toInt = (n.toNat : ℤ) - 8 := by decide +kernel

theorem val4_of (n w : BitVec 4) (h : ∀ j, j < 4 → w.getLsbD j = (n.getLsbD j ^^ decide (j = 3))) :
    ((w.toInt : ℝ) : EReal) = val4 n := by
  have e : w = n ^^^ 8#4 := by
    apply BitVec.eq_of_getLsbD_eq
    intro j hj
    rw [h j hj, BitVec.getLsbD_xor]
    congr 1
    exact ((by decide +kernel : ∀ q : Fin 4, (8#4).getLsbD q.val = decide (q.val = 3)) ⟨j, hj⟩).symm
  rw [e, toInt_flip]; rfl

theorem nib_even (a b : IVec S32x128 8) (K : Fin 64) (l : Fin 128) :
    nib (evenw a b) (ix2 K l) = val4 (lo4 ((if K.val % 2 = 0 then a else b) (ix2 ⟨K.val / 2, by omega⟩ l))) := by
  rw [nib_apply]
  apply val4_of
  intro j hj
  rw [BitVec.getLsbD_extractLsb', lo4, BitVec.getLsbD_extractLsb', evenw_bit _ _ _ _ _ (by omega)]
  by_cases h : K.val % 2 = 0
  · rw [if_pos (by omega), if_pos h, xw_bit _ _ _ _ (by omega)]
    have e1 : (4 * (K.val % 8) + j) % 8 = 0 + j := by omega
    have e2 : 4 * (K.val / 8) + (4 * (K.val % 8) + j) / 8 = K.val / 2 := by omega
    simp only [e1, e2]
    simp [hj, show (4 * (K.val % 8) + j) % 4 = j by omega]
  · rw [if_neg (by omega), if_neg h, xw_bit _ _ _ _ (by omega)]
    have e1 : (4 * (K.val % 8) + j - 4) % 8 = 0 + j := by omega
    have e2 : 4 * (K.val / 8) + (4 * (K.val % 8) + j - 4) / 8 = K.val / 2 := by omega
    simp only [e1, e2]
    simp [hj, show (4 * (K.val % 8) + j - 4) % 4 = j by omega]

theorem nib_odd (a b : IVec S32x128 8) (K : Fin 64) (l : Fin 128) :
    nib (oddw a b) (ix2 K l) = val4 (hi4 ((if K.val % 2 = 0 then a else b) (ix2 ⟨K.val / 2, by omega⟩ l))) := by
  rw [nib_apply]
  apply val4_of
  intro j hj
  rw [BitVec.getLsbD_extractLsb', hi4, BitVec.getLsbD_extractLsb', oddw_bit _ _ _ _ _ (by omega)]
  by_cases h : K.val % 2 = 0
  · rw [if_pos (by omega), if_pos h, xw_bit _ _ _ _ (by omega)]
    have e1 : (4 + (4 * (K.val % 8) + j)) % 8 = 4 + j := by omega
    have e2 : 4 * (K.val / 8) + (4 + (4 * (K.val % 8) + j)) / 8 = K.val / 2 := by omega
    simp only [e1, e2]
    simp [hj, show (4 + (4 * (K.val % 8) + j)) % 4 = j by omega]
  · rw [if_neg (by omega), if_neg h, xw_bit _ _ _ _ (by omega)]
    have e1 : (4 * (K.val % 8) + j) % 8 = 4 + j := by omega
    have e2 : 4 * (K.val / 8) + (4 * (K.val % 8) + j) / 8 = K.val / 2 := by omega
    simp only [e1, e2]
    simp [hj, show (4 * (K.val % 8) + j) % 4 = j by omega]

theorem sc1_apply (r : FVec Ideal S8x2x128 .bf16) (j : Fin 16) (l : Fin 128) :
    sc1 r (ix2 j l) = r (ix3 ⟨j.val / 2, by omega⟩ ⟨j.val % 2, by omega⟩ l) := by
  pointwise [sc1, interleaveRows]
  have : j.val % 2 = 0 ∨ j.val % 2 = 1 := by omega
  rcases this with h | h <;> simp [h]

theorem sc_apply (r0 r1 r2 r3 : FVec Ideal S8x2x128 .bf16) (T : ℕ → ℕ → ℕ → EReal) (p : ℕ)
    (h0 : ∀ i h l, r0 (ix3 i h l) = T (2 * i.val + p) h.val l.val)
    (h1 : ∀ i h l, r1 (ix3 i h l) = T (16 + 2 * i.val + p) h.val l.val)
    (h2 : ∀ i h l, r2 (ix3 i h l) = T (32 + 2 * i.val + p) h.val l.val)
    (h3 : ∀ i h l, r3 (ix3 i h l) = T (48 + 2 * i.val + p) h.val l.val) (K : Fin 64) (l : Fin 128) :
    sc r0 r1 r2 r3 (ix2 K l) = T (2 * (K.val / 2) + p) (K.val % 2) l.val := by
  pointwise [sc]
  simp only [sc1_apply, h0, h1, h2, h3]
  split_ifs <;> (congr 1 <;> omega)

/-- The weight tile at an element: a nibble of a byte times the scale of its row. -/
theorem tile_apply (a0 b0 a1 b1 : IVec S32x128 8) (e0 e1 e2 e3 e4 e5 e6 e7 o0 o1 o2 o3 o4 o5 o6 o7 : FVec Ideal S8x2x128 .bf16)
    (W : ℕ → ℕ → ℕ → BitVec 8) (T : ℕ → ℕ → ℕ → EReal)
    (ha0 : ∀ r l, a0 (ix2 r l) = W r.val 0 l.val) (hb0 : ∀ r l, b0 (ix2 r l) = W r.val 1 l.val)
    (ha1 : ∀ r l, a1 (ix2 r l) = W (32 + r.val) 0 l.val) (hb1 : ∀ r l, b1 (ix2 r l) = W (32 + r.val) 1 l.val)
    (he0 : ∀ i h l, e0 (ix3 i h l) = T (2 * i.val + 0) h.val l.val)
    (he1 : ∀ i h l, e1 (ix3 i h l) = T (16 + 2 * i.val + 0) h.val l.val)
    (he2 : ∀ i h l, e2 (ix3 i h l) = T (32 + 2 * i.val + 0) h.val l.val)
    (he3 : ∀ i h l, e3 (ix3 i h l) = T (48 + 2 * i.val + 0) h.val l.val)
    (he4 : ∀ i h l, e4 (ix3 i h l) = T (64 + 2 * i.val + 0) h.val l.val)
    (he5 : ∀ i h l, e5 (ix3 i h l) = T (80 + 2 * i.val + 0) h.val l.val)
    (he6 : ∀ i h l, e6 (ix3 i h l) = T (96 + 2 * i.val + 0) h.val l.val)
    (he7 : ∀ i h l, e7 (ix3 i h l) = T (112 + 2 * i.val + 0) h.val l.val)
    (ho0 : ∀ i h l, o0 (ix3 i h l) = T (2 * i.val + 1) h.val l.val)
    (ho1 : ∀ i h l, o1 (ix3 i h l) = T (16 + 2 * i.val + 1) h.val l.val)
    (ho2 : ∀ i h l, o2 (ix3 i h l) = T (32 + 2 * i.val + 1) h.val l.val)
    (ho3 : ∀ i h l, o3 (ix3 i h l) = T (48 + 2 * i.val + 1) h.val l.val)
    (ho4 : ∀ i h l, o4 (ix3 i h l) = T (64 + 2 * i.val + 1) h.val l.val)
    (ho5 : ∀ i h l, o5 (ix3 i h l) = T (80 + 2 * i.val + 1) h.val l.val)
    (ho6 : ∀ i h l, o6 (ix3 i h l) = T (96 + 2 * i.val + 1) h.val l.val)
    (ho7 : ∀ i h l, o7 (ix3 i h l) = T (112 + 2 * i.val + 1) h.val l.val)
    (K : Fin 256) (l : Fin 128) :
    tile a0 b0 a1 b1 e0 e1 e2 e3 e4 e5 e6 e7 o0 o1 o2 o3 o4 o5 o6 o7 (ix2 K l)
      = val4 ((if K.val < 128 then lo4 else hi4) (W (K.val % 128 / 2) (K.val % 2) l.val))
        * T (2 * (K.val % 128 / 2) + K.val / 128) (K.val % 2) l.val := by
  have a4 := fun i h l => (he4 i h l).trans (congrArg (T · h.val l.val) (show 64 + 2 * i.val + 0 = 2 * i.val + 0 + 64 by omega))
  have s1 := sc_apply e0 e1 e2 e3 T 0 he0 he1 he2 he3
  have s2 := sc_apply e4 e5 e6 e7 (fun n => T (64 + n)) 0 (fun i h l => (he4 i h l).trans (by congr 1)) (fun i h l => (he5 i h l).trans (by congr 1; omega))
    (fun i h l => (he6 i h l).trans (by congr 1; omega)) (fun i h l => (he7 i h l).trans (by congr 1; omega))
  have s3 := sc_apply o0 o1 o2 o3 T 1 ho0 ho1 ho2 ho3
  have s4 := sc_apply o4 o5 o6 o7 (fun n => T (64 + n)) 1 (fun i h l => (ho4 i h l).trans (by congr 1)) (fun i h l => (ho5 i h l).trans (by congr 1; omega))
    (fun i h l => (ho6 i h l).trans (by congr 1; omega)) (fun i h l => (ho7 i h l).trans (by congr 1; omega))
  have w01 : ∀ (c : ℕ) (r : Fin 32) (l : Fin 128), c < 2 → (if c = 0 then a0 else b0) (ix2 r l) = W r.val c l.val := by
    intro c r l hc
    have : c = 0 ∨ c = 1 := by omega
    rcases this with h | h <;> simp [h, ha0, hb0]
  have w23 : ∀ (c : ℕ) (r : Fin 32) (l : Fin 128), c < 2 → (if c = 0 then a1 else b1) (ix2 r l) = W (32 + r.val) c l.val := by
    intro c r l hc
    have : c = 0 ∨ c = 1 := by omega
    rcases this with h | h <;> simp [h, ha1, hb1]
  pointwise [tile]
  simp only [nib_even, nib_odd, s1, s2, s3, s4]
  simp only [w01 _ _ _ (Nat.mod_lt _ (by omega : 0 < 2)), w23 _ _ _ (Nat.mod_lt _ (by omega : 0 < 2))]
  have hK := K.isLt
  have hq : ∀ n : ℕ, n = K.val → True := fun _ _ => trivial
  rcases (by omega : K.val < 64 ∨ (64 ≤ K.val ∧ K.val < 128) ∨ (128 ≤ K.val ∧ K.val < 192) ∨ 192 ≤ K.val) with h | h | h | h
  · rw [dif_pos h, if_pos (show K.val < 128 by omega)]
    simp only [show K.val % 128 / 2 = K.val / 2 by omega, show K.val / 128 = 0 by omega]
  · rw [dif_neg (by omega), dif_pos (by omega), if_pos (show K.val < 128 by omega)]
    simp only [show 32 + (K.val - 64) / 2 = K.val % 128 / 2 by omega, show (K.val - 64) % 2 = K.val % 2 by omega, show 64 + (2 * ((K.val - 64) / 2) + 0) = 2 * (K.val % 128 / 2) + K.val / 128 by omega]
  · rw [dif_neg (by omega), dif_neg (by omega), dif_pos (by omega), if_neg (show ¬ K.val < 128 by omega)]
    simp only [show (K.val - 64 - 64) / 2 = K.val % 128 / 2 by omega, show (K.val - 64 - 64) % 2 = K.val % 2 by omega, show K.val / 128 = 1 by omega]
  · rw [dif_neg (by omega), dif_neg (by omega), dif_neg (by omega), if_neg (show ¬ K.val < 128 by omega)]
    simp only [show 32 + (K.val - 64 - 64 - 64) / 2 = K.val % 128 / 2 by omega, show (K.val - 64 - 64 - 64) % 2 = K.val % 2 by omega, show 64 + (2 * ((K.val - 64 - 64 - 64) / 2) + 1) = 2 * (K.val % 128 / 2) + K.val / 128 by omega]

end Cert.KernelIdeal.Val

end
-- ==== Proof.Spec.lean ====
/- What a step's weights are, as numbers of the buffers they are read from. -/
module

public import proofs.«01_k».proof.Proof.Tile
public import Idealize.ShloMosaic.Lib.WritesUnit
public import Idealize.ShloMosaic.Lib.VecWindow

@[expose] public section

set_option maxRecDepth 16384
set_option maxHeartbeats 1000000

noncomputable section

namespace Cert.KernelIdeal.Val

open Cert.KernelIdeal Cert.KernelIdeal.Gen
open Idealize.ShloMosaic Idealize.ShloMosaic.TcCoe Idealize.ShloMosaic.Tactic

section At
variable {α : Type} {n0 n1 n2 : ℕ} [NeZero n0] [NeZero n1] [NeZero n2]

/-- An element of a matrix, its row and column given as numbers. -/
def at2 (f : (⟨2, ![n0, n1]⟩ : Shape).Idx → α) (a b : ℕ) : α := f (ix2 (Fin.ofNat n0 a) (Fin.ofNat n1 b))
/-- An element of a stack of matrices, its coordinates given as numbers. -/
def at3 (f : (⟨3, ![n0, n1, n2]⟩ : Shape).Idx → α) (a b c : ℕ) : α :=
  f (ix3 (Fin.ofNat n0 a) (Fin.ofNat n1 b) (Fin.ofNat n2 c))

theorem ofNat_val (n : ℕ) [NeZero n] (a : Fin n) : Fin.ofNat n a.val = a := Fin.ext (Nat.mod_eq_of_lt a.isLt)
theorem ofNat_mk {n : ℕ} [NeZero n] {a : ℕ} (h : a < n) : Fin.ofNat n a = ⟨a, h⟩ := Fin.ext (Nat.mod_eq_of_lt h)

theorem eq_at2 (f : (⟨2, ![n0, n1]⟩ : Shape).Idx → α) (a : Fin n0) (b : Fin n1) : f (ix2 a b) = at2 f a.val b.val := by
  unfold at2; rw [ofNat_val, ofNat_val]
theorem eq_at3 (f : (⟨3, ![n0, n1, n2]⟩ : Shape).Idx → α) (a : Fin n0) (b : Fin n1) (c : Fin n2) :
    f (ix3 a b c) = at3 f a.val b.val c.val := by
  unfold at3; rw [ofNat_val, ofNat_val, ofNat_val]

variable {sig : RefSig} {κ : Kind} {sp : Space} {e : EltTy} {Val : EltTy → Type}

/-- A load of a block of a matrix reads the matrix at the block's offsets. -/
theorem readAt2 {m0 m1 : ℕ} (v : View sig κ sp ⟨2, ![n0, n1]⟩ e) (f : v.ty.Contents Val) {off : Fin 2 → ℕ}
    (inb : ∀ a : Fin 2, off a + (![m0, m1] : Fin 2 → ℕ) a ≤ (![n0, n1] : Fin 2 → ℕ) a) (o0 o1 : ℕ) (h : off = ![o0, o1]) (a : Fin m0) (b : Fin m1) :
    v.readAt Val (Rect.unit (s := ⟨2, ![n0, n1]⟩) off ![m0, m1] inb).toLoadRect f (ix2 a b) = at2 (v.read Val f) (o0 + a.val) (o1 + b.val) := by
  subst h
  have h0 : o0 + m0 ≤ n0 := inb 0
  have h1 : o1 + m1 ≤ n1 := inb 1
  refine congrArg (v.read Val f) (funext fun x => Fin.ext ?_)
  match x with
  | ⟨0, _⟩ => exact (show o0 + 1 * a.val = (o0 + a.val) % n0 by rw [Nat.one_mul, Nat.mod_eq_of_lt (by omega)])
  | ⟨1, _⟩ => exact (show o1 + 1 * b.val = (o1 + b.val) % n1 by rw [Nat.one_mul, Nat.mod_eq_of_lt (by omega)])

/-- A load of a block of a stack of matrices reads the stack at the block's offsets. -/
theorem readAt3 {m0 m1 m2 : ℕ} (v : View sig κ sp ⟨3, ![n0, n1, n2]⟩ e) (f : v.ty.Contents Val) {off : Fin 3 → ℕ}
    (inb : ∀ a : Fin 3, off a + (![m0, m1, m2] : Fin 3 → ℕ) a ≤ (![n0, n1, n2] : Fin 3 → ℕ) a) (o0 o1 o2 : ℕ) (h : off = ![o0, o1, o2])
    (a : Fin m0) (b : Fin m1) (c : Fin m2) :
    v.readAt Val (Rect.unit (s := ⟨3, ![n0, n1, n2]⟩) off ![m0, m1, m2] inb).toLoadRect f (ix3 a b c)
      = at3 (v.read Val f) (o0 + a.val) (o1 + b.val) (o2 + c.val) := by
  subst h
  have h0 : o0 + m0 ≤ n0 := inb 0
  have h1 : o1 + m1 ≤ n1 := inb 1
  have h2 : o2 + m2 ≤ n2 := inb 2
  refine congrArg (v.read Val f) (funext fun x => Fin.ext ?_)
  match x with
  | ⟨0, _⟩ => exact (show o0 + 1 * a.val = (o0 + a.val) % n0 by rw [Nat.one_mul, Nat.mod_eq_of_lt (by omega)])
  | ⟨1, _⟩ => exact (show o1 + 1 * b.val = (o1 + b.val) % n1 by rw [Nat.one_mul, Nat.mod_eq_of_lt (by omega)])
  | ⟨2, _⟩ => exact (show o2 + 1 * c.val = (o2 + c.val) % n2 by rw [Nat.one_mul, Nat.mod_eq_of_lt (by omega)])

theorem write2_in {m0 m1 : ℕ} (v : View sig κ sp ⟨2, ![n0, n1]⟩ e) (f : v.ty.Contents Val) {off : Fin 2 → ℕ}
    (inb : ∀ a : Fin 2, off a + (![m0, m1] : Fin 2 → ℕ) a ≤ (![n0, n1] : Fin 2 → ℕ) a)
    (w : (⟨2, ![m0, m1]⟩ : Shape).Idx → Val e) (L : List (View.Piece Val ⟨2, ![n0, n1]⟩ e)) (o0 o1 : ℕ) (h : off = ![o0, o1])
    (a : Fin m0) (b : Fin m1) (A B : ℕ) (hA : A = o0 + a.val) (hB : B = o1 + b.val) :
    at2 (v.read Val (v.writes Val f (⟨Rect.unit (s := ⟨2, ![n0, n1]⟩) off ![m0, m1] inb, w⟩ :: L))) A B = w (ix2 a b) := by
  subst h hA hB
  have h0 : o0 + m0 ≤ n0 := inb 0
  have h1 : o1 + m1 ≤ n1 := inb 1
  refine View.read_writes_cons_unit_of_mem v f inb w L _ (ix2 a b) rfl fun x => ?_
  match x with
  | ⟨0, _⟩ => exact (show (o0 + a.val) % n0 = o0 + a.val from Nat.mod_eq_of_lt (by omega))
  | ⟨1, _⟩ => exact (show (o1 + b.val) % n1 = o1 + b.val from Nat.mod_eq_of_lt (by omega))

theorem write2_out {m0 m1 : ℕ} (v : View sig κ sp ⟨2, ![n0, n1]⟩ e) (f : v.ty.Contents Val) {off : Fin 2 → ℕ}
    (inb : ∀ a : Fin 2, off a + (![m0, m1] : Fin 2 → ℕ) a ≤ (![n0, n1] : Fin 2 → ℕ) a)
    (w : (⟨2, ![m0, m1]⟩ : Shape).Idx → Val e) (L : List (View.Piece Val ⟨2, ![n0, n1]⟩ e)) (o0 o1 : ℕ) (h : off = ![o0, o1])
    (A B : ℕ) (hA : A < n0) (hB : B < n1) (hout : (A < o0 ∨ o0 + m0 ≤ A) ∨ (B < o1 ∨ o1 + m1 ≤ B)) :
    at2 (v.read Val (v.writes Val f (⟨Rect.unit (s := ⟨2, ![n0, n1]⟩) off ![m0, m1] inb, w⟩ :: L))) A B
      = at2 (v.read Val (v.writes Val f L)) A B := by
  rcases hout with h0 | h0
  · refine View.read_writes_cons_unit_of_not_mem v f inb w L _ h 0 ?_
    show A % n0 < o0 ∨ o0 + m0 ≤ A % n0
    rwa [Nat.mod_eq_of_lt hA]
  · refine View.read_writes_cons_unit_of_not_mem v f inb w L _ h 1 ?_
    show B % n1 < o1 ∨ o1 + m1 ≤ B % n1
    rwa [Nat.mod_eq_of_lt hB]

theorem write3_in {m0 m1 m2 : ℕ} (v : View sig κ sp ⟨3, ![n0, n1, n2]⟩ e) (f : v.ty.Contents Val) {off : Fin 3 → ℕ}
    (inb : ∀ a : Fin 3, off a + (![m0, m1, m2] : Fin 3 → ℕ) a ≤ (![n0, n1, n2] : Fin 3 → ℕ) a)
    (w : (⟨3, ![m0, m1, m2]⟩ : Shape).Idx → Val e) (L : List (View.Piece Val ⟨3, ![n0, n1, n2]⟩ e)) (o0 o1 o2 : ℕ) (h : off = ![o0, o1, o2])
    (a : Fin m0) (b : Fin m1) (c : Fin m2) (A B C : ℕ) (hA : A = o0 + a.val) (hB : B = o1 + b.val) (hC : C = o2 + c.val) :
    at3 (v.read Val (v.writes Val f (⟨Rect.unit (s := ⟨3, ![n0, n1, n2]⟩) off ![m0, m1, m2] inb, w⟩ :: L))) A B C = w (ix3 a b c) := by
  subst h hA hB hC
  have h0 : o0 + m0 ≤ n0 := inb 0
  have h1 : o1 + m1 ≤ n1 := inb 1
  have h2 : o2 + m2 ≤ n2 := inb 2
  refine View.read_writes_cons_unit_of_mem v f inb w L _ (ix3 a b c) rfl fun x => ?_
  match x with
  | ⟨0, _⟩ => exact (show (o0 + a.val) % n0 = o0 + a.val from Nat.mod_eq_of_lt (by omega))
  | ⟨1, _⟩ => exact (show (o1 + b.val) % n1 = o1 + b.val from Nat.mod_eq_of_lt (by omega))
  | ⟨2, _⟩ => exact (show (o2 + c.val) % n2 = o2 + c.val from Nat.mod_eq_of_lt (by omega))

theorem write3_out {m0 m1 m2 : ℕ} (v : View sig κ sp ⟨3, ![n0, n1, n2]⟩ e) (f : v.ty.Contents Val) {off : Fin 3 → ℕ}
    (inb : ∀ a : Fin 3, off a + (![m0, m1, m2] : Fin 3 → ℕ) a ≤ (![n0, n1, n2] : Fin 3 → ℕ) a)
    (w : (⟨3, ![m0, m1, m2]⟩ : Shape).Idx → Val e) (L : List (View.Piece Val ⟨3, ![n0, n1, n2]⟩ e)) (o0 o1 o2 : ℕ) (h : off = ![o0, o1, o2])
    (A B C : ℕ) (hA : A < n0) (hB : B < n1) (hout : (A < o0 ∨ o0 + m0 ≤ A) ∨ (B < o1 ∨ o1 + m1 ≤ B)) :
    at3 (v.read Val (v.writes Val f (⟨Rect.unit (s := ⟨3, ![n0, n1, n2]⟩) off ![m0, m1, m2] inb, w⟩ :: L))) A B C
      = at3 (v.read Val (v.writes Val f L)) A B C := by
  rcases hout with h0 | h0
  · refine View.read_writes_cons_unit_of_not_mem v f inb w L _ h 0 ?_
    show A % n0 < o0 ∨ o0 + m0 ≤ A % n0
    rwa [Nat.mod_eq_of_lt hA]
  · refine View.read_writes_cons_unit_of_not_mem v f inb w L _ h 1 ?_
    show B % n1 < o1 ∨ o1 + m1 ≤ B % n1
    rwa [Nat.mod_eq_of_lt hB]

end At

/-- The packed byte of row `r` of step `s` in column `l` of block `2 q + h`. -/
def Wb (A : S832x3840.Idx → BitVec 8) (s q r h l : ℕ) : BitVec 8 := at2 A (64 * s + r) ((2 * q + h) * 128 + l)
/-- The expanded scale of row `r` in column `l` of block `2 q + h`. -/
def Ts (S : S2304x2x128.Idx → EReal) (q r h l : ℕ) : EReal := at3 S ((r / 16 * 2 + r % 2) * 144 + r % 16 / 2 + 9 * q) h l
/-- The weight of row `K` of step `s`, column `l` of pair `q`, out of the packed bytes and the expanded scales. -/
def wraw (A : S832x3840.Idx → BitVec 8) (S : S2304x2x128.Idx → EReal) (s q K l : ℕ) : EReal :=
  val4 ((if K < 128 then lo4 else hi4) (Wb A s q (K % 128 / 2) (K % 2) l)) * Ts S q (2 * (K % 128 / 2) + K / 128) (K % 2) l

section Rd
variable (M4 : Memref sig .tc .vmem S832x3840 .i8) (M9 : Memref sig .tc .vmem S2304x2x128 .bf16)
  (X4 : BufTy.Contents (Elt Ideal) M4.view.ty) (X9 : BufTy.Contents (Elt Ideal) M9.view.ty)

/-- A block of 32 rows of bytes, loaded at an offset. -/
abbrev ld4 (off : Fin 2 → ℕ) (inb : ∀ a, off a + S32x128.size a ≤ S832x3840.size a) : IVec S32x128 8 :=
  M4.view.readAt (Elt Ideal) (Rect.unit (s := S832x3840) off S32x128.size inb).toLoadRect X4
/-- Eight rows of pairs of scales, loaded at an offset. -/
abbrev ld9 (off : Fin 3 → ℕ) (inb : ∀ a, off a + S8x2x128.size a ≤ S2304x2x128.size a) : FVec Ideal S8x2x128 .bf16 :=
  M9.view.readAt (Elt Ideal) (Rect.unit (s := S2304x2x128) off S8x2x128.size inb).toLoadRect X9

theorem ld4_apply (s q j h : ℕ) {off : Fin 2 → ℕ} (inb : ∀ a, off a + S32x128.size a ≤ S832x3840.size a)
    (ho : off = ![64 * s + j, (2 * q + h) * 128]) (r : Fin 32) (l : Fin 128) :
    ld4 M4 X4 off inb (ix2 r l) = Wb (M4.view.read (Elt Ideal) X4) s q (j + r.val) h l.val := by
  refine (readAt2 M4.view X4 inb _ _ ho r l).trans ?_
  unfold Wb
  rw [Nat.add_assoc]

theorem ld9_apply (q j p : ℕ) (hp : p < 2) {off : Fin 3 → ℕ} (inb : ∀ a, off a + S8x2x128.size a ≤ S2304x2x128.size a)
    (ho : off = ![144 * (2 * j + p) + 9 * q, 0, 0]) (i : Fin 8) (h : Fin 2) (l : Fin 128) :
    ld9 M9 X9 off inb (ix3 i h l) = Ts (M9.view.read (Elt Ideal) X9) q (16 * j + 2 * i.val + p) h.val l.val := by
  refine (readAt3 M9.view X9 inb _ _ _ ho i h l).trans ?_
  unfold Ts
  have e : 144 * (2 * j + p) + 9 * q + i.val = ((16 * j + 2 * i.val + p) / 16 * 2 + (16 * j + 2 * i.val + p) % 2) * 144 + (16 * j + 2 * i.val + p) % 16 / 2 + 9 * q := by
    have := i.isLt
    have e1 : (16 * j + 2 * i.val + p) / 16 = j := by omega
    have e2 : (16 * j + 2 * i.val + p) % 2 = p := by omega
    have e3 : (16 * j + 2 * i.val + p) % 16 / 2 = i.val := by omega
    rw [e1, e2, e3]; ring
  rw [e, Nat.zero_add, Nat.zero_add]

/-- The tile of loaded blocks is the weights of the step. -/
theorem tile_rd (s q : ℕ) {oa0 ob0 oa1 ob1 : Fin 2 → ℕ} {oe0 oe1 oe2 oe3 oe4 oe5 oe6 oe7 oo0 oo1 oo2 oo3 oo4 oo5 oo6 oo7 : Fin 3 → ℕ}
    {ia0 : ∀ a, oa0 a + S32x128.size a ≤ S832x3840.size a} {ib0 : ∀ a, ob0 a + S32x128.size a ≤ S832x3840.size a}
    {ia1 : ∀ a, oa1 a + S32x128.size a ≤ S832x3840.size a} {ib1 : ∀ a, ob1 a + S32x128.size a ≤ S832x3840.size a}
    {ie0 : ∀ a, oe0 a + S8x2x128.size a ≤ S2304x2x128.size a} {ie1 : ∀ a, oe1 a + S8x2x128.size a ≤ S2304x2x128.size a}
    {ie2 : ∀ a, oe2 a + S8x2x128.size a ≤ S2304x2x128.size a} {ie3 : ∀ a, oe3 a + S8x2x128.size a ≤ S2304x2x128.size a}
    {ie4 : ∀ a, oe4 a + S8x2x128.size a ≤ S2304x2x128.size a} {ie5 : ∀ a, oe5 a + S8x2x128.size a ≤ S2304x2x128.size a}
    {ie6 : ∀ a, oe6 a + S8x2x128.size a ≤ S2304x2x128.size a} {ie7 : ∀ a, oe7 a + S8x2x128.size a ≤ S2304x2x128.size a}
    {io0 : ∀ a, oo0 a + S8x2x128.size a ≤ S2304x2x128.size a} {io1 : ∀ a, oo1 a + S8x2x128.size a ≤ S2304x2x128.size a}
    {io2 : ∀ a, oo2 a + S8x2x128.size a ≤ S2304x2x128.size a} {io3 : ∀ a, oo3 a + S8x2x128.size a ≤ S2304x2x128.size a}
    {io4 : ∀ a, oo4 a + S8x2x128.size a ≤ S2304x2x128.size a} {io5 : ∀ a, oo5 a + S8x2x128.size a ≤ S2304x2x128.size a}
    {io6 : ∀ a, oo6 a + S8x2x128.size a ≤ S2304x2x128.size a} {io7 : ∀ a, oo7 a + S8x2x128.size a ≤ S2304x2x128.size a}
    (ha0 : oa0 = ![64 * s + 0, (2 * q + 0) * 128]) (hb0 : ob0 = ![64 * s + 0, (2 * q + 1) * 128])
    (ha1 : oa1 = ![64 * s + 32, (2 * q + 0) * 128]) (hb1 : ob1 = ![64 * s + 32, (2 * q + 1) * 128])
    (he0 : oe0 = ![144 * (2 * 0 + 0) + 9 * q, 0, 0]) (he1 : oe1 = ![144 * (2 * 1 + 0) + 9 * q, 0, 0])
    (he2 : oe2 = ![144 * (2 * 2 + 0) + 9 * q, 0, 0]) (he3 : oe3 = ![144 * (2 * 3 + 0) + 9 * q, 0, 0])
    (he4 : oe4 = ![144 * (2 * 4 + 0) + 9 * q, 0, 0]) (he5 : oe5 = ![144 * (2 * 5 + 0) + 9 * q, 0, 0])
    (he6 : oe6 = ![144 * (2 * 6 + 0) + 9 * q, 0, 0]) (he7 : oe7 = ![144 * (2 * 7 + 0) + 9 * q, 0, 0])
    (ho0 : oo0 = ![144 * (2 * 0 + 1) + 9 * q, 0, 0]) (ho1 : oo1 = ![144 * (2 * 1 + 1) + 9 * q, 0, 0])
    (ho2 : oo2 = ![144 * (2 * 2 + 1) + 9 * q, 0, 0]) (ho3 : oo3 = ![144 * (2 * 3 + 1) + 9 * q, 0, 0])
    (ho4 : oo4 = ![144 * (2 * 4 + 1) + 9 * q, 0, 0]) (ho5 : oo5 = ![144 * (2 * 5 + 1) + 9 * q, 0, 0])
    (ho6 : oo6 = ![144 * (2 * 6 + 1) + 9 * q, 0, 0]) (ho7 : oo7 = ![144 * (2 * 7 + 1) + 9 * q, 0, 0])
    (K : Fin 256) (l : Fin 128) :
    tile (ld4 M4 X4 oa0 ia0) (ld4 M4 X4 ob0 ib0) (ld4 M4 X4 oa1 ia1) (ld4 M4 X4 ob1 ib1)
      (ld9 M9 X9 oe0 ie0) (ld9 M9 X9 oe1 ie1) (ld9 M9 X9 oe2 ie2) (ld9 M9 X9 oe3 ie3)
      (ld9 M9 X9 oe4 ie4) (ld9 M9 X9 oe5 ie5) (ld9 M9 X9 oe6 ie6) (ld9 M9 X9 oe7 ie7)
      (ld9 M9 X9 oo0 io0) (ld9 M9 X9 oo1 io1) (ld9 M9 X9 oo2 io2) (ld9 M9 X9 oo3 io3)
      (ld9 M9 X9 oo4 io4) (ld9 M9 X9 oo5 io5) (ld9 M9 X9 oo6 io6) (ld9 M9 X9 oo7 io7) (ix2 K l)
      = wraw (M4.view.read (Elt Ideal) X4) (M9.view.read (Elt Ideal) X9) s q K.val l.val := by
  have z : ∀ r : ℕ, 0 + r = r := Nat.zero_add
  refine tile_apply _ _ _ _ _ _ _ _ _ _ _ _ _ _ _ _ _ _ _ _
    (fun r h l => Wb (M4.view.read (Elt Ideal) X4) s q r h l) (fun r h l => Ts (M9.view.read (Elt Ideal) X9) q r h l)
    ?_ ?_ ?_ ?_ ?_ ?_ ?_ ?_ ?_ ?_ ?_ ?_ ?_ ?_ ?_ ?_ ?_ ?_ ?_ ?_ K l
  · intro r l; rw [ld4_apply M4 X4 s q 0 0 ia0 ha0, z]
  · intro r l; rw [ld4_apply M4 X4 s q 0 1 ib0 hb0, z]
  · intro r l; exact ld4_apply M4 X4 s q 32 0 ia1 ha1 r l
  · intro r l; exact ld4_apply M4 X4 s q 32 1 ib1 hb1 r l
  · intro r h l; rw [ld9_apply M9 X9 q 0 0 (by omega) ie0 he0, Nat.mul_zero, z]
  · exact ld9_apply M9 X9 q 1 0 (by omega) ie1 he1
  · exact ld9_apply M9 X9 q 2 0 (by omega) ie2 he2
  · exact ld9_apply M9 X9 q 3 0 (by omega) ie3 he3
  · exact ld9_apply M9 X9 q 4 0 (by omega) ie4 he4
  · exact ld9_apply M9 X9 q 5 0 (by omega) ie5 he5
  · exact ld9_apply M9 X9 q 6 0 (by omega) ie6 he6
  · exact ld9_apply M9 X9 q 7 0 (by omega) ie7 he7
  · intro r h l; rw [ld9_apply M9 X9 q 0 1 (by omega) io0 ho0, Nat.mul_zero, z]
  · exact ld9_apply M9 X9 q 1 1 (by omega) io1 ho1
  · exact ld9_apply M9 X9 q 2 1 (by omega) io2 ho2
  · exact ld9_apply M9 X9 q 3 1 (by omega) io3 ho3
  · exact ld9_apply M9 X9 q 4 1 (by omega) io4 ho4
  · exact ld9_apply M9 X9 q 5 1 (by omega) io5 ho5
  · exact ld9_apply M9 X9 q 6 1 (by omega) io6 ho6
  · exact ld9_apply M9 X9 q 7 1 (by omega) io7 ho7

end Rd

/-- Two tiles side by side. -/
def wide (u v : FVec Ideal S256x128 .bf16) : FVec Ideal S256x256 .bf16 :=
  concatenate S256x256 1 [⟨S256x128, u⟩, ⟨S256x128, v⟩] concatenates_S256x128_S256x128_S256x256_d1

theorem wide_apply (u v : FVec Ideal S256x128 .bf16) (w : ℕ → ℕ → ℕ → EReal) (q : ℕ)
    (hu : ∀ K l, u (ix2 K l) = w q K.val l.val) (hv : ∀ K l, v (ix2 K l) = w (q + 1) K.val l.val) (K c : Fin 256) :
    wide u v (ix2 K c) = w (q + c.val / 128) K.val (c.val % 128) := by
  have hc := c.isLt
  pointwise [wide]
  rcases (by omega : c.val < 128 ∨ 128 ≤ c.val) with h | h
  · rw [dif_pos h, hu]
    simp only [show c.val / 128 = 0 by omega, show c.val % 128 = c.val by omega, Nat.add_zero]
  · rw [dif_neg (by omega), hv]
    simp only [show c.val / 128 = 1 by omega, show c.val % 128 = c.val - 128 by omega]

/-- One step's product, added to the sum kept for a pair of tiles. -/
def upd (v180 : FVec Ideal S1x16x256 .bf16) (W : FVec Ideal S256x256 .bf16) (p : FVec Ideal S1x16x256 .f32) : FVec Ideal S1x16x256 .f32 :=
  shapeCast S1x16x256 (addf (shapeCast S16x256 p shapeCasts_S1x16x256_S16x256)
    (matmul dot_S16x256_S256x256_S16x256_1_0_0_1_n_n none (shapeCast S16x256 v180 shapeCasts_S1x16x256_S16x256) W (constant S16x256 .f32 0x00000000#32)))
    shapeCasts_S16x256_S1x16x256

theorem upd_apply (v180 : FVec Ideal S1x16x256 .bf16) (W : FVec Ideal S256x256 .bf16) (p : FVec Ideal S1x16x256 .f32) (r : Fin 16) (c : Fin 256) :
    upd v180 W p (ix3 0 r c) = p (ix3 0 r c) + ∑ K : Fin 256, v180 (ix3 0 r K) * W (ix2 K c) := by
  pointwise [upd]

/-- After `k` trips over the pairs of tiles, the sums kept for the first `k` pairs have grown by one step's product. -/
def PartRel (v : FVec Ideal S1x16x256 .bf16) (A : S832x3840.Idx → BitVec 8) (S : S2304x2x128.Idx → EReal) (s k : ℕ)
    (G f : S7x16x256.Idx → EReal) : Prop :=
  ∀ t r c : ℕ, t < 7 → r < 16 → c < 256 → at3 f t r c = at3 G t r c
    + if t < k then ∑ K : Fin 256, at3 v 0 r K.val * wraw A S s (2 * t + c / 128) K.val (c % 128) else 0

@[refl] theorem PartRel.refl (v : FVec Ideal S1x16x256 .bf16) (A : S832x3840.Idx → BitVec 8) (S : S2304x2x128.Idx → EReal) (s : ℕ)
    (G : S7x16x256.Idx → EReal) : PartRel v A S s 0 G G := by
  intro t r c _ _ _
  rw [if_neg (Nat.not_lt_zero _), add_zero]

theorem PartRel.step {v : FVec Ideal S1x16x256 .bf16} {A : S832x3840.Idx → BitVec 8} {S : S2304x2x128.Idx → EReal} {s k : ℕ}
    {G : S7x16x256.Idx → EReal} (M : Memref Cert.KernelIdeal.sig .tc .vmem S7x16x256 .f32) {f : BufTy.Contents (Elt Ideal) M.view.ty}
    (hf : PartRel v A S s k G (M.view.read (Elt Ideal) f)) (hk : k < 7) {off : Fin 3 → ℕ} (inb : ∀ a, off a + S1x16x256.size a ≤ S7x16x256.size a)
    (ho : off = ![k, 0, 0]) (W : FVec Ideal S256x256 .bf16) (hW : ∀ K c, W (ix2 K c) = wraw A S s (2 * k + c.val / 128) K.val (c.val % 128)) :
    PartRel v A S s (k + 1) G (M.view.read (Elt Ideal) (M.view.writes (Elt Ideal) f
      [⟨Rect.unit (s := S7x16x256) off S1x16x256.size inb,
        upd v W (M.view.readAt (Elt Ideal) (Rect.unit (s := S7x16x256) off S1x16x256.size inb).toLoadRect f)⟩])) := by
  intro t r c ht hr hc
  by_cases h : t = k
  · subst h
    refine (write3_in M.view f inb _ [] t 0 0 ho 0 ⟨r, hr⟩ ⟨c, hc⟩ t r c rfl (Nat.zero_add _).symm (Nat.zero_add _).symm).trans ?_
    refine (upd_apply v W _ ⟨r, hr⟩ ⟨c, hc⟩).trans ?_
    have e := readAt3 M.view f inb t 0 0 ho (0 : Fin 1) (⟨r, hr⟩ : Fin 16) (⟨c, hc⟩ : Fin 256)
    refine (congrArg₂ (· + ·) (e.trans ?_) (Finset.sum_congr rfl fun K _ => ?_)).trans (congrArg (at3 G t r c + ·) (if_pos (Nat.lt_succ_self t)).symm)
    · have := hf t r c ht hr hc
      rw [if_neg (Nat.lt_irrefl _), add_zero] at this
      rw [← this, Nat.zero_add, Nat.zero_add]; rfl
    · rw [hW]; exact congrArg (· * _) (eq_at3 v 0 ⟨r, hr⟩ K)
  · rw [write3_out M.view f inb _ [] k 0 0 ho t r c ht hr (Or.inl (by omega)), View.writes_nil]
    rw [hf t r c ht hr hc]
    congr 1
    by_cases h2 : t < k
    · rw [if_pos h2, if_pos (by omega)]
    · rw [if_neg h2, if_neg (by omega)]

/-- What a loop keeps of a buffer before trip `k`: what it found there, before the first trip. -/
@[reducible] def pick {α : Type} (k : ℕ) (G f : α) : α := match k with
  | 0 => G
  | _ + 1 => f

theorem pick_ind {α : Type} {R : ℕ → α → Prop} (G : α) (h0 : R 0 G) {k : ℕ} {f : α} (h : R k f) : R k (pick k G f) := by
  cases k with
  | zero => exact h0
  | succ k => exact h

end Cert.KernelIdeal.Val

end
-- ==== Proof.Spec2.lean ====
/- What each of the kernel's remaining loops has done after some trips, and that one trip keeps it. -/
module

public import proofs.«01_k».proof.Proof.Spec

@[expose] public section

set_option maxRecDepth 16384
set_option maxHeartbeats 1000000

noncomputable section

namespace Cert.KernelIdeal.Val

open Cert.KernelIdeal Cert.KernelIdeal.Gen
open Idealize.ShloMosaic Idealize.ShloMosaic.TcCoe Idealize.ShloMosaic.Tactic

section Strided
variable {n0 n1 n2 : ℕ} [NeZero n0] [NeZero n1] [NeZero n2]
variable {sig : RefSig} {κ : Kind} {sp : Space} {e : EltTy} {Val : EltTy → Type}

/-- An element under a store of rows a fixed step apart. -/
theorem writeS_in {m0 m1 m2 st : ℕ} (v : View sig κ sp ⟨3, ![n0, n1, n2]⟩ e) (f : v.ty.Contents Val) {off : Fin 3 → ℕ} {inb pos}
    (w : (⟨3, ![m0, m1, m2]⟩ : Shape).Idx → Val e) (L : List (View.Piece Val ⟨3, ![n0, n1, n2]⟩ e)) (o0 : ℕ) (h : off = ![o0, 0, 0])
    (a : Fin m0) (b : Fin m1) (c : Fin m2) (A B C : ℕ) (hA : A = o0 + st * a.val) (hB : B = b.val) (hC : C = c.val)
    (lA : A < n0) (lB : B < n1) (lC : C < n2) :
    at3 (v.read Val (v.writes Val f (⟨⟨(⟨off, ![m0, m1, m2], ![st, 1, 1], inb⟩ : LoadRect ⟨3, ![n0, n1, n2]⟩), pos⟩, w⟩ :: L))) A B C = w (ix3 a b c) := by
  subst h hA hB hC
  refine View.read_writes_cons_hit_of_coords v f ⟨(⟨![o0, 0, 0], ![m0, m1, m2], ![st, 1, 1], inb⟩ : LoadRect ⟨3, ![n0, n1, n2]⟩), pos⟩ w L (ix3 a b c) _ fun x => ?_
  match x with
  | ⟨0, _⟩ => exact (show (o0 + st * a.val) % n0 = o0 + st * a.val from Nat.mod_eq_of_lt lA)
  | ⟨1, _⟩ => exact (show b.val % n1 = 0 + 1 * b.val by rw [Nat.mod_eq_of_lt lB]; omega)
  | ⟨2, _⟩ => exact (show c.val % n2 = 0 + 1 * c.val by rw [Nat.mod_eq_of_lt lC]; omega)

/-- An element of a row that a store of rows a fixed step apart leaves. -/
theorem writeS_out {m0 m1 m2 st : ℕ} (v : View sig κ sp ⟨3, ![n0, n1, n2]⟩ e) (f : v.ty.Contents Val) {off : Fin 3 → ℕ} {inb pos}
    (w : (⟨3, ![m0, m1, m2]⟩ : Shape).Idx → Val e) (L : List (View.Piece Val ⟨3, ![n0, n1, n2]⟩ e)) (o0 : ℕ) (h : off = ![o0, 0, 0])
    (A B C : ℕ) (lA : A < n0) (hout : ∀ a, a < m0 → A ≠ o0 + st * a) :
    at3 (v.read Val (v.writes Val f (⟨⟨(⟨off, ![m0, m1, m2], ![st, 1, 1], inb⟩ : LoadRect ⟨3, ![n0, n1, n2]⟩), pos⟩, w⟩ :: L))) A B C
      = at3 (v.read Val (v.writes Val f L)) A B C := by
  subst h
  refine View.read_writes_cons_miss v f _ L _ fun hm => ?_
  obtain ⟨j, hj, e⟩ := (LoadRect.mem_set _).mp hm (0 : Fin 3)
  refine hout j hj ?_
  have e' : A % n0 = o0 + st * j := e
  rwa [Nat.mod_eq_of_lt lA] at e'

/-- An element of a column that a store leaves. -/
theorem write3_outc {m0 m1 m2 : ℕ} (v : View sig κ sp ⟨3, ![n0, n1, n2]⟩ e) (f : v.ty.Contents Val) {off : Fin 3 → ℕ}
    (inb : ∀ a : Fin 3, off a + (![m0, m1, m2] : Fin 3 → ℕ) a ≤ (![n0, n1, n2] : Fin 3 → ℕ) a)
    (w : (⟨3, ![m0, m1, m2]⟩ : Shape).Idx → Val e) (L : List (View.Piece Val ⟨3, ![n0, n1, n2]⟩ e)) (o0 o1 o2 : ℕ) (h : off = ![o0, o1, o2])
    (A B C : ℕ) (hC : C < n2) (hout : C < o2 ∨ o2 + m2 ≤ C) :
    at3 (v.read Val (v.writes Val f (⟨Rect.unit (s := ⟨3, ![n0, n1, n2]⟩) off ![m0, m1, m2] inb, w⟩ :: L))) A B C
      = at3 (v.read Val (v.writes Val f L)) A B C := by
  refine View.read_writes_cons_unit_of_not_mem v f inb w L _ h 2 ?_
  show C % n2 < o2 ∨ o2 + m2 ≤ C % n2
  rwa [Nat.mod_eq_of_lt hC]

end Strided

/-! ## The input rows, spread -/

/-- The input as the kernel keeps it: rows 0 to 7 hold the elements of even column, rows 8 to 15 those of odd column,
each at the place of the pair's first element in the left half and one place shifted in the right half. -/
def xtv (x : S8x4992.Idx → EReal) (kk r K : ℕ) : EReal :=
  if r < 8 then (if K % 2 = 0 then at2 x r (kk * 128 + K % 128 + K / 128) else 0)
  else (if K % 2 = 0 then 0 else at2 x (r - 8) (kk * 128 + K % 128 - 1 + K / 128))

/-- The first `k` blocks of the spread input are filled. -/
def XTk (k : ℕ) (x : S8x4992.Idx → EReal) (f : S39x16x256.Idx → EReal) : Prop :=
  ∀ kk r K : ℕ, kk < k → kk < 39 → r < 16 → K < 256 → at3 f kk r K = xtv x kk r K

@[simp] theorem XTk_zero (x : S8x4992.Idx → EReal) (f : S39x16x256.Idx → EReal) : XTk 0 x f := by
  intro kk r K h; omega

theorem sel_bit : ∀ l : Fin 128, k0_pay180 (ix2 (0 : Fin 8) l) = if l.val % 2 = 0 then 1#1 else 0#1 := by decide +kernel

theorem sel_bit' (r : Fin 8) (l : Fin 128) : k0_pay180 (ix2 r l) = if l.val % 2 = 0 then 1#1 else 0#1 :=
  (show k0_pay180 (ix2 r l) = k0_pay180 (ix2 (0 : Fin 8) l) from rfl).trans (sel_bit l)

theorem select_bit {α : Type} (p : Prop) [Decidable p] (a b : α) : Scalar.select (if p then 1#1 else 0#1) a b = if p then a else b := by
  split <;> rfl

theorem pay182_apply (v : FVec Ideal S8x128 .bf16) (r : Fin 16) (l : Fin 128) :
    k0_pay182 (F := Ideal) v (ix3 (0 : Fin 1) r l)
      = if h : r.val < 8 then (if l.val % 2 = 0 then v (ix2 ⟨r.val, h⟩ l) else 0)
        else (if l.val % 2 = 0 then 0 else v (ix2 ⟨r.val - 8, by omega⟩ ⟨l.val - 1, by omega⟩)) := by
  pointwise [k0_pay182, k0_pay181]
  simp only [sel_bit', select_bit]
  by_cases h : r.val < 8
  · rw [dif_pos h, dif_pos h]
  · rw [dif_neg h, dif_neg h]
    by_cases h2 : l.val % 2 = 0
    · rw [if_pos h2, if_pos h2]
    · rw [if_neg h2, if_neg h2]
      have e : (⟨(l.val + 128 - 1) % 128, Nat.mod_lt _ (by omega)⟩ : Fin 128) = ⟨l.val - 1, by omega⟩ := Fin.ext (by have := l.isLt; show (l.val + 128 - 1) % 128 = l.val - 1; omega)
      exact congrArg (fun z => v (ix2 _ z)) e

theorem pay183_apply (v : FVec Ideal S8x128 .bf16) (r : Fin 16) (l : Fin 128) :
    k0_pay183 (F := Ideal) v (ix3 (0 : Fin 1) r l)
      = if h : r.val < 8 then (if h2 : l.val % 2 = 0 then v (ix2 ⟨r.val, h⟩ ⟨l.val + 1, by omega⟩) else 0)
        else (if l.val % 2 = 0 then 0 else v (ix2 ⟨r.val - 8, by omega⟩ l)) := by
  pointwise [k0_pay183, k0_pay181]
  simp only [sel_bit', select_bit]
  by_cases h : r.val < 8
  · rw [dif_pos h, dif_pos h]
    by_cases h2 : l.val % 2 = 0
    · rw [if_pos h2, dif_pos h2]
      have e : (⟨(l.val + 128 - 127) % 128, Nat.mod_lt _ (by omega)⟩ : Fin 128) = ⟨l.val + 1, by omega⟩ := Fin.ext (by have := l.isLt; show (l.val + 128 - 127) % 128 = l.val + 1; omega)
      exact congrArg (fun z => v (ix2 _ z)) e
    · rw [if_neg h2, dif_neg h2]
  · rw [dif_neg h, dif_neg h]

theorem pay184_apply (v w : FVec Ideal S39x128 .bf16) (g : Fin 39) (h : Fin 2) (l : Fin 128) :
    k0_pay184 (F := Ideal) v w (ix3 g h l) = if h.val % 2 = 0 then v (ix2 g l) else w (ix2 g l) := by
  pointwise [k0_pay184]

theorem pay4_apply (v : FVec Ideal S8x2x128 .bf16) (g : Fin 8) (h : Fin 2) (l : Fin 128) :
    k0_pay4 (F := Ideal) v (ix3 g h l) = v (ix3 g h l) := by
  pointwise [k0_pay4]
  by_cases hh : h.val % 2 = 0
  · rw [if_pos hh]; exact congrArg (fun z => v (ix3 g z l)) (Fin.ext (by show 2 * (h.val / 2) = h.val; omega))
  · rw [if_neg hh]; exact congrArg (fun z => v (ix3 g z l)) (Fin.ext (by show 2 * (h.val / 2) + 1 = h.val; omega))

theorem pay212_apply (v : FVec Ideal S16x256 .f32) (w : FVec Ideal S1x16x256 .f32) (r : Fin 16) (c : Fin 256) :
    k0_pay212 (F := Ideal) v w (ix2 r c) = v (ix2 r c) + w (ix3 0 r c) := by
  pointwise [k0_pay212]

theorem XTk.step {k : ℕ} (M3 : Memref sig .tc .vmem S8x4992 .bf16) (M7 : Memref sig .tc .vmem S39x16x256 .bf16)
    {X3 : BufTy.Contents (Elt Ideal) M3.view.ty} {f : BufTy.Contents (Elt Ideal) M7.view.ty}
    (hf : XTk k (M3.view.read (Elt Ideal) X3) (M7.view.read (Elt Ideal) f)) (hk : k < 39)
    {o1 : Fin 2 → ℕ} {o2 o3 : Fin 3 → ℕ} (i1 : ∀ a, o1 a + S8x128.size a ≤ S8x4992.size a)
    (i2 : ∀ a, o2 a + S1x16x128.size a ≤ S39x16x256.size a) (i3 : ∀ a, o3 a + S1x16x128.size a ≤ S39x16x256.size a)
    (h1 : o1 = ![0, 128 * k]) (h2 : o2 = ![k, 0, 0]) (h3 : o3 = ![k, 0, 128]) :
    XTk (k + 1) (M3.view.read (Elt Ideal) X3) (M7.view.read (Elt Ideal) (M7.view.writes (Elt Ideal) f
      [⟨Rect.unit (s := S39x16x256) o3 S1x16x128.size i3, k0_pay183 (F := Ideal) (M3.view.readAt (Elt Ideal) (Rect.unit (s := S8x4992) o1 S8x128.size i1).toLoadRect X3)⟩,
       ⟨Rect.unit (s := S39x16x256) o2 S1x16x128.size i2, k0_pay182 (F := Ideal) (M3.view.readAt (Elt Ideal) (Rect.unit (s := S8x4992) o1 S8x128.size i1).toLoadRect X3)⟩])) := by
  intro kk r K hkk hkk' hr hK
  have rd : ∀ (a : Fin 8) (b : Fin 128), M3.view.readAt (Elt Ideal) (Rect.unit (s := S8x4992) o1 S8x128.size i1).toLoadRect X3 (ix2 a b)
      = at2 (M3.view.read (Elt Ideal) X3) a.val (128 * k + b.val) := fun a b => by
    refine (readAt2 M3.view X3 i1 _ _ h1 a b).trans ?_
    rw [Nat.zero_add]
  by_cases h : kk = k
  · subst h
    unfold xtv
    by_cases hh : 128 ≤ K
    · refine (write3_in M7.view f i3 _ _ kk 0 128 h3 (0 : Fin 1) (⟨r, hr⟩ : Fin 16) (⟨K - 128, by omega⟩ : Fin 128) kk r K rfl (Nat.zero_add _).symm (by show K = 128 + (K - 128); omega)).trans ?_
      refine (pay183_apply _ _ _).trans ?_
      have e : (K - 128) % 2 = K % 2 := by omega
      by_cases h8 : r < 8
      · rw [dif_pos h8, if_pos h8]
        by_cases h2 : K % 2 = 0
        · rw [dif_pos (show (K - 128) % 2 = 0 by omega), if_pos h2, rd]
          congr 1
          show 128 * kk + (K - 128 + 1) = _
          omega
        · rw [dif_neg (show ¬ (K - 128) % 2 = 0 by omega), if_neg h2]
      · rw [dif_neg h8, if_neg h8]
        by_cases h2 : K % 2 = 0
        · rw [if_pos (show (K - 128) % 2 = 0 by omega), if_pos h2]
        · rw [if_neg (show ¬ (K - 128) % 2 = 0 by omega), if_neg h2, rd]
          congr 1
          show 128 * kk + (K - 128) = _
          omega
    · refine (write3_outc M7.view f i3 _ _ kk 0 128 h3 kk r K hK (Or.inl (by omega))).trans ?_
      refine (write3_in M7.view f i2 _ _ kk 0 0 h2 (0 : Fin 1) (⟨r, hr⟩ : Fin 16) (⟨K, by omega⟩ : Fin 128) kk r K rfl (Nat.zero_add _).symm (Nat.zero_add _).symm).trans ?_
      refine (pay182_apply _ _ _).trans ?_
      by_cases h8 : r < 8
      · rw [dif_pos h8, if_pos h8]
        by_cases h2 : K % 2 = 0
        · rw [if_pos h2, if_pos h2, rd]
          congr 1
          show 128 * kk + K = _
          omega
        · rw [if_neg h2, if_neg h2]
      · rw [dif_neg h8, if_neg h8]
        by_cases h2 : K % 2 = 0
        · rw [if_pos h2, if_pos h2]
        · rw [if_neg h2, if_neg h2, rd]
          congr 1
          show 128 * kk + (K - 1) = _
          omega
  · rw [write3_out M7.view f i3 _ _ k 0 128 h3 kk r K hkk' hr (Or.inl (by omega)),
      write3_out M7.view f i2 _ _ k 0 0 h2 kk r K hkk' hr (Or.inl (by omega)), View.writes_nil]
    exact hf kk r K (by omega) hkk' hr hK

/-! ## The table of pairs of scale columns -/

/-- The first `k` pairs of scale columns are in the table. -/
def TABk (k : ℕ) (x : S39x3840.Idx → EReal) (f : S664x2x128.Idx → EReal) : Prop :=
  ∀ g q h l : ℕ, q < k → q < 15 → g < 39 → h < 2 → l < 128 → at3 f (g * 17 + q) h l = at2 x g ((2 * q + h) * 128 + l)

@[simp] theorem TABk_zero (x : S39x3840.Idx → EReal) (f : S664x2x128.Idx → EReal) : TABk 0 x f := by
  intro g q h l hq; omega

theorem TABk.step {k : ℕ} (M5 : Memref sig .tc .vmem S39x3840 .bf16) (M8 : Memref sig .tc .vmem S664x2x128 .bf16)
    {X5 : BufTy.Contents (Elt Ideal) M5.view.ty} {f : BufTy.Contents (Elt Ideal) M8.view.ty}
    (hf : TABk k (M5.view.read (Elt Ideal) X5) (M8.view.read (Elt Ideal) f)) (hk : k < 15)
    {o4 o5 : Fin 2 → ℕ} {o6 : Fin 3 → ℕ} (i4 : ∀ a, o4 a + S39x128.size a ≤ S39x3840.size a) (i5 : ∀ a, o5 a + S39x128.size a ≤ S39x3840.size a)
    {i6 p6} (h4 : o4 = ![0, 256 * k]) (h5 : o5 = ![0, 256 * k + 128]) (h6 : o6 = ![k, 0, 0]) :
    TABk (k + 1) (M5.view.read (Elt Ideal) X5) (M8.view.read (Elt Ideal) (M8.view.writes (Elt Ideal) f
      [⟨⟨(⟨o6, S39x2x128.size, ![17, 1, 1], i6⟩ : LoadRect S664x2x128), p6⟩,
        k0_pay184 (F := Ideal) (M5.view.readAt (Elt Ideal) (Rect.unit (s := S39x3840) o4 S39x128.size i4).toLoadRect X5)
          (M5.view.readAt (Elt Ideal) (Rect.unit (s := S39x3840) o5 S39x128.size i5).toLoadRect X5)⟩])) := by
  intro g q h l hq hq' hg hh hl
  by_cases e : q = k
  · subst e
    refine (writeS_in M8.view f _ [] q h6 (⟨g, hg⟩ : Fin 39) (⟨h, hh⟩ : Fin 2) (⟨l, hl⟩ : Fin 128) (g * 17 + q) h l
      (by show g * 17 + q = q + 17 * g; omega) rfl rfl (by omega) hh hl).trans ?_
    refine (pay184_apply _ _ _ _ _).trans ?_
    by_cases h0 : h = 0
    · subst h0
      rw [if_pos (by rfl)]
      refine (readAt2 M5.view X5 i4 _ _ h4 (⟨g, hg⟩ : Fin 39) (⟨l, hl⟩ : Fin 128)).trans ?_
      congr 1
      · exact Nat.zero_add _
      · show 256 * q + l = _; omega
    · have h1 : h = 1 := by omega
      subst h1
      rw [if_neg (by show ¬ 1 % 2 = 0; decide)]
      refine (readAt2 M5.view X5 i5 _ _ h5 (⟨g, hg⟩ : Fin 39) (⟨l, hl⟩ : Fin 128)).trans ?_
      congr 1
      · exact Nat.zero_add _
      · show 256 * q + 128 + l = _; omega
  · rw [writeS_out M8.view f _ [] k h6 (g * 17 + q) h l (by omega) (fun a ha => by omega), View.writes_nil]
    exact hf g q h l (by omega) hq' hg hh hl

/-! ## The expanded scales -/

/-- The group a row belongs to. -/
def gw (x : S4992.Idx → BitVec 32) (j : ℕ) : ℕ := (x (ix1 (Fin.ofNat 4992 j))).toNat

/-- Row `r` of a step, pair `q`: the place among the expanded scales. -/
def ro (r q : ℕ) : ℕ := (r / 16 * 2 + r % 2) * 144 + r % 16 / 2 + 9 * q

/-- The scales of the first `k` rows from row `n` on are expanded. -/
def SAk (n k : ℕ) (x : S4992.Idx → BitVec 32) (tab : S664x2x128.Idx → EReal) (f : S2304x2x128.Idx → EReal) : Prop :=
  ∀ r q h l : ℕ, r < k → r < 128 → q < 16 → h < 2 → l < 128 → at3 f (ro r q) h l = at3 tab (gw x (n + r) * 17 + q) h l

@[simp] theorem SAk_zero (n : ℕ) (x : S4992.Idx → BitVec 32) (tab : S664x2x128.Idx → EReal) (f : S2304x2x128.Idx → EReal) : SAk n 0 x tab f := by
  intro r q h l hr; omega

theorem SAk.step {n k : ℕ} {x : S4992.Idx → BitVec 32} (M8 : Memref sig .tc .vmem S664x2x128 .bf16) (M9 : Memref sig .tc .vmem S2304x2x128 .bf16)
    {X8 : BufTy.Contents (Elt Ideal) M8.view.ty} {f : BufTy.Contents (Elt Ideal) M9.view.ty}
    (hf : SAk n k x (M8.view.read (Elt Ideal) X8) (M9.view.read (Elt Ideal) f)) (hk : k < 128)
    {oa ob oc od : Fin 3 → ℕ} (ia : ∀ a, oa a + S8x2x128.size a ≤ S664x2x128.size a) (ib : ∀ a, ob a + S8x2x128.size a ≤ S664x2x128.size a)
    {ic id pc pd} (ha : oa = ![gw x (n + k) * 17, 0, 0]) (hb : ob = ![gw x (n + k) * 17 + 8, 0, 0])
    (hc : oc = ![(k / 16 * 2 + k % 2) * 144 + k % 16 / 2 + 0, 0, 0]) (hd : od = ![(k / 16 * 2 + k % 2) * 144 + k % 16 / 2 + 72, 0, 0]) :
    SAk n (k + 1) x (M8.view.read (Elt Ideal) X8) (M9.view.read (Elt Ideal) (M9.view.writes (Elt Ideal) f
      [⟨⟨(⟨od, S8x2x128.size, ![9, 1, 1], id⟩ : LoadRect S2304x2x128), pd⟩,
        k0_pay4 (F := Ideal) (M8.view.readAt (Elt Ideal) (Rect.unit (s := S664x2x128) ob S8x2x128.size ib).toLoadRect X8)⟩,
       ⟨⟨(⟨oc, S8x2x128.size, ![9, 1, 1], ic⟩ : LoadRect S2304x2x128), pc⟩,
        k0_pay4 (F := Ideal) (M8.view.readAt (Elt Ideal) (Rect.unit (s := S664x2x128) oa S8x2x128.size ia).toLoadRect X8)⟩])) := by
  intro r q h l hr hr' hq hh hl
  have hro : ro r q < 2304 := by unfold ro; omega
  by_cases e : r = k
  · subst e
    by_cases h8 : 8 ≤ q
    · refine (writeS_in M9.view f _ _ _ hd (⟨q - 8, by omega⟩ : Fin 8) (⟨h, hh⟩ : Fin 2) (⟨l, hl⟩ : Fin 128) (ro r q) h l
        (by show ro r q = _ + 9 * (q - 8); unfold ro; omega) rfl rfl hro hh hl).trans ?_
      refine (pay4_apply _ _ _ _).trans ?_
      refine (readAt3 M8.view X8 ib _ _ _ hb (⟨q - 8, by omega⟩ : Fin 8) (⟨h, hh⟩ : Fin 2) (⟨l, hl⟩ : Fin 128)).trans ?_
      congr 1
      · show _ + 8 + (q - 8) = _; omega
      · exact Nat.zero_add _
      · exact Nat.zero_add _
    · refine (writeS_out M9.view f _ _ _ hd (ro r q) h l hro (fun a ha => by unfold ro; omega)).trans ?_
      refine (writeS_in M9.view f _ _ _ hc (⟨q, by omega⟩ : Fin 8) (⟨h, hh⟩ : Fin 2) (⟨l, hl⟩ : Fin 128) (ro r q) h l
        (by show ro r q = _ + 9 * q; unfold ro; omega) rfl rfl hro hh hl).trans ?_
      refine (pay4_apply _ _ _ _).trans ?_
      refine (readAt3 M8.view X8 ia _ _ _ ha (⟨q, by omega⟩ : Fin 8) (⟨h, hh⟩ : Fin 2) (⟨l, hl⟩ : Fin 128)).trans ?_
      congr 1
      · exact Nat.zero_add _
      · exact Nat.zero_add _
  · have key : ∀ b a, b ≤ 72 → 9 ∣ b → a < 8 → ro r q ≠ (k / 16 * 2 + k % 2) * 144 + k % 16 / 2 + b + 9 * a := by
      intro b a hb h9 ha h
      obtain ⟨d, rfl⟩ := h9
      unfold ro at h
      have lin : ∀ X y X' y' : ℕ, y < 8 → y' < 8 → X * 144 + y + 9 * q = X' * 144 + y' + 9 * d + 9 * a → X = X' ∧ y = y' := by
        intro X y X' y' h1 h2 h3
        have hX : X = X' := by omega
        subst hX
        exact ⟨rfl, by omega⟩
      obtain ⟨h1, h2⟩ := lin _ _ _ _ (by omega) (by omega) h
      omega
    rw [writeS_out M9.view f _ _ _ hd (ro r q) h l hro (fun a ha => key 72 a (by omega) (by decide) ha),
      writeS_out M9.view f _ _ _ hc (ro r q) h l hro (fun a ha => key 0 a (by omega) (by decide) ha), View.writes_nil]
    exact hf r q h l (by omega) hr' hq hh hl

/-- The weight of row `K` of step `s`, column `l` of pair `q`, out of the packed bytes, the groups and the scale table. -/
def wsp (A : S832x3840.Idx → BitVec 8) (x : S4992.Idx → BitVec 32) (tab : S664x2x128.Idx → EReal) (n s q K l : ℕ) : EReal :=
  val4 ((if K < 128 then lo4 else hi4) (Wb A s q (K % 128 / 2) (K % 2) l))
    * at3 tab (gw x (n + (2 * (K % 128 / 2) + K / 128)) * 17 + q) (K % 2) l

theorem wraw_eq {A : S832x3840.Idx → BitVec 8} {S : S2304x2x128.Idx → EReal} {x : S4992.Idx → BitVec 32} {tab : S664x2x128.Idx → EReal} {n : ℕ}
    (h : SAk n 128 x tab S) (s q K l : ℕ) (hq : q < 15) (hK : K < 256) (hl : l < 128) : wraw A S s q K l = wsp A x tab n s q K l := by
  unfold wraw wsp Ts
  congr 1
  exact h (2 * (K % 128 / 2) + K / 128) q (K % 2) l (by omega) (by omega) (by omega) (by omega) hl

/-! ## The sums over a grid point's steps -/

/-- A grid point's sums, added to the accumulator for the first `k` pairs of pairs. -/
def AccRel (k : ℕ) (P : S7x16x256.Idx → EReal) (G f : S16x1920.Idx → EReal) : Prop :=
  ∀ r c : ℕ, r < 16 → c < 1920 → at2 f r c = at2 G r c + if c / 256 < k then at3 P (c / 256) r (c % 256) else 0

@[refl] theorem AccRel.refl (P : S7x16x256.Idx → EReal) (G : S16x1920.Idx → EReal) : AccRel 0 P G G := by
  intro r c _ _
  rw [if_neg (Nat.not_lt_zero _), add_zero]

theorem AccRel.step {k : ℕ} {G : S16x1920.Idx → EReal} (M11 : Memref sig .tc .vmem S16x1920 .f32) (M12 : Memref sig .tc .vmem S7x16x256 .f32)
    {X12 : BufTy.Contents (Elt Ideal) M12.view.ty} {f : BufTy.Contents (Elt Ideal) M11.view.ty}
    (hf : AccRel k (M12.view.read (Elt Ideal) X12) G (M11.view.read (Elt Ideal) f)) (hk : k < 7)
    {oa : Fin 2 → ℕ} {ob : Fin 3 → ℕ} (ia : ∀ a, oa a + S16x256.size a ≤ S16x1920.size a) (ib : ∀ a, ob a + S1x16x256.size a ≤ S7x16x256.size a)
    (ha : oa = ![0, 256 * k]) (hb : ob = ![k, 0, 0]) :
    AccRel (k + 1) (M12.view.read (Elt Ideal) X12) G (M11.view.read (Elt Ideal) (M11.view.writes (Elt Ideal) f
      [⟨Rect.unit (s := S16x1920) oa S16x256.size ia, k0_pay212 (F := Ideal)
        (M11.view.readAt (Elt Ideal) (Rect.unit (s := S16x1920) oa S16x256.size ia).toLoadRect f)
        (M12.view.readAt (Elt Ideal) (Rect.unit (s := S7x16x256) ob S1x16x256.size ib).toLoadRect X12)⟩])) := by
  intro r c hr hc
  by_cases h : c / 256 = k
  · refine (write2_in M11.view f ia _ [] 0 (256 * k) ha (⟨r, hr⟩ : Fin 16) (⟨c - 256 * k, by omega⟩ : Fin 256) r c (Nat.zero_add _).symm (by show c = 256 * k + (c - 256 * k); omega)).trans ?_
    refine (pay212_apply _ _ _ _).trans ?_
    rw [if_pos (by omega)]
    refine congrArg₂ (· + ·) ?_ ?_
    · refine (readAt2 M11.view f ia _ _ ha (⟨r, hr⟩ : Fin 16) (⟨c - 256 * k, by omega⟩ : Fin 256)).trans ?_
      have := hf r c hr hc
      rw [if_neg (by omega), add_zero] at this
      rw [← this]
      congr 1
      · exact Nat.zero_add _
      · show 256 * k + (c - 256 * k) = c; omega
    · refine (readAt3 M12.view X12 ib _ _ _ hb (0 : Fin 1) (⟨r, hr⟩ : Fin 16) (⟨c - 256 * k, by omega⟩ : Fin 256)).trans ?_
      congr 1
      · exact h.symm
      · exact Nat.zero_add _
      · show 0 + (c - 256 * k) = c % 256; omega
  · rw [write2_out M11.view f ia _ [] 0 (256 * k) ha r c hr hc (Or.inr (by omega)), View.writes_nil]
    rw [hf r c hr hc]
    congr 1
    by_cases h2 : c / 256 < k
    · rw [if_pos h2, if_pos (by omega)]
    · rw [if_neg h2, if_neg (by omega)]

/-! ## The result -/

/-- The first `k` pairs of blocks of the result are copied out of the accumulator. -/
def OutIs (k : ℕ) (a : S16x1920.Idx → EReal) (f : S8x3840.Idx → EReal) : Prop :=
  ∀ b c : ℕ, c / 256 < k → b < 8 → c < 3840 → at2 f b c = at2 a (c / 128 % 2 * 8 + b) (c / 256 * 128 + c % 128)

@[simp] theorem OutIs_zero (a : S16x1920.Idx → EReal) (f : S8x3840.Idx → EReal) : OutIs 0 a f := by
  intro b c h; omega

theorem OutIs.step {k : ℕ} (M11 : Memref sig .tc .vmem S16x1920 .f32) (M6 : Memref sig .tc .vmem S8x3840 .bf16)
    {X11 : BufTy.Contents (Elt Ideal) M11.view.ty} {f : BufTy.Contents (Elt Ideal) M6.view.ty}
    (hf : OutIs k (M11.view.read (Elt Ideal) X11) (M6.view.read (Elt Ideal) f)) (hk : k < 15)
    {oa ob oc od : Fin 2 → ℕ} (ia : ∀ a, oa a + S8x128.size a ≤ S16x1920.size a) (ib : ∀ a, ob a + S8x128.size a ≤ S16x1920.size a)
    (ic : ∀ a, oc a + S8x128.size a ≤ S8x3840.size a) (id : ∀ a, od a + S8x128.size a ≤ S8x3840.size a)
    (ha : oa = ![0, 128 * k]) (hb : ob = ![8, 128 * k]) (hc : oc = ![0, 256 * k]) (hd : od = ![0, 256 * k + 128]) :
    OutIs (k + 1) (M11.view.read (Elt Ideal) X11) (M6.view.read (Elt Ideal) (M6.view.writes (Elt Ideal) f
      [⟨Rect.unit (s := S8x3840) od S8x128.size id, k0_pay3 (F := Ideal) (M11.view.readAt (Elt Ideal) (Rect.unit (s := S16x1920) ob S8x128.size ib).toLoadRect X11)⟩,
       ⟨Rect.unit (s := S8x3840) oc S8x128.size ic, k0_pay2 (F := Ideal) (M11.view.readAt (Elt Ideal) (Rect.unit (s := S16x1920) oa S8x128.size ia).toLoadRect X11)⟩])) := by
  intro b c h hb' hc'
  by_cases e : c / 256 = k
  · by_cases h1 : c / 128 % 2 = 1
    · refine (write2_in M6.view f id _ _ 0 (256 * k + 128) hd (⟨b, hb'⟩ : Fin 8) (⟨c - (256 * k + 128), by omega⟩ : Fin 128) b c (Nat.zero_add _).symm (by show c = _ + (c - _); omega)).trans ?_
      refine (readAt2 M11.view X11 ib _ _ hb (⟨b, hb'⟩ : Fin 8) (⟨c - (256 * k + 128), by omega⟩ : Fin 128)).trans ?_
      congr 1
      · show 8 + b = _; omega
      · show 128 * k + (c - (256 * k + 128)) = _; omega
    · refine (write2_out M6.view f id _ _ 0 (256 * k + 128) hd b c hb' hc' (Or.inr (by omega))).trans ?_
      refine (write2_in M6.view f ic _ _ 0 (256 * k) hc (⟨b, hb'⟩ : Fin 8) (⟨c - 256 * k, by omega⟩ : Fin 128) b c (Nat.zero_add _).symm (by show c = _ + (c - _); omega)).trans ?_
      refine (readAt2 M11.view X11 ia _ _ ha (⟨b, hb'⟩ : Fin 8) (⟨c - 256 * k, by omega⟩ : Fin 128)).trans ?_
      congr 1
      · show 0 + b = _; omega
      · show 128 * k + (c - 256 * k) = _; omega
  · rw [write2_out M6.view f id _ _ 0 (256 * k + 128) hd b c hb' hc' (Or.inr (by omega)),
      write2_out M6.view f ic _ _ 0 (256 * k) hc b c hb' hc' (Or.inr (by omega)), View.writes_nil]
    exact hf b c (by omega) hb' hc'

end Cert.KernelIdeal.Val

end
-- ==== Proof.LoopsProd.lean ====
/- The loops that multiply a step's input by its tiles of weights, each by an invariant that gives the sums by value. -/
module

public import proofs.«01_k».proof.Proof.Gen.KernelIdeal.Frame
public import proofs.«01_k».proof.Proof.Gen.KernelIdeal.Loops
public import Idealize.ShloMosaic.Lib.Tactic
public import Idealize.ShloMosaic.PureOps.Ideal
public import proofs.«01_k».proof.Proof.Spec2

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ
theorem off_eq0 : ∀ (k0_t4 : Fin k0_t4_loop.trips) (k0_t6 : Fin k0_t6_loop.trips), k0_off14 k0_t4 k0_t6 0#32 = ![64 * (2 * k0_t4.val) + 0, (2 * (2 * k0_t6.val) + 0) * 128] := by decide +kernel
theorem off_eq1 : ∀ (k0_t4 : Fin k0_t4_loop.trips) (k0_t6 : Fin k0_t6_loop.trips), k0_off15 k0_t4 k0_t6 0#32 = ![64 * (2 * k0_t4.val) + 0, (2 * (2 * k0_t6.val) + 1) * 128] := by decide +kernel
theorem off_eq2 : ∀ (k0_t4 : Fin k0_t4_loop.trips) (k0_t6 : Fin k0_t6_loop.trips), k0_off14 k0_t4 k0_t6 32#32 = ![64 * (2 * k0_t4.val) + 32, (2 * (2 * k0_t6.val) + 0) * 128] := by decide +kernel
theorem off_eq3 : ∀ (k0_t4 : Fin k0_t4_loop.trips) (k0_t6 : Fin k0_t6_loop.trips), k0_off15 k0_t4 k0_t6 32#32 = ![64 * (2 * k0_t4.val) + 32, (2 * (2 * k0_t6.val) + 1) * 128] := by decide +kernel
theorem off_eq4 : ∀ (k0_t6 : Fin k0_t6_loop.trips), k0_off16 k0_t6 0#32 = ![144 * (2 * 0 + 0) + 9 * (2 * k0_t6.val), 0, 0] := by decide +kernel
theorem off_eq5 : ∀ (k0_t6 : Fin k0_t6_loop.trips), k0_off16 k0_t6 288#32 = ![144 * (2 * 1 + 0) + 9 * (2 * k0_t6.val), 0, 0] := by decide +kernel
theorem off_eq6 : ∀ (k0_t6 : Fin k0_t6_loop.trips), k0_off16 k0_t6 576#32 = ![144 * (2 * 2 + 0) + 9 * (2 * k0_t6.val), 0, 0] := by decide +kernel
theorem off_eq7 : ∀ (k0_t6 : Fin k0_t6_loop.trips), k0_off16 k0_t6 864#32 = ![144 * (2 * 3 + 0) + 9 * (2 * k0_t6.val), 0, 0] := by decide +kernel
theorem off_eq8 : ∀ (k0_t6 : Fin k0_t6_loop.trips), k0_off16 k0_t6 1152#32 = ![144 * (2 * 4 + 0) + 9 * (2 * k0_t6.val), 0, 0] := by decide +kernel
theorem off_eq9 : ∀ (k0_t6 : Fin k0_t6_loop.trips), k0_off16 k0_t6 1440#32 = ![144 * (2 * 5 + 0) + 9 * (2 * k0_t6.val), 0, 0] := by decide +kernel
theorem off_eq10 : ∀ (k0_t6 : Fin k0_t6_loop.trips), k0_off16 k0_t6 1728#32 = ![144 * (2 * 6 + 0) + 9 * (2 * k0_t6.val), 0, 0] := by decide +kernel
theorem off_eq11 : ∀ (k0_t6 : Fin k0_t6_loop.trips), k0_off16 k0_t6 2016#32 = ![144 * (2 * 7 + 0) + 9 * (2 * k0_t6.val), 0, 0] := by decide +kernel
theorem off_eq12 : ∀ (k0_t6 : Fin k0_t6_loop.trips), k0_off16 k0_t6 144#32 = ![144 * (2 * 0 + 1) + 9 * (2 * k0_t6.val), 0, 0] := by decide +kernel
theorem off_eq13 : ∀ (k0_t6 : Fin k0_t6_loop.trips), k0_off16 k0_t6 432#32 = ![144 * (2 * 1 + 1) + 9 * (2 * k0_t6.val), 0, 0] := by decide +kernel
theorem off_eq14 : ∀ (k0_t6 : Fin k0_t6_loop.trips), k0_off16 k0_t6 720#32 = ![144 * (2 * 2 + 1) + 9 * (2 * k0_t6.val), 0, 0] := by decide +kernel
theorem off_eq15 : ∀ (k0_t6 : Fin k0_t6_loop.trips), k0_off16 k0_t6 1008#32 = ![144 * (2 * 3 + 1) + 9 * (2 * k0_t6.val), 0, 0] := by decide +kernel
theorem off_eq16 : ∀ (k0_t6 : Fin k0_t6_loop.trips), k0_off16 k0_t6 1296#32 = ![144 * (2 * 4 + 1) + 9 * (2 * k0_t6.val), 0, 0] := by decide +kernel
theorem off_eq17 : ∀ (k0_t6 : Fin k0_t6_loop.trips), k0_off16 k0_t6 1584#32 = ![144 * (2 * 5 + 1) + 9 * (2 * k0_t6.val), 0, 0] := by decide +kernel
theorem off_eq18 : ∀ (k0_t6 : Fin k0_t6_loop.trips), k0_off16 k0_t6 1872#32 = ![144 * (2 * 6 + 1) + 9 * (2 * k0_t6.val), 0, 0] := by decide +kernel
theorem off_eq19 : ∀ (k0_t6 : Fin k0_t6_loop.trips), k0_off16 k0_t6 2160#32 = ![144 * (2 * 7 + 1) + 9 * (2 * k0_t6.val), 0, 0] := by decide +kernel
theorem off_eq20 : ∀ (k0_t4 : Fin k0_t4_loop.trips) (k0_t6 : Fin k0_t6_loop.trips), k0_off17 k0_t4 k0_t6 0#32 = ![64 * (2 * k0_t4.val) + 0, (2 * (2 * k0_t6.val + 1) + 0) * 128] := by decide +kernel
theorem off_eq21 : ∀ (k0_t4 : Fin k0_t4_loop.trips) (k0_t6 : Fin k0_t6_loop.trips), k0_off18 k0_t4 k0_t6 0#32 = ![64 * (2 * k0_t4.val) + 0, (2 * (2 * k0_t6.val + 1) + 1) * 128] := by decide +kernel
theorem off_eq22 : ∀ (k0_t4 : Fin k0_t4_loop.trips) (k0_t6 : Fin k0_t6_loop.trips), k0_off17 k0_t4 k0_t6 32#32 = ![64 * (2 * k0_t4.val) + 32, (2 * (2 * k0_t6.val + 1) + 0) * 128] := by decide +kernel
theorem off_eq23 : ∀ (k0_t4 : Fin k0_t4_loop.trips) (k0_t6 : Fin k0_t6_loop.trips), k0_off18 k0_t4 k0_t6 32#32 = ![64 * (2 * k0_t4.val) + 32, (2 * (2 * k0_t6.val + 1) + 1) * 128] := by decide +kernel
theorem off_eq24 : ∀ (k0_t6 : Fin k0_t6_loop.trips), k0_off19 k0_t6 0#32 = ![144 * (2 * 0 + 0) + 9 * (2 * k0_t6.val + 1), 0, 0] := by decide +kernel
theorem off_eq25 : ∀ (k0_t6 : Fin k0_t6_loop.trips), k0_off19 k0_t6 288#32 = ![144 * (2 * 1 + 0) + 9 * (2 * k0_t6.val + 1), 0, 0] := by decide +kernel
theorem off_eq26 : ∀ (k0_t6 : Fin k0_t6_loop.trips), k0_off19 k0_t6 576#32 = ![144 * (2 * 2 + 0) + 9 * (2 * k0_t6.val + 1), 0, 0] := by decide +kernel
theorem off_eq27 : ∀ (k0_t6 : Fin k0_t6_loop.trips), k0_off19 k0_t6 864#32 = ![144 * (2 * 3 + 0) + 9 * (2 * k0_t6.val + 1), 0, 0] := by decide +kernel
theorem off_eq28 : ∀ (k0_t6 : Fin k0_t6_loop.trips), k0_off19 k0_t6 1152#32 = ![144 * (2 * 4 + 0) + 9 * (2 * k0_t6.val + 1), 0, 0] := by decide +kernel
theorem off_eq29 : ∀ (k0_t6 : Fin k0_t6_loop.trips), k0_off19 k0_t6 1440#32 = ![144 * (2 * 5 + 0) + 9 * (2 * k0_t6.val + 1), 0, 0] := by decide +kernel
theorem off_eq30 : ∀ (k0_t6 : Fin k0_t6_loop.trips), k0_off19 k0_t6 1728#32 = ![144 * (2 * 6 + 0) + 9 * (2 * k0_t6.val + 1), 0, 0] := by decide +kernel
theorem off_eq31 : ∀ (k0_t6 : Fin k0_t6_loop.trips), k0_off19 k0_t6 2016#32 = ![144 * (2 * 7 + 0) + 9 * (2 * k0_t6.val + 1), 0, 0] := by decide +kernel
theorem off_eq32 : ∀ (k0_t6 : Fin k0_t6_loop.trips), k0_off19 k0_t6 144#32 = ![144 * (2 * 0 + 1) + 9 * (2 * k0_t6.val + 1), 0, 0] := by decide +kernel
theorem off_eq33 : ∀ (k0_t6 : Fin k0_t6_loop.trips), k0_off19 k0_t6 432#32 = ![144 * (2 * 1 + 1) + 9 * (2 * k0_t6.val + 1), 0, 0] := by decide +kernel
theorem off_eq34 : ∀ (k0_t6 : Fin k0_t6_loop.trips), k0_off19 k0_t6 720#32 = ![144 * (2 * 2 + 1) + 9 * (2 * k0_t6.val + 1), 0, 0] := by decide +kernel
theorem off_eq35 : ∀ (k0_t6 : Fin k0_t6_loop.trips), k0_off19 k0_t6 1008#32 = ![144 * (2 * 3 + 1) + 9 * (2 * k0_t6.val + 1), 0, 0] := by decide +kernel
theorem off_eq36 : ∀ (k0_t6 : Fin k0_t6_loop.trips), k0_off19 k0_t6 1296#32 = ![144 * (2 * 4 + 1) + 9 * (2 * k0_t6.val + 1), 0, 0] := by decide +kernel
theorem off_eq37 : ∀ (k0_t6 : Fin k0_t6_loop.trips), k0_off19 k0_t6 1584#32 = ![144 * (2 * 5 + 1) + 9 * (2 * k0_t6.val + 1), 0, 0] := by decide +kernel
theorem off_eq38 : ∀ (k0_t6 : Fin k0_t6_loop.trips), k0_off19 k0_t6 1872#32 = ![144 * (2 * 6 + 1) + 9 * (2 * k0_t6.val + 1), 0, 0] := by decide +kernel
theorem off_eq39 : ∀ (k0_t6 : Fin k0_t6_loop.trips), k0_off19 k0_t6 2160#32 = ![144 * (2 * 7 + 1) + 9 * (2 * k0_t6.val + 1), 0, 0] := by decide +kernel
theorem off_eq40 : ∀ (k0_t6 : Fin k0_t6_loop.trips), k0_off20 k0_t6 = ![k0_t6.val, 0, 0] := by decide +kernel
theorem off_eq41 : ∀ (k0_t4 : Fin k0_t4_loop.trips) (k0_t8 : Fin k0_t8_loop.trips), k0_off27 k0_t4 k0_t8 0#32 = ![64 * (2 * k0_t4.val + 1) + 0, (2 * (2 * k0_t8.val) + 0) * 128] := by decide +kernel
theorem off_eq42 : ∀ (k0_t4 : Fin k0_t4_loop.trips) (k0_t8 : Fin k0_t8_loop.trips), k0_off28 k0_t4 k0_t8 0#32 = ![64 * (2 * k0_t4.val + 1) + 0, (2 * (2 * k0_t8.val) + 1) * 128] := by decide +kernel
theorem off_eq43 : ∀ (k0_t4 : Fin k0_t4_loop.trips) (k0_t8 : Fin k0_t8_loop.trips), k0_off27 k0_t4 k0_t8 32#32 = ![64 * (2 * k0_t4.val + 1) + 32, (2 * (2 * k0_t8.val) + 0) * 128] := by decide +kernel
theorem off_eq44 : ∀ (k0_t4 : Fin k0_t4_loop.trips) (k0_t8 : Fin k0_t8_loop.trips), k0_off28 k0_t4 k0_t8 32#32 = ![64 * (2 * k0_t4.val + 1) + 32, (2 * (2 * k0_t8.val) + 1) * 128] := by decide +kernel
theorem off_eq45 : ∀ (k0_t8 : Fin k0_t8_loop.trips), k0_off29 k0_t8 0#32 = ![144 * (2 * 0 + 0) + 9 * (2 * k0_t8.val), 0, 0] := by decide +kernel
theorem off_eq46 : ∀ (k0_t8 : Fin k0_t8_loop.trips), k0_off29 k0_t8 288#32 = ![144 * (2 * 1 + 0) + 9 * (2 * k0_t8.val), 0, 0] := by decide +kernel
theorem off_eq47 : ∀ (k0_t8 : Fin k0_t8_loop.trips), k0_off29 k0_t8 576#32 = ![144 * (2 * 2 + 0) + 9 * (2 * k0_t8.val), 0, 0] := by decide +kernel
theorem off_eq48 : ∀ (k0_t8 : Fin k0_t8_loop.trips), k0_off29 k0_t8 864#32 = ![144 * (2 * 3 + 0) + 9 * (2 * k0_t8.val), 0, 0] := by decide +kernel
theorem off_eq49 : ∀ (k0_t8 : Fin k0_t8_loop.trips), k0_off29 k0_t8 1152#32 = ![144 * (2 * 4 + 0) + 9 * (2 * k0_t8.val), 0, 0] := by decide +kernel
theorem off_eq50 : ∀ (k0_t8 : Fin k0_t8_loop.trips), k0_off29 k0_t8 1440#32 = ![144 * (2 * 5 + 0) + 9 * (2 * k0_t8.val), 0, 0] := by decide +kernel
theorem off_eq51 : ∀ (k0_t8 : Fin k0_t8_loop.trips), k0_off29 k0_t8 1728#32 = ![144 * (2 * 6 + 0) + 9 * (2 * k0_t8.val), 0, 0] := by decide +kernel
theorem off_eq52 : ∀ (k0_t8 : Fin k0_t8_loop.trips), k0_off29 k0_t8 2016#32 = ![144 * (2 * 7 + 0) + 9 * (2 * k0_t8.val), 0, 0] := by decide +kernel
theorem off_eq53 : ∀ (k0_t8 : Fin k0_t8_loop.trips), k0_off29 k0_t8 144#32 = ![144 * (2 * 0 + 1) + 9 * (2 * k0_t8.val), 0, 0] := by decide +kernel
theorem off_eq54 : ∀ (k0_t8 : Fin k0_t8_loop.trips), k0_off29 k0_t8 432#32 = ![144 * (2 * 1 + 1) + 9 * (2 * k0_t8.val), 0, 0] := by decide +kernel
theorem off_eq55 : ∀ (k0_t8 : Fin k0_t8_loop.trips), k0_off29 k0_t8 720#32 = ![144 * (2 * 2 + 1) + 9 * (2 * k0_t8.val), 0, 0] := by decide +kernel
theorem off_eq56 : ∀ (k0_t8 : Fin k0_t8_loop.trips), k0_off29 k0_t8 1008#32 = ![144 * (2 * 3 + 1) + 9 * (2 * k0_t8.val), 0, 0] := by decide +kernel
theorem off_eq57 : ∀ (k0_t8 : Fin k0_t8_loop.trips), k0_off29 k0_t8 1296#32 = ![144 * (2 * 4 + 1) + 9 * (2 * k0_t8.val), 0, 0] := by decide +kernel
theorem off_eq58 : ∀ (k0_t8 : Fin k0_t8_loop.trips), k0_off29 k0_t8 1584#32 = ![144 * (2 * 5 + 1) + 9 * (2 * k0_t8.val), 0, 0] := by decide +kernel
theorem off_eq59 : ∀ (k0_t8 : Fin k0_t8_loop.trips), k0_off29 k0_t8 1872#32 = ![144 * (2 * 6 + 1) + 9 * (2 * k0_t8.val), 0, 0] := by decide +kernel
theorem off_eq60 : ∀ (k0_t8 : Fin k0_t8_loop.trips), k0_off29 k0_t8 2160#32 = ![144 * (2 * 7 + 1) + 9 * (2 * k0_t8.val), 0, 0] := by decide +kernel
theorem off_eq61 : ∀ (k0_t4 : Fin k0_t4_loop.trips) (k0_t8 : Fin k0_t8_loop.trips), k0_off30 k0_t4 k0_t8 0#32 = ![64 * (2 * k0_t4.val + 1) + 0, (2 * (2 * k0_t8.val + 1) + 0) * 128] := by decide +kernel
theorem off_eq62 : ∀ (k0_t4 : Fin k0_t4_loop.trips) (k0_t8 : Fin k0_t8_loop.trips), k0_off31 k0_t4 k0_t8 0#32 = ![64 * (2 * k0_t4.val + 1) + 0, (2 * (2 * k0_t8.val + 1) + 1) * 128] := by decide +kernel
theorem off_eq63 : ∀ (k0_t4 : Fin k0_t4_loop.trips) (k0_t8 : Fin k0_t8_loop.trips), k0_off30 k0_t4 k0_t8 32#32 = ![64 * (2 * k0_t4.val + 1) + 32, (2 * (2 * k0_t8.val + 1) + 0) * 128] := by decide +kernel
theorem off_eq64 : ∀ (k0_t4 : Fin k0_t4_loop.trips) (k0_t8 : Fin k0_t8_loop.trips), k0_off31 k0_t4 k0_t8 32#32 = ![64 * (2 * k0_t4.val + 1) + 32, (2 * (2 * k0_t8.val + 1) + 1) * 128] := by decide +kernel
theorem off_eq65 : ∀ (k0_t8 : Fin k0_t8_loop.trips), k0_off32 k0_t8 0#32 = ![144 * (2 * 0 + 0) + 9 * (2 * k0_t8.val + 1), 0, 0] := by decide +kernel
theorem off_eq66 : ∀ (k0_t8 : Fin k0_t8_loop.trips), k0_off32 k0_t8 288#32 = ![144 * (2 * 1 + 0) + 9 * (2 * k0_t8.val + 1), 0, 0] := by decide +kernel
theorem off_eq67 : ∀ (k0_t8 : Fin k0_t8_loop.trips), k0_off32 k0_t8 576#32 = ![144 * (2 * 2 + 0) + 9 * (2 * k0_t8.val + 1), 0, 0] := by decide +kernel
theorem off_eq68 : ∀ (k0_t8 : Fin k0_t8_loop.trips), k0_off32 k0_t8 864#32 = ![144 * (2 * 3 + 0) + 9 * (2 * k0_t8.val + 1), 0, 0] := by decide +kernel
theorem off_eq69 : ∀ (k0_t8 : Fin k0_t8_loop.trips), k0_off32 k0_t8 1152#32 = ![144 * (2 * 4 + 0) + 9 * (2 * k0_t8.val + 1), 0, 0] := by decide +kernel
theorem off_eq70 : ∀ (k0_t8 : Fin k0_t8_loop.trips), k0_off32 k0_t8 1440#32 = ![144 * (2 * 5 + 0) + 9 * (2 * k0_t8.val + 1), 0, 0] := by decide +kernel
theorem off_eq71 : ∀ (k0_t8 : Fin k0_t8_loop.trips), k0_off32 k0_t8 1728#32 = ![144 * (2 * 6 + 0) + 9 * (2 * k0_t8.val + 1), 0, 0] := by decide +kernel
theorem off_eq72 : ∀ (k0_t8 : Fin k0_t8_loop.trips), k0_off32 k0_t8 2016#32 = ![144 * (2 * 7 + 0) + 9 * (2 * k0_t8.val + 1), 0, 0] := by decide +kernel
theorem off_eq73 : ∀ (k0_t8 : Fin k0_t8_loop.trips), k0_off32 k0_t8 144#32 = ![144 * (2 * 0 + 1) + 9 * (2 * k0_t8.val + 1), 0, 0] := by decide +kernel
theorem off_eq74 : ∀ (k0_t8 : Fin k0_t8_loop.trips), k0_off32 k0_t8 432#32 = ![144 * (2 * 1 + 1) + 9 * (2 * k0_t8.val + 1), 0, 0] := by decide +kernel
theorem off_eq75 : ∀ (k0_t8 : Fin k0_t8_loop.trips), k0_off32 k0_t8 720#32 = ![144 * (2 * 2 + 1) + 9 * (2 * k0_t8.val + 1), 0, 0] := by decide +kernel
theorem off_eq76 : ∀ (k0_t8 : Fin k0_t8_loop.trips), k0_off32 k0_t8 1008#32 = ![144 * (2 * 3 + 1) + 9 * (2 * k0_t8.val + 1), 0, 0] := by decide +kernel
theorem off_eq77 : ∀ (k0_t8 : Fin k0_t8_loop.trips), k0_off32 k0_t8 1296#32 = ![144 * (2 * 4 + 1) + 9 * (2 * k0_t8.val + 1), 0, 0] := by decide +kernel
theorem off_eq78 : ∀ (k0_t8 : Fin k0_t8_loop.trips), k0_off32 k0_t8 1584#32 = ![144 * (2 * 5 + 1) + 9 * (2 * k0_t8.val + 1), 0, 0] := by decide +kernel
theorem off_eq79 : ∀ (k0_t8 : Fin k0_t8_loop.trips), k0_off32 k0_t8 1872#32 = ![144 * (2 * 6 + 1) + 9 * (2 * k0_t8.val + 1), 0, 0] := by decide +kernel
theorem off_eq80 : ∀ (k0_t8 : Fin k0_t8_loop.trips), k0_off32 k0_t8 2160#32 = ![144 * (2 * 7 + 1) + 9 * (2 * k0_t8.val + 1), 0, 0] := by decide +kernel
theorem off_eq81 : ∀ (k0_t8 : Fin k0_t8_loop.trips), k0_off33 k0_t8 = ![k0_t8.val, 0, 0] := by decide +kernel
theorem off_eq82 : ∀ (k0_t9 : Fin k0_t9_loop.trips), k0_off37 k0_t9 = ![64 * (12) + 0, (2 * (2 * k0_t9.val) + 0) * 128] := by decide +kernel
theorem off_eq83 : ∀ (k0_t9 : Fin k0_t9_loop.trips), k0_off38 k0_t9 = ![64 * (12) + 0, (2 * (2 * k0_t9.val) + 1) * 128] := by decide +kernel
theorem off_eq84 : ∀ (k0_t9 : Fin k0_t9_loop.trips), k0_off40 k0_t9 = ![64 * (12) + 32, (2 * (2 * k0_t9.val) + 0) * 128] := by decide +kernel
theorem off_eq85 : ∀ (k0_t9 : Fin k0_t9_loop.trips), k0_off41 k0_t9 = ![64 * (12) + 32, (2 * (2 * k0_t9.val) + 1) * 128] := by decide +kernel
theorem off_eq86 : ∀ (k0_t9 : Fin k0_t9_loop.trips), k0_off39 k0_t9 0#32 = ![144 * (2 * 0 + 0) + 9 * (2 * k0_t9.val), 0, 0] := by decide +kernel
theorem off_eq87 : ∀ (k0_t9 : Fin k0_t9_loop.trips), k0_off39 k0_t9 288#32 = ![144 * (2 * 1 + 0) + 9 * (2 * k0_t9.val), 0, 0] := by decide +kernel
theorem off_eq88 : ∀ (k0_t9 : Fin k0_t9_loop.trips), k0_off39 k0_t9 576#32 = ![144 * (2 * 2 + 0) + 9 * (2 * k0_t9.val), 0, 0] := by decide +kernel
theorem off_eq89 : ∀ (k0_t9 : Fin k0_t9_loop.trips), k0_off39 k0_t9 864#32 = ![144 * (2 * 3 + 0) + 9 * (2 * k0_t9.val), 0, 0] := by decide +kernel
theorem off_eq90 : ∀ (k0_t9 : Fin k0_t9_loop.trips), k0_off39 k0_t9 1152#32 = ![144 * (2 * 4 + 0) + 9 * (2 * k0_t9.val), 0, 0] := by decide +kernel
theorem off_eq91 : ∀ (k0_t9 : Fin k0_t9_loop.trips), k0_off39 k0_t9 1440#32 = ![144 * (2 * 5 + 0) + 9 * (2 * k0_t9.val), 0, 0] := by decide +kernel
theorem off_eq92 : ∀ (k0_t9 : Fin k0_t9_loop.trips), k0_off39 k0_t9 1728#32 = ![144 * (2 * 6 + 0) + 9 * (2 * k0_t9.val), 0, 0] := by decide +kernel
theorem off_eq93 : ∀ (k0_t9 : Fin k0_t9_loop.trips), k0_off39 k0_t9 2016#32 = ![144 * (2 * 7 + 0) + 9 * (2 * k0_t9.val), 0, 0] := by decide +kernel
theorem off_eq94 : ∀ (k0_t9 : Fin k0_t9_loop.trips), k0_off39 k0_t9 144#32 = ![144 * (2 * 0 + 1) + 9 * (2 * k0_t9.val), 0, 0] := by decide +kernel
theorem off_eq95 : ∀ (k0_t9 : Fin k0_t9_loop.trips), k0_off39 k0_t9 432#32 = ![144 * (2 * 1 + 1) + 9 * (2 * k0_t9.val), 0, 0] := by decide +kernel
theorem off_eq96 : ∀ (k0_t9 : Fin k0_t9_loop.trips), k0_off39 k0_t9 720#32 = ![144 * (2 * 2 + 1) + 9 * (2 * k0_t9.val), 0, 0] := by decide +kernel
theorem off_eq97 : ∀ (k0_t9 : Fin k0_t9_loop.trips), k0_off39 k0_t9 1008#32 = ![144 * (2 * 3 + 1) + 9 * (2 * k0_t9.val), 0, 0] := by decide +kernel
theorem off_eq98 : ∀ (k0_t9 : Fin k0_t9_loop.trips), k0_off39 k0_t9 1296#32 = ![144 * (2 * 4 + 1) + 9 * (2 * k0_t9.val), 0, 0] := by decide +kernel
theorem off_eq99 : ∀ (k0_t9 : Fin k0_t9_loop.trips), k0_off39 k0_t9 1584#32 = ![144 * (2 * 5 + 1) + 9 * (2 * k0_t9.val), 0, 0] := by decide +kernel
theorem off_eq100 : ∀ (k0_t9 : Fin k0_t9_loop.trips), k0_off39 k0_t9 1872#32 = ![144 * (2 * 6 + 1) + 9 * (2 * k0_t9.val), 0, 0] := by decide +kernel
theorem off_eq101 : ∀ (k0_t9 : Fin k0_t9_loop.trips), k0_off39 k0_t9 2160#32 = ![144 * (2 * 7 + 1) + 9 * (2 * k0_t9.val), 0, 0] := by decide +kernel
theorem off_eq102 : ∀ (k0_t9 : Fin k0_t9_loop.trips), k0_off42 k0_t9 = ![64 * (12) + 0, (2 * (2 * k0_t9.val + 1) + 0) * 128] := by decide +kernel
theorem off_eq103 : ∀ (k0_t9 : Fin k0_t9_loop.trips), k0_off43 k0_t9 = ![64 * (12) + 0, (2 * (2 * k0_t9.val + 1) + 1) * 128] := by decide +kernel
theorem off_eq104 : ∀ (k0_t9 : Fin k0_t9_loop.trips), k0_off45 k0_t9 = ![64 * (12) + 32, (2 * (2 * k0_t9.val + 1) + 0) * 128] := by decide +kernel
theorem off_eq105 : ∀ (k0_t9 : Fin k0_t9_loop.trips), k0_off46 k0_t9 = ![64 * (12) + 32, (2 * (2 * k0_t9.val + 1) + 1) * 128] := by decide +kernel
theorem off_eq106 : ∀ (k0_t9 : Fin k0_t9_loop.trips), k0_off44 k0_t9 0#32 = ![144 * (2 * 0 + 0) + 9 * (2 * k0_t9.val + 1), 0, 0] := by decide +kernel
theorem off_eq107 : ∀ (k0_t9 : Fin k0_t9_loop.trips), k0_off44 k0_t9 288#32 = ![144 * (2 * 1 + 0) + 9 * (2 * k0_t9.val + 1), 0, 0] := by decide +kernel
theorem off_eq108 : ∀ (k0_t9 : Fin k0_t9_loop.trips), k0_off44 k0_t9 576#32 = ![144 * (2 * 2 + 0) + 9 * (2 * k0_t9.val + 1), 0, 0] := by decide +kernel
theorem off_eq109 : ∀ (k0_t9 : Fin k0_t9_loop.trips), k0_off44 k0_t9 864#32 = ![144 * (2 * 3 + 0) + 9 * (2 * k0_t9.val + 1), 0, 0] := by decide +kernel
theorem off_eq110 : ∀ (k0_t9 : Fin k0_t9_loop.trips), k0_off44 k0_t9 1152#32 = ![144 * (2 * 4 + 0) + 9 * (2 * k0_t9.val + 1), 0, 0] := by decide +kernel
theorem off_eq111 : ∀ (k0_t9 : Fin k0_t9_loop.trips), k0_off44 k0_t9 1440#32 = ![144 * (2 * 5 + 0) + 9 * (2 * k0_t9.val + 1), 0, 0] := by decide +kernel
theorem off_eq112 : ∀ (k0_t9 : Fin k0_t9_loop.trips), k0_off44 k0_t9 1728#32 = ![144 * (2 * 6 + 0) + 9 * (2 * k0_t9.val + 1), 0, 0] := by decide +kernel
theorem off_eq113 : ∀ (k0_t9 : Fin k0_t9_loop.trips), k0_off44 k0_t9 2016#32 = ![144 * (2 * 7 + 0) + 9 * (2 * k0_t9.val + 1), 0, 0] := by decide +kernel
theorem off_eq114 : ∀ (k0_t9 : Fin k0_t9_loop.trips), k0_off44 k0_t9 144#32 = ![144 * (2 * 0 + 1) + 9 * (2 * k0_t9.val + 1), 0, 0] := by decide +kernel
theorem off_eq115 : ∀ (k0_t9 : Fin k0_t9_loop.trips), k0_off44 k0_t9 432#32 = ![144 * (2 * 1 + 1) + 9 * (2 * k0_t9.val + 1), 0, 0] := by decide +kernel
theorem off_eq116 : ∀ (k0_t9 : Fin k0_t9_loop.trips), k0_off44 k0_t9 720#32 = ![144 * (2 * 2 + 1) + 9 * (2 * k0_t9.val + 1), 0, 0] := by decide +kernel
theorem off_eq117 : ∀ (k0_t9 : Fin k0_t9_loop.trips), k0_off44 k0_t9 1008#32 = ![144 * (2 * 3 + 1) + 9 * (2 * k0_t9.val + 1), 0, 0] := by decide +kernel
theorem off_eq118 : ∀ (k0_t9 : Fin k0_t9_loop.trips), k0_off44 k0_t9 1296#32 = ![144 * (2 * 4 + 1) + 9 * (2 * k0_t9.val + 1), 0, 0] := by decide +kernel
theorem off_eq119 : ∀ (k0_t9 : Fin k0_t9_loop.trips), k0_off44 k0_t9 1584#32 = ![144 * (2 * 5 + 1) + 9 * (2 * k0_t9.val + 1), 0, 0] := by decide +kernel
theorem off_eq120 : ∀ (k0_t9 : Fin k0_t9_loop.trips), k0_off44 k0_t9 1872#32 = ![144 * (2 * 6 + 1) + 9 * (2 * k0_t9.val + 1), 0, 0] := by decide +kernel
theorem off_eq121 : ∀ (k0_t9 : Fin k0_t9_loop.trips), k0_off44 k0_t9 2160#32 = ![144 * (2 * 7 + 1) + 9 * (2 * k0_t9.val + 1), 0, 0] := by decide +kernel
theorem off_eq122 : ∀ (k0_t9 : Fin k0_t9_loop.trips), k0_off47 k0_t9 = ![k0_t9.val, 0, 0] := by decide +kernel

/-- The loop over the pairs of tiles of an even step: each pair's sum grows by the step's product. -/
abbrev inv_t6 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (arg1 : BitVec 32) (v8 : BitVec 32) (c0_i32_9 : BitVec 32) (c1_i32_10 : BitVec 32) (k0_t4 : Fin k0_t4_loop.trips) (v172 : BitVec 32) (v180 : Vec Ideal S1x16x256 .bf16) (X4 : BufTy.Contents (Elt Ideal) arg4.view.ty) (X9 : BufTy.Contents (Elt Ideal) arg9.view.ty) (G : BufTy.Contents (Elt Ideal) arg12.view.ty) (k : ℕ) (u : Unit) : sProp 𝕄G :=
  iprop((arg4.view.loc (c : Thread nD τ) ↦[arg4.view.set]{fullShare} X4) ∗ (arg9.view.loc (c : Thread nD τ) ↦[arg9.view.set]{fullShare} X9) ∗ (∃ f, (arg12.view.loc (c : Thread nD τ) ↦[arg12.view.set]{fullShare} (pick k G f)) ∗ ⌜PartRel v180 (arg4.view.read (Elt Ideal) X4) (arg9.view.read (Elt Ideal) X9) (2 * k0_t4.val) k (arg12.view.read (Elt Ideal) G) (arg12.view.read (Elt Ideal) f)⌝))

set_option warn.classDefReducibility false in
@[sl_loop] def loopInv_t6 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (arg1 : BitVec 32) (v8 : BitVec 32) (c0_i32_9 : BitVec 32) (c1_i32_10 : BitVec 32) (k0_t4 : Fin k0_t4_loop.trips) (v172 : BitVec 32) (v180 : Vec Ideal S1x16x256 .bf16) (X4 : BufTy.Contents (Elt Ideal) arg4.view.ty) (X9 : BufTy.Contents (Elt Ideal) arg9.view.ty) (G : BufTy.Contents (Elt Ideal) arg12.view.ty) :
    LoopInvTy_k0_t6 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg1 v8 c0_i32_9 c1_i32_10 k0_t4 v172 v180 where
  inv := inv_t6 𝒱 c bd i arg2 harg2 arg3 harg3 arg4 harg4 arg5 harg5 arg6 harg6 arg7 harg7 arg8 harg8 arg9 harg9 arg10 harg10 arg11 harg11 arg12 harg12 arg1 v8 c0_i32_9 c1_i32_10 k0_t4 v172 v180 X4 X9 G
  step k acc := by
    have hk := k.isLt
    unfold k0_t6_body
    iintro ⟨H4, H9, ⟨%f, H12, %hf⟩⟩
    have hf := pick_ind (R := fun k f => PartRel v180 (arg4.view.read (Elt Ideal) X4) (arg9.view.read (Elt Ideal) X9) (2 * k0_t4.val) k (arg12.view.read (Elt Ideal) G) (arg12.view.read (Elt Ideal) f)) G (PartRel.refl _ _ _ _ _) hf
    generalize pick k.val G f = g at hf ⊢
    sl_exec
    sl_step
    isplitl [H4]; · iexact H4
    isplitl [H9]; · iexact H9
    iexists _; isplitl [H12]; · iexact H12
    ipureintro
    have hk7 : k.val < 7 := Nat.lt_of_lt_of_le k.isLt k0_t6_abs.2.1
    have hW := wide_apply _ _ (wraw (arg4.view.read (Elt Ideal) X4) (arg9.view.read (Elt Ideal) X9) (2 * k0_t4.val)) (2 * k.val)
      (tile_rd arg4 arg9 X4 X9 (2 * k0_t4.val) (2 * k.val) (ia0 := (k0_off14_inb k0_t4 k 0)) (ib0 := (k0_off15_inb k0_t4 k 0)) (ia1 := (k0_off14_inb k0_t4 k 1)) (ib1 := (k0_off15_inb k0_t4 k 1)) (ie0 := (k0_off16_inb k 0)) (ie1 := (k0_off16_inb k 2)) (ie2 := (k0_off16_inb k 4)) (ie3 := (k0_off16_inb k 6)) (ie4 := (k0_off16_inb k 8)) (ie5 := (k0_off16_inb k 10)) (ie6 := (k0_off16_inb k 12)) (ie7 := (k0_off16_inb k 14)) (io0 := (k0_off16_inb k 1)) (io1 := (k0_off16_inb k 3)) (io2 := (k0_off16_inb k 5)) (io3 := (k0_off16_inb k 7)) (io4 := (k0_off16_inb k 9)) (io5 := (k0_off16_inb k 11)) (io6 := (k0_off16_inb k 13)) (io7 := (k0_off16_inb k 15)) (off_eq0 k0_t4 k) (off_eq1 k0_t4 k) (off_eq2 k0_t4 k) (off_eq3 k0_t4 k) (off_eq4 k) (off_eq5 k) (off_eq6 k) (off_eq7 k) (off_eq8 k) (off_eq9 k) (off_eq10 k) (off_eq11 k) (off_eq12 k) (off_eq13 k) (off_eq14 k) (off_eq15 k) (off_eq16 k) (off_eq17 k) (off_eq18 k) (off_eq19 k))
      (tile_rd arg4 arg9 X4 X9 (2 * k0_t4.val) (2 * k.val + 1) (ia0 := (k0_off17_inb k0_t4 k 0)) (ib0 := (k0_off18_inb k0_t4 k 0)) (ia1 := (k0_off17_inb k0_t4 k 1)) (ib1 := (k0_off18_inb k0_t4 k 1)) (ie0 := (k0_off19_inb k 0)) (ie1 := (k0_off19_inb k 2)) (ie2 := (k0_off19_inb k 4)) (ie3 := (k0_off19_inb k 6)) (ie4 := (k0_off19_inb k 8)) (ie5 := (k0_off19_inb k 10)) (ie6 := (k0_off19_inb k 12)) (ie7 := (k0_off19_inb k 14)) (io0 := (k0_off19_inb k 1)) (io1 := (k0_off19_inb k 3)) (io2 := (k0_off19_inb k 5)) (io3 := (k0_off19_inb k 7)) (io4 := (k0_off19_inb k 9)) (io5 := (k0_off19_inb k 11)) (io6 := (k0_off19_inb k 13)) (io7 := (k0_off19_inb k 15)) (off_eq20 k0_t4 k) (off_eq21 k0_t4 k) (off_eq22 k0_t4 k) (off_eq23 k0_t4 k) (off_eq24 k) (off_eq25 k) (off_eq26 k) (off_eq27 k) (off_eq28 k) (off_eq29 k) (off_eq30 k) (off_eq31 k) (off_eq32 k) (off_eq33 k) (off_eq34 k) (off_eq35 k) (off_eq36 k) (off_eq37 k) (off_eq38 k) (off_eq39 k))
    exact PartRel.step arg12 hf hk7 _ (off_eq40 k) _ hW

/-- The loop over the pairs of tiles of an odd step. -/
abbrev inv_t8 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (arg1 : BitVec 32) (v8 : BitVec 32) (k0_t4 : Fin k0_t4_loop.trips) (v172 : BitVec 32) (v228 : FVec Ideal S64x128 .bf16) (v253 : FVec Ideal S64x128 .bf16) (v299 : FVec Ideal S64x128 .bf16) (v311 : IVec S64x128 32) (v312 : IVec S64x128 32) (v334 : Vec Ideal S1x16x256 .bf16) (v336 : BitVec 32) (X4 : BufTy.Contents (Elt Ideal) arg4.view.ty) (X10 : BufTy.Contents (Elt Ideal) arg10.view.ty) (G : BufTy.Contents (Elt Ideal) arg12.view.ty) (k : ℕ) (u : Unit) : sProp 𝕄G :=
  iprop((arg4.view.loc (c : Thread nD τ) ↦[arg4.view.set]{fullShare} X4) ∗ (arg10.view.loc (c : Thread nD τ) ↦[arg10.view.set]{fullShare} X10) ∗ (∃ f, (arg12.view.loc (c : Thread nD τ) ↦[arg12.view.set]{fullShare} (pick k G f)) ∗ ⌜PartRel v334 (arg4.view.read (Elt Ideal) X4) (arg10.view.read (Elt Ideal) X10) (2 * k0_t4.val + 1) k (arg12.view.read (Elt Ideal) G) (arg12.view.read (Elt Ideal) f)⌝))

set_option warn.classDefReducibility false in
@[sl_loop] def loopInv_t8 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (arg1 : BitVec 32) (v8 : BitVec 32) (k0_t4 : Fin k0_t4_loop.trips) (v172 : BitVec 32) (v228 : FVec Ideal S64x128 .bf16) (v253 : FVec Ideal S64x128 .bf16) (v299 : FVec Ideal S64x128 .bf16) (v311 : IVec S64x128 32) (v312 : IVec S64x128 32) (v334 : Vec Ideal S1x16x256 .bf16) (v336 : BitVec 32) (X4 : BufTy.Contents (Elt Ideal) arg4.view.ty) (X10 : BufTy.Contents (Elt Ideal) arg10.view.ty) (G : BufTy.Contents (Elt Ideal) arg12.view.ty) :
    LoopInvTy_k0_t8 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg1 v8 k0_t4 v172 v228 v253 v299 v311 v312 v334 v336 where
  inv := inv_t8 𝒱 c bd i arg2 harg2 arg3 harg3 arg4 harg4 arg5 harg5 arg6 harg6 arg7 harg7 arg8 harg8 arg9 harg9 arg10 harg10 arg11 harg11 arg12 harg12 arg1 v8 k0_t4 v172 v228 v253 v299 v311 v312 v334 v336 X4 X10 G
  step k acc := by
    have hk := k.isLt
    unfold k0_t8_body
    iintro ⟨H4, H9, ⟨%f, H12, %hf⟩⟩
    have hf := pick_ind (R := fun k f => PartRel v334 (arg4.view.read (Elt Ideal) X4) (arg10.view.read (Elt Ideal) X10) (2 * k0_t4.val + 1) k (arg12.view.read (Elt Ideal) G) (arg12.view.read (Elt Ideal) f)) G (PartRel.refl _ _ _ _ _) hf
    generalize pick k.val G f = g at hf ⊢
    sl_exec
    sl_step
    isplitl [H4]; · iexact H4
    isplitl [H9]; · iexact H9
    iexists _; isplitl [H12]; · iexact H12
    ipureintro
    have hk7 : k.val < 7 := Nat.lt_of_lt_of_le k.isLt k0_t8_abs.2.1
    have hW := wide_apply _ _ (wraw (arg4.view.read (Elt Ideal) X4) (arg10.view.read (Elt Ideal) X10) (2 * k0_t4.val + 1)) (2 * k.val)
      (tile_rd arg4 arg10 X4 X10 (2 * k0_t4.val + 1) (2 * k.val) (ia0 := (k0_off27_inb k0_t4 k 0)) (ib0 := (k0_off28_inb k0_t4 k 0)) (ia1 := (k0_off27_inb k0_t4 k 1)) (ib1 := (k0_off28_inb k0_t4 k 1)) (ie0 := (k0_off29_inb k 0)) (ie1 := (k0_off29_inb k 2)) (ie2 := (k0_off29_inb k 4)) (ie3 := (k0_off29_inb k 6)) (ie4 := (k0_off29_inb k 8)) (ie5 := (k0_off29_inb k 10)) (ie6 := (k0_off29_inb k 12)) (ie7 := (k0_off29_inb k 14)) (io0 := (k0_off29_inb k 1)) (io1 := (k0_off29_inb k 3)) (io2 := (k0_off29_inb k 5)) (io3 := (k0_off29_inb k 7)) (io4 := (k0_off29_inb k 9)) (io5 := (k0_off29_inb k 11)) (io6 := (k0_off29_inb k 13)) (io7 := (k0_off29_inb k 15)) (off_eq41 k0_t4 k) (off_eq42 k0_t4 k) (off_eq43 k0_t4 k) (off_eq44 k0_t4 k) (off_eq45 k) (off_eq46 k) (off_eq47 k) (off_eq48 k) (off_eq49 k) (off_eq50 k) (off_eq51 k) (off_eq52 k) (off_eq53 k) (off_eq54 k) (off_eq55 k) (off_eq56 k) (off_eq57 k) (off_eq58 k) (off_eq59 k) (off_eq60 k))
      (tile_rd arg4 arg10 X4 X10 (2 * k0_t4.val + 1) (2 * k.val + 1) (ia0 := (k0_off30_inb k0_t4 k 0)) (ib0 := (k0_off31_inb k0_t4 k 0)) (ia1 := (k0_off30_inb k0_t4 k 1)) (ib1 := (k0_off31_inb k0_t4 k 1)) (ie0 := (k0_off32_inb k 0)) (ie1 := (k0_off32_inb k 2)) (ie2 := (k0_off32_inb k 4)) (ie3 := (k0_off32_inb k 6)) (ie4 := (k0_off32_inb k 8)) (ie5 := (k0_off32_inb k 10)) (ie6 := (k0_off32_inb k 12)) (ie7 := (k0_off32_inb k 14)) (io0 := (k0_off32_inb k 1)) (io1 := (k0_off32_inb k 3)) (io2 := (k0_off32_inb k 5)) (io3 := (k0_off32_inb k 7)) (io4 := (k0_off32_inb k 9)) (io5 := (k0_off32_inb k 11)) (io6 := (k0_off32_inb k 13)) (io7 := (k0_off32_inb k 15)) (off_eq61 k0_t4 k) (off_eq62 k0_t4 k) (off_eq63 k0_t4 k) (off_eq64 k0_t4 k) (off_eq65 k) (off_eq66 k) (off_eq67 k) (off_eq68 k) (off_eq69 k) (off_eq70 k) (off_eq71 k) (off_eq72 k) (off_eq73 k) (off_eq74 k) (off_eq75 k) (off_eq76 k) (off_eq77 k) (off_eq78 k) (off_eq79 k) (off_eq80 k))
    exact PartRel.step arg12 hf hk7 _ (off_eq81 k) _ hW

/-- The loop over the pairs of tiles of the last step. -/
abbrev inv_t9 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (v20 : Vec Ideal S1x16x256 .bf16) (X4 : BufTy.Contents (Elt Ideal) arg4.view.ty) (X9 : BufTy.Contents (Elt Ideal) arg9.view.ty) (G : BufTy.Contents (Elt Ideal) arg12.view.ty) (k : ℕ) (u : Unit) : sProp 𝕄G :=
  iprop((arg4.view.loc (c : Thread nD τ) ↦[arg4.view.set]{fullShare} X4) ∗ (arg9.view.loc (c : Thread nD τ) ↦[arg9.view.set]{fullShare} X9) ∗ (∃ f, (arg12.view.loc (c : Thread nD τ) ↦[arg12.view.set]{fullShare} (pick k G f)) ∗ ⌜PartRel v20 (arg4.view.read (Elt Ideal) X4) (arg9.view.read (Elt Ideal) X9) (12) k (arg12.view.read (Elt Ideal) G) (arg12.view.read (Elt Ideal) f)⌝))

set_option warn.classDefReducibility false in
@[sl_loop] def loopInv_t9 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (v20 : Vec Ideal S1x16x256 .bf16) (X4 : BufTy.Contents (Elt Ideal) arg4.view.ty) (X9 : BufTy.Contents (Elt Ideal) arg9.view.ty) (G : BufTy.Contents (Elt Ideal) arg12.view.ty) :
    LoopInvTy_k0_t9 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 v20 where
  inv := inv_t9 𝒱 c bd i arg2 harg2 arg3 harg3 arg4 harg4 arg5 harg5 arg6 harg6 arg7 harg7 arg8 harg8 arg9 harg9 arg10 harg10 arg11 harg11 arg12 harg12 v20 X4 X9 G
  step k acc := by
    have hk := k.isLt
    unfold k0_t9_body
    iintro ⟨H4, H9, ⟨%f, H12, %hf⟩⟩
    have hf := pick_ind (R := fun k f => PartRel v20 (arg4.view.read (Elt Ideal) X4) (arg9.view.read (Elt Ideal) X9) (12) k (arg12.view.read (Elt Ideal) G) (arg12.view.read (Elt Ideal) f)) G (PartRel.refl _ _ _ _ _) hf
    generalize pick k.val G f = g at hf ⊢
    sl_exec
    sl_step
    isplitl [H4]; · iexact H4
    isplitl [H9]; · iexact H9
    iexists _; isplitl [H12]; · iexact H12
    ipureintro
    have hk7 : k.val < 7 := Nat.lt_of_lt_of_le k.isLt k0_t9_abs.2.1
    have hW := wide_apply _ _ (wraw (arg4.view.read (Elt Ideal) X4) (arg9.view.read (Elt Ideal) X9) (12)) (2 * k.val)
      (tile_rd arg4 arg9 X4 X9 (12) (2 * k.val) (ia0 := (k0_off37_inb k)) (ib0 := (k0_off38_inb k)) (ia1 := (k0_off40_inb k)) (ib1 := (k0_off41_inb k)) (ie0 := (k0_off39_inb k 0)) (ie1 := (k0_off39_inb k 2)) (ie2 := (k0_off39_inb k 4)) (ie3 := (k0_off39_inb k 6)) (ie4 := (k0_off39_inb k 8)) (ie5 := (k0_off39_inb k 10)) (ie6 := (k0_off39_inb k 12)) (ie7 := (k0_off39_inb k 14)) (io0 := (k0_off39_inb k 1)) (io1 := (k0_off39_inb k 3)) (io2 := (k0_off39_inb k 5)) (io3 := (k0_off39_inb k 7)) (io4 := (k0_off39_inb k 9)) (io5 := (k0_off39_inb k 11)) (io6 := (k0_off39_inb k 13)) (io7 := (k0_off39_inb k 15)) (off_eq82 k) (off_eq83 k) (off_eq84 k) (off_eq85 k) (off_eq86 k) (off_eq87 k) (off_eq88 k) (off_eq89 k) (off_eq90 k) (off_eq91 k) (off_eq92 k) (off_eq93 k) (off_eq94 k) (off_eq95 k) (off_eq96 k) (off_eq97 k) (off_eq98 k) (off_eq99 k) (off_eq100 k) (off_eq101 k))
      (tile_rd arg4 arg9 X4 X9 (12) (2 * k.val + 1) (ia0 := (k0_off42_inb k)) (ib0 := (k0_off43_inb k)) (ia1 := (k0_off45_inb k)) (ib1 := (k0_off46_inb k)) (ie0 := (k0_off44_inb k 0)) (ie1 := (k0_off44_inb k 2)) (ie2 := (k0_off44_inb k 4)) (ie3 := (k0_off44_inb k 6)) (ie4 := (k0_off44_inb k 8)) (ie5 := (k0_off44_inb k 10)) (ie6 := (k0_off44_inb k 12)) (ie7 := (k0_off44_inb k 14)) (io0 := (k0_off44_inb k 1)) (io1 := (k0_off44_inb k 3)) (io2 := (k0_off44_inb k 5)) (io3 := (k0_off44_inb k 7)) (io4 := (k0_off44_inb k 9)) (io5 := (k0_off44_inb k 11)) (io6 := (k0_off44_inb k 13)) (io7 := (k0_off44_inb k 15)) (off_eq102 k) (off_eq103 k) (off_eq104 k) (off_eq105 k) (off_eq106 k) (off_eq107 k) (off_eq108 k) (off_eq109 k) (off_eq110 k) (off_eq111 k) (off_eq112 k) (off_eq113 k) (off_eq114 k) (off_eq115 k) (off_eq116 k) (off_eq117 k) (off_eq118 k) (off_eq119 k) (off_eq120 k) (off_eq121 k))
    exact PartRel.step arg12 hf hk7 _ (off_eq122 k) _ hW

end Cert.KernelIdeal.Val

end
-- ==== Proof.LoopsFill.lean ====
/- The loops that fill the scratch buffers and the result, each by an invariant that gives what they hold by value. -/
module

public import proofs.«01_k».proof.Proof.Gen.KernelIdeal.Frame
public import proofs.«01_k».proof.Proof.Gen.KernelIdeal.Loops
public import Idealize.ShloMosaic.Lib.Tactic
public import Idealize.ShloMosaic.PureOps.Ideal
public import proofs.«01_k».proof.Proof.LoopsProd

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

/-- Every word of the group table names one of the 39 groups. -/
def InRange (arg2 : Memref sig .tc .smem S4992 .i32) (X2 : BufTy.Contents (Elt Ideal) arg2.view.ty) : Prop :=
  ∀ r : LoadRect S4992, ∀ x, (show BitVec 32 from arg2.view.readAt (Elt Ideal) r X2 x).toNat < 39

theorem readAt1 {arg2 : Memref sig .tc .smem S4992 .i32} (X2 : BufTy.Contents (Elt Ideal) arg2.view.ty) {off : Fin 1 → ℕ}
    (inb : ∀ a, off a + S1.size a ≤ S4992.size a) (o : ℕ) (h : off = ![o]) (x) :
    (show BitVec 32 from arg2.view.readAt (Elt Ideal) (Rect.unit (s := S4992) off S1.size inb).toLoadRect X2 x).toNat = gw (arg2.view.read (Elt Ideal) X2) o := by
  subst h
  have h0 : o + 1 ≤ 4992 := inb 0
  refine congrArg (fun z => BitVec.toNat (arg2.view.read (Elt Ideal) X2 z)) (funext fun a => Fin.ext ?_)
  match a with
  | ⟨0, _⟩ =>
    have hx : (x (0 : Fin 1)).val < 1 := (x (0 : Fin 1)).isLt
    exact (show o + 1 * (x (0 : Fin 1)).val = o % 4992 by rw [Nat.mod_eq_of_lt (by omega)]; omega)

theorem k0_chk1_of (w : BitVec 32) (h : w.toNat < 39) : k0_chk1 w := by
  have key : ∀ n : Fin 39, k0_chk1 (BitVec.ofNat 32 n.val) := by decide +kernel
  have e : w = BitVec.ofNat 32 w.toNat := by simp
  rw [e]; exact key ⟨w.toNat, h⟩
theorem k0_off8_0 (w : BitVec 32) (h : w.toNat < 39) : k0_off8 w 0#32 = ![w.toNat * 17, 0, 0] := by
  have key : ∀ n : Fin 39, k0_off8 (BitVec.ofNat 32 n.val) 0#32 = ![n.val * 17, 0, 0] := by decide +kernel
  have e : w = BitVec.ofNat 32 w.toNat := by simp
  have := key ⟨w.toNat, h⟩
  rwa [← e] at this
theorem k0_off8_8 (w : BitVec 32) (h : w.toNat < 39) : k0_off8 w 8#32 = ![w.toNat * 17 + 8, 0, 0] := by
  have key : ∀ n : Fin 39, k0_off8 (BitVec.ofNat 32 n.val) 8#32 = ![n.val * 17 + 8, 0, 0] := by decide +kernel
  have e : w = BitVec.ofNat 32 w.toNat := by simp
  have := key ⟨w.toNat, h⟩
  rwa [← e] at this

theorem k0_chk2_of (w : BitVec 32) (h : w.toNat < 39) : k0_chk2 w := by
  have key : ∀ n : Fin 39, k0_chk2 (BitVec.ofNat 32 n.val) := by decide +kernel
  have e : w = BitVec.ofNat 32 w.toNat := by simp
  rw [e]; exact key ⟨w.toNat, h⟩
theorem k0_off11_0 (w : BitVec 32) (h : w.toNat < 39) : k0_off11 w 0#32 = ![w.toNat * 17, 0, 0] := by
  have key : ∀ n : Fin 39, k0_off11 (BitVec.ofNat 32 n.val) 0#32 = ![n.val * 17, 0, 0] := by decide +kernel
  have e : w = BitVec.ofNat 32 w.toNat := by simp
  have := key ⟨w.toNat, h⟩
  rwa [← e] at this
theorem k0_off11_8 (w : BitVec 32) (h : w.toNat < 39) : k0_off11 w 8#32 = ![w.toNat * 17 + 8, 0, 0] := by
  have key : ∀ n : Fin 39, k0_off11 (BitVec.ofNat 32 n.val) 8#32 = ![n.val * 17 + 8, 0, 0] := by decide +kernel
  have e : w = BitVec.ofNat 32 w.toNat := by simp
  have := key ⟨w.toNat, h⟩
  rwa [← e] at this

theorem k0_chk3_of (w : BitVec 32) (h : w.toNat < 39) : k0_chk3 w := by
  have key : ∀ n : Fin 39, k0_chk3 (BitVec.ofNat 32 n.val) := by decide +kernel
  have e : w = BitVec.ofNat 32 w.toNat := by simp
  rw [e]; exact key ⟨w.toNat, h⟩
theorem k0_off24_0 (w : BitVec 32) (h : w.toNat < 39) : k0_off24 w 0#32 = ![w.toNat * 17, 0, 0] := by
  have key : ∀ n : Fin 39, k0_off24 (BitVec.ofNat 32 n.val) 0#32 = ![n.val * 17, 0, 0] := by decide +kernel
  have e : w = BitVec.ofNat 32 w.toNat := by simp
  have := key ⟨w.toNat, h⟩
  rwa [← e] at this
theorem k0_off24_8 (w : BitVec 32) (h : w.toNat < 39) : k0_off24 w 8#32 = ![w.toNat * 17 + 8, 0, 0] := by
  have key : ∀ n : Fin 39, k0_off24 (BitVec.ofNat 32 n.val) 8#32 = ![n.val * 17 + 8, 0, 0] := by decide +kernel
  have e : w = BitVec.ofNat 32 w.toNat := by simp
  have := key ⟨w.toNat, h⟩
  rwa [← e] at this
theorem off9_0 : ∀ k : Fin k0_t3_loop.trips, k0_off9 k 0#32 = ![(k.val / 16 * 2 + k.val % 2) * 144 + k.val % 16 / 2 + 0, 0, 0] := by decide +kernel
instance closedOffV9_0 (k : Fin k0_t3_loop.trips) : ClosedOff (k0_off9 k 0#32) := ⟨_, off9_0 k⟩
theorem off9_72 : ∀ k : Fin k0_t3_loop.trips, k0_off9 k 72#32 = ![(k.val / 16 * 2 + k.val % 2) * 144 + k.val % 16 / 2 + 72, 0, 0] := by decide +kernel
instance closedOffV9_72 (k : Fin k0_t3_loop.trips) : ClosedOff (k0_off9 k 72#32) := ⟨_, off9_72 k⟩
theorem off12_0 : ∀ k : Fin k0_t5_loop.trips, k0_off12 k 0#32 = ![(k.val / 16 * 2 + k.val % 2) * 144 + k.val % 16 / 2 + 0, 0, 0] := by decide +kernel
instance closedOffV12_0 (k : Fin k0_t5_loop.trips) : ClosedOff (k0_off12 k 0#32) := ⟨_, off12_0 k⟩
theorem off12_72 : ∀ k : Fin k0_t5_loop.trips, k0_off12 k 72#32 = ![(k.val / 16 * 2 + k.val % 2) * 144 + k.val % 16 / 2 + 72, 0, 0] := by decide +kernel
instance closedOffV12_72 (k : Fin k0_t5_loop.trips) : ClosedOff (k0_off12 k 72#32) := ⟨_, off12_72 k⟩
theorem off25_0 : ∀ k : Fin k0_t7_loop.trips, k0_off25 k 0#32 = ![(k.val / 16 * 2 + k.val % 2) * 144 + k.val % 16 / 2 + 0, 0, 0] := by decide +kernel
instance closedOffV25_0 (k : Fin k0_t7_loop.trips) : ClosedOff (k0_off25 k 0#32) := ⟨_, off25_0 k⟩
theorem off25_72 : ∀ k : Fin k0_t7_loop.trips, k0_off25 k 72#32 = ![(k.val / 16 * 2 + k.val % 2) * 144 + k.val % 16 / 2 + 72, 0, 0] := by decide +kernel
instance closedOffV25_72 (k : Fin k0_t7_loop.trips) : ClosedOff (k0_off25 k 72#32) := ⟨_, off25_72 k⟩
theorem off51_0 : ∀ k : Fin k0_t11_loop.trips, k0_off51 k 0#32 = ![0, 256 * k.val] := by decide +kernel
theorem off51_1 : ∀ k : Fin k0_t11_loop.trips, k0_off51 k 1#32 = ![0, 256 * k.val + 128] := by decide +kernel

/-- The loop that expands the scales of the first step's rows. -/
abbrev inv_t3 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole)  (X2 : BufTy.Contents (Elt Ideal) arg2.view.ty) (X8 : BufTy.Contents (Elt Ideal) arg8.view.ty)  (k : ℕ) (u : Unit) : sProp 𝕄G :=
  iprop((arg2.view.loc (c : Thread nD τ) ↦[arg2.view.set]{fullShare} X2) ∗ (arg8.view.loc (c : Thread nD τ) ↦[arg8.view.set]{fullShare} X8) ∗ ⌜InRange arg2 X2⌝ ∗ (∃ f, (arg9.view.loc (c : Thread nD τ) ↦[arg9.view.set]{fullShare} f) ∗ ⌜SAk (1664 * (i 1).val) k (arg2.view.read (Elt Ideal) X2) (arg8.view.read (Elt Ideal) X8) (arg9.view.read (Elt Ideal) f)⌝))

set_option warn.classDefReducibility false in
@[sl_loop] def loopInv_t3 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (v8 : BitVec 32) (X2 : BufTy.Contents (Elt Ideal) arg2.view.ty) (X8 : BufTy.Contents (Elt Ideal) arg8.view.ty)  :
    LoopInvTy_k0_t3 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 v8 where
  inv := inv_t3 𝒱 c bd i arg2 harg2 arg3 harg3 arg4 harg4 arg5 harg5 arg6 harg6 arg7 harg7 arg8 harg8 arg9 harg9 arg10 harg10 arg11 harg11 arg12 harg12  X2 X8
  step k acc := by
    have hk := k.isLt
    unfold k0_t3_body
    iintro ⟨H2, H8, %hX, ⟨%f, H9, %hf⟩⟩
    sl_exec
    have hw := k0_chk1_of (loopInv_t3.sl.r i arg2 X2 k) (hX _ _)
    sl_exec
    sl_step
    isplitl [H2]; · iexact H2
    isplitl [H8]; · iexact H8
    isplitr; · ipureintro; exact hX
    iexists _; isplitl [H9]; · iexact H9
    ipureintro
    have hk7 : k.val < 128 := Nat.lt_of_lt_of_le k.isLt k0_t3_abs.2.1
    have h0 := k0_off8_0 (loopInv_t3.sl.r i arg2 X2 k) (hX _ _)
    have h8 := k0_off8_8 (loopInv_t3.sl.r i arg2 X2 k) (hX _ _)
    have e' : (loopInv_t3.sl.r i arg2 X2 k).toNat = gw (arg2.view.read (Elt Ideal) X2) (1664 * (i 1).val + k.val) := readAt1 (arg2 := arg2) X2 (k0_off7_inb i k) (1664 * (i 1).val + k.val) ((k0_off7_eq i k).trans (congrArg (fun z => ![z]) (by omega))) _
    rw [e'] at h0 h8
    exact SAk.step arg8 arg9 hf hk7 _ _ h0 h8 (off9_0 k) (off9_72 k)

/-- The loop that expands the scales of an odd step's rows. -/
abbrev inv_t5 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (arg1 : BitVec 32) (v8 : BitVec 32) (c0_i32_9 : BitVec 32) (c1_i32_10 : BitVec 32) (k0_t4 : Fin k0_t4_loop.trips) (v175 : BitVec 32) (X2 : BufTy.Contents (Elt Ideal) arg2.view.ty) (X8 : BufTy.Contents (Elt Ideal) arg8.view.ty)  (k : ℕ) (u : Unit) : sProp 𝕄G :=
  iprop((arg2.view.loc (c : Thread nD τ) ↦[arg2.view.set]{fullShare} X2) ∗ (arg8.view.loc (c : Thread nD τ) ↦[arg8.view.set]{fullShare} X8) ∗ ⌜InRange arg2 X2⌝ ∗ (∃ f, (arg10.view.loc (c : Thread nD τ) ↦[arg10.view.set]{fullShare} f) ∗ ⌜SAk (1664 * (i 1).val + (2 * k0_t4.val + 1) * 128) k (arg2.view.read (Elt Ideal) X2) (arg8.view.read (Elt Ideal) X8) (arg10.view.read (Elt Ideal) f)⌝))

set_option warn.classDefReducibility false in
@[sl_loop] def loopInv_t5 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (arg1 : BitVec 32) (v8 : BitVec 32) (c0_i32_9 : BitVec 32) (c1_i32_10 : BitVec 32) (k0_t4 : Fin k0_t4_loop.trips) (v175 : BitVec 32) (X2 : BufTy.Contents (Elt Ideal) arg2.view.ty) (X8 : BufTy.Contents (Elt Ideal) arg8.view.ty)  :
    LoopInvTy_k0_t5 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg1 v8 c0_i32_9 c1_i32_10 k0_t4 v175 where
  inv := inv_t5 𝒱 c bd i arg2 harg2 arg3 harg3 arg4 harg4 arg5 harg5 arg6 harg6 arg7 harg7 arg8 harg8 arg9 harg9 arg10 harg10 arg11 harg11 arg12 harg12 arg1 v8 c0_i32_9 c1_i32_10 k0_t4 v175 X2 X8
  step k acc := by
    have hk := k.isLt
    unfold k0_t5_body
    iintro ⟨H2, H8, %hX, ⟨%f, H9, %hf⟩⟩
    sl_exec
    have hw := k0_chk2_of (loopInv_t5.sl.r i arg2 k0_t4 X2 k) (hX _ _)
    sl_exec
    sl_step
    isplitl [H2]; · iexact H2
    isplitl [H8]; · iexact H8
    isplitr; · ipureintro; exact hX
    iexists _; isplitl [H9]; · iexact H9
    ipureintro
    have hk7 : k.val < 128 := Nat.lt_of_lt_of_le k.isLt k0_t5_abs.2.1
    have h0 := k0_off11_0 (loopInv_t5.sl.r i arg2 k0_t4 X2 k) (hX _ _)
    have h8 := k0_off11_8 (loopInv_t5.sl.r i arg2 k0_t4 X2 k) (hX _ _)
    have e' : (loopInv_t5.sl.r i arg2 k0_t4 X2 k).toNat = gw (arg2.view.read (Elt Ideal) X2) (1664 * (i 1).val + (2 * k0_t4.val + 1) * 128 + k.val) := readAt1 (arg2 := arg2) X2 (k0_off10_inb i k0_t4 k) (1664 * (i 1).val + (2 * k0_t4.val + 1) * 128 + k.val) ((k0_off10_eq i k0_t4 k).trans (congrArg (fun z => ![z]) (by omega))) _
    rw [e'] at h0 h8
    exact SAk.step arg8 arg10 hf hk7 _ _ h0 h8 (off12_0 k) (off12_72 k)

/-- The loop that expands the scales of the next even step's rows. -/
abbrev inv_t7 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (arg1 : BitVec 32) (v8 : BitVec 32) (k0_t4 : Fin k0_t4_loop.trips) (v172 : BitVec 32) (v228 : FVec Ideal S64x128 .bf16) (v253 : FVec Ideal S64x128 .bf16) (v299 : FVec Ideal S64x128 .bf16) (v311 : IVec S64x128 32) (v312 : IVec S64x128 32) (v328 : BitVec 32) (X2 : BufTy.Contents (Elt Ideal) arg2.view.ty) (X8 : BufTy.Contents (Elt Ideal) arg8.view.ty)  (k : ℕ) (u : Unit) : sProp 𝕄G :=
  iprop((arg2.view.loc (c : Thread nD τ) ↦[arg2.view.set]{fullShare} X2) ∗ (arg8.view.loc (c : Thread nD τ) ↦[arg8.view.set]{fullShare} X8) ∗ ⌜InRange arg2 X2⌝ ∗ (∃ f, (arg9.view.loc (c : Thread nD τ) ↦[arg9.view.set]{fullShare} f) ∗ ⌜SAk (1664 * (i 1).val + (2 * k0_t4.val + 2) * 128) k (arg2.view.read (Elt Ideal) X2) (arg8.view.read (Elt Ideal) X8) (arg9.view.read (Elt Ideal) f)⌝))

set_option warn.classDefReducibility false in
@[sl_loop] def loopInv_t7 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (arg1 : BitVec 32) (v8 : BitVec 32) (k0_t4 : Fin k0_t4_loop.trips) (v172 : BitVec 32) (v228 : FVec Ideal S64x128 .bf16) (v253 : FVec Ideal S64x128 .bf16) (v299 : FVec Ideal S64x128 .bf16) (v311 : IVec S64x128 32) (v312 : IVec S64x128 32) (v328 : BitVec 32) (X2 : BufTy.Contents (Elt Ideal) arg2.view.ty) (X8 : BufTy.Contents (Elt Ideal) arg8.view.ty)  :
    LoopInvTy_k0_t7 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg1 v8 k0_t4 v172 v228 v253 v299 v311 v312 v328 where
  inv := inv_t7 𝒱 c bd i arg2 harg2 arg3 harg3 arg4 harg4 arg5 harg5 arg6 harg6 arg7 harg7 arg8 harg8 arg9 harg9 arg10 harg10 arg11 harg11 arg12 harg12 arg1 v8 k0_t4 v172 v228 v253 v299 v311 v312 v328 X2 X8
  step k acc := by
    have hk := k.isLt
    unfold k0_t7_body
    iintro ⟨H2, H8, %hX, ⟨%f, H9, %hf⟩⟩
    sl_exec
    have hw := k0_chk3_of (loopInv_t7.sl.r i arg2 k0_t4 X2 k) (hX _ _)
    sl_exec
    sl_step
    isplitl [H2]; · iexact H2
    isplitl [H8]; · iexact H8
    isplitr; · ipureintro; exact hX
    iexists _; isplitl [H9]; · iexact H9
    ipureintro
    have hk7 : k.val < 128 := Nat.lt_of_lt_of_le k.isLt k0_t7_abs.2.1
    have h0 := k0_off24_0 (loopInv_t7.sl.r i arg2 k0_t4 X2 k) (hX _ _)
    have h8 := k0_off24_8 (loopInv_t7.sl.r i arg2 k0_t4 X2 k) (hX _ _)
    have e' : (loopInv_t7.sl.r i arg2 k0_t4 X2 k).toNat = gw (arg2.view.read (Elt Ideal) X2) (1664 * (i 1).val + (2 * k0_t4.val + 2) * 128 + k.val) := readAt1 (arg2 := arg2) X2 (k0_off23_inb i k0_t4 k) (1664 * (i 1).val + (2 * k0_t4.val + 2) * 128 + k.val) ((k0_off23_eq i k0_t4 k).trans (congrArg (fun z => ![z]) (by omega))) _
    rw [e'] at h0 h8
    exact SAk.step arg8 arg9 hf hk7 _ _ h0 h8 (off25_0 k) (off25_72 k)

/-- The loop that spreads the input. -/
abbrev inv_t1 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole)  (X3 : BufTy.Contents (Elt Ideal) arg3.view.ty)  (k : ℕ) (u : Unit) : sProp 𝕄G :=
  iprop((arg3.view.loc (c : Thread nD τ) ↦[arg3.view.set]{fullShare} X3) ∗ (∃ f, (arg7.view.loc (c : Thread nD τ) ↦[arg7.view.set]{fullShare} f) ∗ ⌜XTk k (arg3.view.read (Elt Ideal) X3) (arg7.view.read (Elt Ideal) f)⌝))

set_option warn.classDefReducibility false in
@[sl_loop] def loopInv_t1 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (k0_h1 : k0_cond1 i = 1#1) (X3 : BufTy.Contents (Elt Ideal) arg3.view.ty)  :
    LoopInvTy_k0_t1 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 k0_h1 where
  inv := inv_t1 𝒱 c bd i arg2 harg2 arg3 harg3 arg4 harg4 arg5 harg5 arg6 harg6 arg7 harg7 arg8 harg8 arg9 harg9 arg10 harg10 arg11 harg11 arg12 harg12  X3
  step k acc := by
    have hk := k.isLt
    unfold k0_t1_body
    iintro ⟨H3, ⟨%f, H7, %hf⟩⟩
    sl_exec
    sl_step
    isplitl [H3]; · iexact H3
    iexists _; isplitl [H7]; · iexact H7
    ipureintro
    have hk7 : k.val < 39 := Nat.lt_of_lt_of_le k.isLt k0_t1_abs.2.1
    exact XTk.step arg3 arg7 hf hk7 _ _ _ (k0_off1_eq k) (k0_off2_eq k) (k0_off3_eq k)

/-- The loop that fills the table of pairs of scale columns. -/
abbrev inv_t2 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole)  (X5 : BufTy.Contents (Elt Ideal) arg5.view.ty)  (k : ℕ) (u : Unit) : sProp 𝕄G :=
  iprop((arg5.view.loc (c : Thread nD τ) ↦[arg5.view.set]{fullShare} X5) ∗ (∃ f, (arg8.view.loc (c : Thread nD τ) ↦[arg8.view.set]{fullShare} f) ∗ ⌜TABk k (arg5.view.read (Elt Ideal) X5) (arg8.view.read (Elt Ideal) f)⌝))

set_option warn.classDefReducibility false in
@[sl_loop] def loopInv_t2 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (k0_h2 : k0_cond2 i = 1#1) (X5 : BufTy.Contents (Elt Ideal) arg5.view.ty)  :
    LoopInvTy_k0_t2 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 k0_h2 where
  inv := inv_t2 𝒱 c bd i arg2 harg2 arg3 harg3 arg4 harg4 arg5 harg5 arg6 harg6 arg7 harg7 arg8 harg8 arg9 harg9 arg10 harg10 arg11 harg11 arg12 harg12  X5
  step k acc := by
    have hk := k.isLt
    unfold k0_t2_body
    iintro ⟨H5, ⟨%f, H8, %hf⟩⟩
    sl_exec
    sl_step
    isplitl [H5]; · iexact H5
    iexists _; isplitl [H8]; · iexact H8
    ipureintro
    have hk7 : k.val < 15 := Nat.lt_of_lt_of_le k.isLt k0_t2_abs.2.1
    exact TABk.step arg5 arg8 hf hk7 _ _ (k0_off4_eq k) (k0_off5_eq k) (k0_off6_eq k)

/-- The loop that adds a grid point's sums to the accumulator. -/
abbrev inv_t10 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole)  (X12 : BufTy.Contents (Elt Ideal) arg12.view.ty) (G : BufTy.Contents (Elt Ideal) arg11.view.ty) (k : ℕ) (u : Unit) : sProp 𝕄G :=
  iprop((arg12.view.loc (c : Thread nD τ) ↦[arg12.view.set]{fullShare} X12) ∗ (∃ f, (arg11.view.loc (c : Thread nD τ) ↦[arg11.view.set]{fullShare} (pick k G f)) ∗ ⌜AccRel k (arg12.view.read (Elt Ideal) X12) (arg11.view.read (Elt Ideal) G) (arg11.view.read (Elt Ideal) f)⌝))

set_option warn.classDefReducibility false in
@[sl_loop] def loopInv_t10 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (v21 : FVec Ideal S16x256 .bf16) (v64 : FVec Ideal S64x128 .bf16) (v89 : FVec Ideal S64x128 .bf16) (v106 : IVec S8x128 32) (v121 : FVec Ideal S64x128 .bf16) (v123 : FVec Ideal S16x128 .bf16) (v125 : FVec Ideal S16x128 .bf16) (v127 : FVec Ideal S16x128 .bf16) (v128_raw : Vec Ideal S8x2x128 .bf16) (v128_lo : FVec Ideal S8x128 .bf16) (X12 : BufTy.Contents (Elt Ideal) arg12.view.ty) (G : BufTy.Contents (Elt Ideal) arg11.view.ty) :
    LoopInvTy_k0_t10 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 v21 v64 v89 v106 v121 v123 v125 v127 v128_raw v128_lo where
  inv := inv_t10 𝒱 c bd i arg2 harg2 arg3 harg3 arg4 harg4 arg5 harg5 arg6 harg6 arg7 harg7 arg8 harg8 arg9 harg9 arg10 harg10 arg11 harg11 arg12 harg12  X12 G
  step k acc := by
    have hk := k.isLt
    unfold k0_t10_body
    iintro ⟨H12, ⟨%f, H11, %hf⟩⟩
    have hf := pick_ind (R := fun k f => AccRel k (arg12.view.read (Elt Ideal) X12) (arg11.view.read (Elt Ideal) G) (arg11.view.read (Elt Ideal) f)) G (AccRel.refl _ _) hf
    generalize pick k.val G f = g at hf ⊢
    sl_exec
    sl_step
    isplitl [H12]; · iexact H12
    iexists _; isplitl [H11]; · iexact H11
    ipureintro
    have hk7 : k.val < 7 := Nat.lt_of_lt_of_le k.isLt k0_t10_abs.2.1
    exact AccRel.step arg11 arg12 hf hk7 _ _ (k0_off48_eq k) (k0_off49_eq k)

/-- The loop that copies the result out of the accumulator. -/
abbrev inv_t11 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole)  (X11 : BufTy.Contents (Elt Ideal) arg11.view.ty)  (k : ℕ) (u : Unit) : sProp 𝕄G :=
  iprop((arg11.view.loc (c : Thread nD τ) ↦[arg11.view.set]{fullShare} X11) ∗ (∃ f, (arg6.view.loc (c : Thread nD τ) ↦[arg6.view.set]{fullShare} f) ∗ ⌜OutIs k (arg11.view.read (Elt Ideal) X11) (arg6.view.read (Elt Ideal) f)⌝))

set_option warn.classDefReducibility false in
@[sl_loop] def loopInv_t11 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (k0_h3 : k0_cond3 i = 1#1) (X11 : BufTy.Contents (Elt Ideal) arg11.view.ty)  :
    LoopInvTy_k0_t11 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 k0_h3 where
  inv := inv_t11 𝒱 c bd i arg2 harg2 arg3 harg3 arg4 harg4 arg5 harg5 arg6 harg6 arg7 harg7 arg8 harg8 arg9 harg9 arg10 harg10 arg11 harg11 arg12 harg12  X11
  step k acc := by
    have hk := k.isLt
    unfold k0_t11_body
    iintro ⟨H11, ⟨%f, H6, %hf⟩⟩
    sl_exec
    sl_step
    isplitl [H11]; · iexact H11
    iexists _; isplitl [H6]; · iexact H6
    ipureintro
    have hk7 : k.val < 15 := Nat.lt_of_lt_of_le k.isLt k0_t11_abs.2.1
    exact OutIs.step arg11 arg6 hf hk7 _ _ _ _ (k0_off50_eq k) (k0_off52_eq k) (off51_0 k) (off51_1 k)

end Cert.KernelIdeal.Val

end
-- ==== Proof.Spec3.lean ====
/- A grid point's sums over its steps, and what a trip of the loop over the steps adds to them. -/
module

public import proofs.«01_k».proof.Proof.Spec2

@[expose] public section

set_option maxRecDepth 16384
set_option maxHeartbeats 1000000

noncomputable section

namespace Cert.KernelIdeal.Val

open Cert.KernelIdeal Cert.KernelIdeal.Gen
open Idealize.ShloMosaic Idealize.ShloMosaic.TcCoe Idealize.ShloMosaic.Tactic

/-- One step's product: row `r` of the spread input against column `l` of pair `q`, at step `s` of column `p` of the grid. -/
def stepSum (X : S39x16x256.Idx → EReal) (A : S832x3840.Idx → BitVec 8) (x : S4992.Idx → BitVec 32) (tab : S664x2x128.Idx → EReal)
    (p q r l s : ℕ) : EReal :=
  ∑ K : Fin 256, at3 X (13 * p + s) r K.val * wsp A x tab (1664 * p + s * 128) s q K.val l

/-- The sums kept for the first fourteen pairs have grown by the first `k` steps. -/
def PartSum (X : S39x16x256.Idx → EReal) (A : S832x3840.Idx → BitVec 8) (x : S4992.Idx → BitVec 32) (tab : S664x2x128.Idx → EReal)
    (p k : ℕ) (G f : S7x16x256.Idx → EReal) : Prop :=
  ∀ t r c : ℕ, t < 7 → r < 16 → c < 256 → at3 f t r c = at3 G t r c + ∑ s ∈ Finset.range k, stepSum X A x tab p (2 * t + c / 128) r (c % 128) s

@[refl] theorem PartSum.refl (X : S39x16x256.Idx → EReal) (A : S832x3840.Idx → BitVec 8) (x : S4992.Idx → BitVec 32) (tab : S664x2x128.Idx → EReal)
    (p : ℕ) (G : S7x16x256.Idx → EReal) : PartSum X A x tab p 0 G G := by
  intro t r c _ _ _
  rw [Finset.sum_range_zero, add_zero]

/-- The same after `k` trips of two steps each. -/
def PartSum2 (X : S39x16x256.Idx → EReal) (A : S832x3840.Idx → BitVec 8) (x : S4992.Idx → BitVec 32) (tab : S664x2x128.Idx → EReal)
    (p k : ℕ) (G f : S7x16x256.Idx → EReal) : Prop := PartSum X A x tab p (2 * k) G f

@[refl] theorem PartSum2.refl (X : S39x16x256.Idx → EReal) (A : S832x3840.Idx → BitVec 8) (x : S4992.Idx → BitVec 32) (tab : S664x2x128.Idx → EReal)
    (p : ℕ) (G : S7x16x256.Idx → EReal) : PartSum2 X A x tab p 0 G G := PartSum.refl X A x tab p G

/-- The two quarters that hold the last pair's sums add up to its first `k` steps. -/
def LastP (X : S39x16x256.Idx → EReal) (A : S832x3840.Idx → BitVec 8) (x : S4992.Idx → BitVec 32) (tab : S664x2x128.Idx → EReal)
    (p k : ℕ) (acc : S32x256.Idx → EReal) : Prop :=
  ∀ r l : ℕ, r < 16 → l < 128 → at2 acc r l + at2 acc (16 + r) (128 + l) = ∑ s ∈ Finset.range k, stepSum X A x tab p 14 r l s

theorem zero_apply {s : Shape} (j : s.Idx) : broadcast s (Scalar.ofBits (F := Ideal) .f32 0x00000000#32) j = (0 : EReal) := by
  pointwise

theorem pay187_apply (a : Fin 32) (b : Fin 256) : k0_pay187 (F := Ideal) (ix2 a b) = (0 : EReal) := by
  pointwise [k0_pay187]

@[simp] theorem LastP_zero (X : S39x16x256.Idx → EReal) (A : S832x3840.Idx → BitVec 8) (x : S4992.Idx → BitVec 32) (tab : S664x2x128.Idx → EReal)
    (p : ℕ) : LastP X A x tab p 0 (k0_pay187 (F := Ideal)) := by
  intro r l _ _
  unfold at2
  rw [pay187_apply, pay187_apply, Finset.sum_range_zero, add_zero]

/-- The step's product out of the buffers as they are held. -/
theorem stepSum_eq {S : S2304x2x128.Idx → EReal} {A : S832x3840.Idx → BitVec 8} {x : S4992.Idx → BitVec 32} {tab : S664x2x128.Idx → EReal}
    {X : S39x16x256.Idx → EReal} {p s : ℕ} (hS : SAk (1664 * p + s * 128) 128 x tab S) (v : S1x16x256.Idx → EReal)
    (hv : ∀ r K, r < 16 → K < 256 → at3 v 0 r K = at3 X (13 * p + s) r K) (q r l : ℕ) (hq : q < 15) (hr : r < 16) (hl : l < 128) :
    (∑ K : Fin 256, at3 v 0 r K.val * wraw A S s q K.val l) = stepSum X A x tab p q r l s :=
  Finset.sum_congr rfl fun K _ => by rw [hv r K.val hr K.isLt, wraw_eq hS s q K.val l hq K.isLt hl]

theorem PartSum.step {S : S2304x2x128.Idx → EReal} {A : S832x3840.Idx → BitVec 8} {x : S4992.Idx → BitVec 32} {tab : S664x2x128.Idx → EReal}
    {X : S39x16x256.Idx → EReal} {p s : ℕ} (hS : SAk (1664 * p + s * 128) 128 x tab S) (v : FVec Ideal S1x16x256 .bf16)
    (hv : ∀ r K, r < 16 → K < 256 → at3 v 0 r K = at3 X (13 * p + s) r K) {G f f' : S7x16x256.Idx → EReal}
    (hf : PartSum X A x tab p s G f) (hr : PartRel v A S s 7 f f') : PartSum X A x tab p (s + 1) G f' := by
  intro t r c ht hr' hc
  rw [hr t r c ht hr' hc, if_pos ht, hf t r c ht hr' hc, Finset.sum_range_succ, add_assoc,
    stepSum_eq hS v hv (2 * t + c / 128) r (c % 128) (by omega) hr' (by omega)]

/-- Two steps' products for the last pair, added to what is carried. -/
def lastUpd (acc : FVec Ideal S32x256 .f32) (w0 w1 : FVec Ideal S256x128 .bf16) (u0 u1 : FVec Ideal S1x16x256 .bf16) : FVec Ideal S32x256 .f32 :=
  k0_pay188 (F := Ideal) acc w0 w1 (concatenate S32x256 0 [⟨S16x256, shapeCast S16x256 u0 shapeCasts_S1x16x256_S16x256⟩,
    ⟨S16x256, shapeCast S16x256 u1 shapeCasts_S1x16x256_S16x256⟩] concatenates_S16x256_S16x256_S32x256_d0)

theorem lastUpd_apply (acc : FVec Ideal S32x256 .f32) (w0 w1 : FVec Ideal S256x128 .bf16) (u0 u1 : FVec Ideal S1x16x256 .bf16) (r : Fin 32) (c : Fin 256) :
    lastUpd acc w0 w1 u0 u1 (ix2 r c) = acc (ix2 r c) + ∑ K : Fin 256,
      (if h : r.val < 16 then u0 (ix3 0 ⟨r.val, h⟩ K) else u1 (ix3 0 ⟨r.val - 16, by omega⟩ K))
        * (if h : c.val < 128 then w0 (ix2 K ⟨c.val, h⟩) else w1 (ix2 K ⟨c.val - 128, by omega⟩)) := by
  pointwise [lastUpd, k0_pay188]

theorem LastP.step {S S' : S2304x2x128.Idx → EReal} {A : S832x3840.Idx → BitVec 8} {x : S4992.Idx → BitVec 32} {tab : S664x2x128.Idx → EReal}
    {X : S39x16x256.Idx → EReal} {p s : ℕ} (hS : SAk (1664 * p + s * 128) 128 x tab S) (hS' : SAk (1664 * p + (s + 1) * 128) 128 x tab S')
    (u0 u1 : FVec Ideal S1x16x256 .bf16) (h0 : ∀ r K, r < 16 → K < 256 → at3 u0 0 r K = at3 X (13 * p + s) r K)
    (h1 : ∀ r K, r < 16 → K < 256 → at3 u1 0 r K = at3 X (13 * p + (s + 1)) r K) (w0 w1 : FVec Ideal S256x128 .bf16)
    (hw0 : ∀ K l, w0 (ix2 K l) = wraw A S s 14 K.val l.val) (hw1 : ∀ K l, w1 (ix2 K l) = wraw A S' (s + 1) 14 K.val l.val)
    {acc : FVec Ideal S32x256 .f32} (hf : LastP X A x tab p s acc) : LastP X A x tab p (s + 2) (lastUpd acc w0 w1 u0 u1) := by
  intro r l hr hl
  have e0 : at2 (lastUpd acc w0 w1 u0 u1) r l = at2 acc r l + stepSum X A x tab p 14 r l s := by
    unfold at2
    rw [ofNat_mk (show r < 32 by omega), ofNat_mk (show l < 256 by omega), lastUpd_apply]
    congr 1
    rw [← stepSum_eq hS u0 h0 14 r l (by omega) hr hl]
    refine Finset.sum_congr rfl fun K _ => ?_
    rw [dif_pos (show r < 16 from hr), dif_pos (show l < 128 from hl), hw0]
    exact congrArg (· * _) (eq_at3 u0 0 ⟨r, hr⟩ K)
  have e1 : at2 (lastUpd acc w0 w1 u0 u1) (16 + r) (128 + l) = at2 acc (16 + r) (128 + l) + stepSum X A x tab p 14 r l (s + 1) := by
    unfold at2
    rw [ofNat_mk (show 16 + r < 32 by omega), ofNat_mk (show 128 + l < 256 by omega), lastUpd_apply]
    congr 1
    rw [← stepSum_eq hS' u1 h1 14 r l (by omega) hr hl]
    refine Finset.sum_congr rfl fun K _ => ?_
    rw [dif_neg (show ¬ 16 + r < 16 by omega), dif_neg (show ¬ 128 + l < 128 by omega), hw1]
    refine congrArg₂ (· * ·) ((eq_at3 u1 0 _ K).trans ?_) ?_
    · show at3 u1 0 (16 + r - 16) K.val = _
      rw [Nat.add_sub_cancel_left]
    · show wraw A S' (s + 1) 14 K.val (128 + l - 128) = _
      rw [Nat.add_sub_cancel_left]
  rw [e0, e1, add_add_add_comm, hf r l hr hl, Finset.sum_range_succ, Finset.sum_range_succ, add_assoc]

/-- A load of one block of the spread input. -/
theorem ld7 (M7 : Memref sig .tc .vmem S39x16x256 .bf16) {X7 : BufTy.Contents (Elt Ideal) M7.view.ty} {off : Fin 3 → ℕ}
    (inb : ∀ a, off a + S1x16x256.size a ≤ S39x16x256.size a) (o : ℕ) (h : off = ![o, 0, 0]) (r K : ℕ) (hr : r < 16) (hK : K < 256) :
    at3 (M7.view.readAt (Elt Ideal) (Rect.unit (s := S39x16x256) off S1x16x256.size inb).toLoadRect X7) 0 r K = at3 (M7.view.read (Elt Ideal) X7) o r K := by
  have := readAt3 M7.view X7 inb o 0 0 h (0 : Fin 1) (⟨r, hr⟩ : Fin 16) (⟨K, hK⟩ : Fin 256)
  have e := eq_at3 (M7.view.readAt (Elt Ideal) (Rect.unit (s := S39x16x256) off S1x16x256.size inb).toLoadRect X7) (0 : Fin 1) (⟨r, hr⟩ : Fin 16) (⟨K, hK⟩ : Fin 256)
  refine e.symm.trans (this.trans ?_)
  rw [Nat.zero_add, Nat.zero_add]; rfl

end Cert.KernelIdeal.Val

end
-- ==== Proof.LoopsStep.lean ====
/- The loop over a grid point's steps, two to a trip, by an invariant that gives the sums by value. -/
module

public import proofs.«01_k».proof.Proof.Gen.KernelIdeal.Frame
public import proofs.«01_k».proof.Proof.Gen.KernelIdeal.Loops
public import Idealize.ShloMosaic.Lib.Tactic
public import Idealize.ShloMosaic.PureOps.Ideal
public import proofs.«01_k».proof.Proof.LoopsFill
public import proofs.«01_k».proof.Proof.Spec3

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ
theorem off4_eq0 : ∀ (k0_t4 : Fin k0_t4_loop.trips), k0_off21 k0_t4 0#32 = ![64 * (2 * k0_t4.val) + 0, (2 * (14) + 0) * 128] := by decide +kernel
theorem off4_eq1 : ∀ (k0_t4 : Fin k0_t4_loop.trips), k0_off22 k0_t4 0#32 = ![64 * (2 * k0_t4.val) + 0, (2 * (14) + 1) * 128] := by decide +kernel
theorem off4_eq2 : ∀ (k0_t4 : Fin k0_t4_loop.trips), k0_off21 k0_t4 32#32 = ![64 * (2 * k0_t4.val) + 32, (2 * (14) + 0) * 128] := by decide +kernel
theorem off4_eq3 : ∀ (k0_t4 : Fin k0_t4_loop.trips), k0_off22 k0_t4 32#32 = ![64 * (2 * k0_t4.val) + 32, (2 * (14) + 1) * 128] := by decide +kernel
theorem off4_eq4 : ∀ (k0_t4 : Fin k0_t4_loop.trips), k0_off34 k0_t4 0#32 = ![64 * (2 * k0_t4.val + 1) + 0, (2 * (14) + 0) * 128] := by decide +kernel
theorem off4_eq5 : ∀ (k0_t4 : Fin k0_t4_loop.trips), k0_off35 k0_t4 0#32 = ![64 * (2 * k0_t4.val + 1) + 0, (2 * (14) + 1) * 128] := by decide +kernel
theorem off4_eq6 : ∀ (k0_t4 : Fin k0_t4_loop.trips), k0_off34 k0_t4 32#32 = ![64 * (2 * k0_t4.val + 1) + 32, (2 * (14) + 0) * 128] := by decide +kernel
theorem off4_eq7 : ∀ (k0_t4 : Fin k0_t4_loop.trips), k0_off35 k0_t4 32#32 = ![64 * (2 * k0_t4.val + 1) + 32, (2 * (14) + 1) * 128] := by decide +kernel

/-- The loop over pairs of steps. -/
abbrev inv_t4 (𝒱 : Variants) (c : Dev nD) (bd : Option 𝒱.V) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole)  (X2 : BufTy.Contents (Elt Ideal) arg2.view.ty) (X4 : BufTy.Contents (Elt Ideal) arg4.view.ty) (X7 : BufTy.Contents (Elt Ideal) arg7.view.ty) (X8 : BufTy.Contents (Elt Ideal) arg8.view.ty) (G : BufTy.Contents (Elt Ideal) arg12.view.ty) (k : ℕ) (u : FVec Ideal S32x256 .f32) : sProp 𝕄G :=
  iprop((arg2.view.loc (c : Thread nD τ) ↦[arg2.view.set]{fullShare} X2) ∗ (arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ ⌜InRange arg2 X2⌝ ∗ (∃ f, (arg9.view.loc (c : Thread nD τ) ↦[arg9.view.set]{fullShare} f) ∗ ⌜SAk (1664 * (i 1).val + 2 * k * 128) 128 (arg2.view.read (Elt Ideal) X2) (arg8.view.read (Elt Ideal) X8) (arg9.view.read (Elt Ideal) f)⌝) ∗ (∃ f, (arg10.view.loc (c : Thread nD τ) ↦[arg10.view.set]{fullShare} f)) ∗ (∃ f, (arg12.view.loc (c : Thread nD τ) ↦[arg12.view.set]{fullShare} (pick k G f)) ∗ ⌜PartSum2 (arg7.view.read (Elt Ideal) X7) (arg4.view.read (Elt Ideal) X4) (arg2.view.read (Elt Ideal) X2) (arg8.view.read (Elt Ideal) X8) (i 1).val k (arg12.view.read (Elt Ideal) G) (arg12.view.read (Elt Ideal) f)⌝) ∗ ⌜LastP (arg7.view.read (Elt Ideal) X7) (arg4.view.read (Elt Ideal) X4) (arg2.view.read (Elt Ideal) X2) (arg8.view.read (Elt Ideal) X8) (i 1).val (2 * k) u⌝)

set_option warn.classDefReducibility false in
@[sl_loop] def loopInv_t4 (𝒱 : Variants) (c : Dev nD) (bd : Option 𝒱.V) (E : Set ℕ) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole) (arg1 : BitVec 32) (v8 : BitVec 32) (init : FVec Ideal S32x256 .f32) (X2 : BufTy.Contents (Elt Ideal) arg2.view.ty) (X4 : BufTy.Contents (Elt Ideal) arg4.view.ty) (X7 : BufTy.Contents (Elt Ideal) arg7.view.ty) (X8 : BufTy.Contents (Elt Ideal) arg8.view.ty) (G : BufTy.Contents (Elt Ideal) arg12.view.ty) :
    LoopInvTy_k0_t4 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg1 v8 init where
  inv := inv_t4 𝒱 c bd i arg2 harg2 arg3 harg3 arg4 harg4 arg5 harg5 arg6 harg6 arg7 harg7 arg8 harg8 arg9 harg9 arg10 harg10 arg11 harg11 arg12 harg12  X2 X4 X7 X8 G
  step k acc := by
    have hk := k.isLt
    unfold k0_t4_body
    iintro ⟨H2, H4, H7, H8, %hX, ⟨%f9, H9, %h9⟩, ⟨%f10, H10⟩, ⟨%f12, H12, %h12⟩, %hl⟩
    have h12 := pick_ind (R := fun k f => PartSum2 (arg7.view.read (Elt Ideal) X7) (arg4.view.read (Elt Ideal) X4) (arg2.view.read (Elt Ideal) X2) (arg8.view.read (Elt Ideal) X8) (i 1).val k (arg12.view.read (Elt Ideal) G) (arg12.view.read (Elt Ideal) f)) G (PartSum2.refl _ _ _ _ _ _) h12
    generalize pick k.val G f12 = g12 at h12 ⊢
    sl_exec
    sl_step
    have hi1 : (i 1).val < 3 := (i 1).isLt
    have ha : k0_off13 i k = ![13 * (i 1).val + 2 * k.val, 0, 0] := k0_off13_eq i k
    have hb : k0_off26 i k = ![13 * (i 1).val + (2 * k.val + 1), 0, 0] := k0_off26_eq i k
    have hS0 := hL4
    have hS2 := hL13
    have hR0 := hL8
    have hR1 := hL17
    rw [show Scf.trips k0_t5_loop.lb k0_t5_loop.ub k0_t5_loop.st = 128 from by decide] at hS0
    rw [show Scf.trips k0_t7_loop.lb k0_t7_loop.ub k0_t7_loop.st = 128 from by decide] at hS2
    rw [show Scf.trips k0_t6_loop.lb k0_t6_loop.ub k0_t6_loop.st = 7 from by decide] at hR0
    rw [show Scf.trips k0_t8_loop.lb k0_t8_loop.ub k0_t8_loop.st = 7 from by decide] at hR1
    have hP : PartSum (arg7.view.read (Elt Ideal) X7) (arg4.view.read (Elt Ideal) X4) (arg2.view.read (Elt Ideal) X2) (arg8.view.read (Elt Ideal) X8) (i 1).val (2 * k.val + 1 + 1) (arg12.view.read (Elt Ideal) G) (arg12.view.read (Elt Ideal) fL3) :=
      PartSum.step hS0 _ (fun r K hr hK => ld7 arg7 _ _ hb r K hr hK) (PartSum.step h9 _ (fun r K hr hK => ld7 arg7 _ _ ha r K hr hK) h12 hR0) hR1
    isplitl [H2]
    · iexact H2
    isplitl [H4]
    · iexact H4
    isplitl [H7]
    · iexact H7
    isplitl [H8]
    · iexact H8
    isplitr
    · ipureintro; exact hX
    isplitl [H9]
    · iexists _
      isplitl [H9]
      · iexact H9
      ipureintro
      rw [show 2 * (k.val + 1) = 2 * k.val + 2 from by omega]
      exact hS2
    isplitl [H10]
    · iexists _
      iexact H10
    isplitl [H12]
    · iexists fL3
      isplitl [H12]
      · iexact H12
      ipureintro
      exact hP
    ipureintro
    exact LastP.step h9 hS0 _ _ (fun r K hr hK => ld7 arg7 _ _ ha r K hr hK) (fun r K hr hK => ld7 arg7 _ _ hb r K hr hK) _ _
      (tile_rd arg4 arg9 X4 f9 (2 * k.val) (14) (ia0 := (k0_off21_inb k 0)) (ib0 := (k0_off22_inb k 0)) (ia1 := (k0_off21_inb k 1)) (ib1 := (k0_off22_inb k 1)) (ie0 := inb_S2304x2x128_S8x2x128_126_0_0) (ie1 := inb_S2304x2x128_S8x2x128_414_0_0) (ie2 := inb_S2304x2x128_S8x2x128_702_0_0) (ie3 := inb_S2304x2x128_S8x2x128_990_0_0) (ie4 := inb_S2304x2x128_S8x2x128_1278_0_0) (ie5 := inb_S2304x2x128_S8x2x128_1566_0_0) (ie6 := inb_S2304x2x128_S8x2x128_1854_0_0) (ie7 := inb_S2304x2x128_S8x2x128_2142_0_0) (io0 := inb_S2304x2x128_S8x2x128_270_0_0) (io1 := inb_S2304x2x128_S8x2x128_558_0_0) (io2 := inb_S2304x2x128_S8x2x128_846_0_0) (io3 := inb_S2304x2x128_S8x2x128_1134_0_0) (io4 := inb_S2304x2x128_S8x2x128_1422_0_0) (io5 := inb_S2304x2x128_S8x2x128_1710_0_0) (io6 := inb_S2304x2x128_S8x2x128_1998_0_0) (io7 := inb_S2304x2x128_S8x2x128_2286_0_0) (off4_eq0 k) (off4_eq1 k) (off4_eq2 k) (off4_eq3 k) rfl rfl rfl rfl rfl rfl rfl rfl rfl rfl rfl rfl rfl rfl rfl rfl)
      (tile_rd arg4 arg10 X4 fL0 (2 * k.val + 1) (14) (ia0 := (k0_off34_inb k 0)) (ib0 := (k0_off35_inb k 0)) (ia1 := (k0_off34_inb k 1)) (ib1 := (k0_off35_inb k 1)) (ie0 := inb_S2304x2x128_S8x2x128_126_0_0) (ie1 := inb_S2304x2x128_S8x2x128_414_0_0) (ie2 := inb_S2304x2x128_S8x2x128_702_0_0) (ie3 := inb_S2304x2x128_S8x2x128_990_0_0) (ie4 := inb_S2304x2x128_S8x2x128_1278_0_0) (ie5 := inb_S2304x2x128_S8x2x128_1566_0_0) (ie6 := inb_S2304x2x128_S8x2x128_1854_0_0) (ie7 := inb_S2304x2x128_S8x2x128_2142_0_0) (io0 := inb_S2304x2x128_S8x2x128_270_0_0) (io1 := inb_S2304x2x128_S8x2x128_558_0_0) (io2 := inb_S2304x2x128_S8x2x128_846_0_0) (io3 := inb_S2304x2x128_S8x2x128_1134_0_0) (io4 := inb_S2304x2x128_S8x2x128_1422_0_0) (io5 := inb_S2304x2x128_S8x2x128_1710_0_0) (io6 := inb_S2304x2x128_S8x2x128_1998_0_0) (io7 := inb_S2304x2x128_S8x2x128_2286_0_0) (off4_eq4 k) (off4_eq5 k) (off4_eq6 k) (off4_eq7 k) rfl rfl rfl rfl rfl rfl rfl rfl rfl rfl rfl rfl rfl rfl rfl rfl) hl

end Cert.KernelIdeal.Val

end
-- ==== Proof.Spec4.lean ====
/- What a grid point leaves in the accumulator. -/
module

public import proofs.«01_k».proof.Proof.Spec3

@[expose] public section

set_option maxRecDepth 16384
set_option maxHeartbeats 1000000

noncomputable section

namespace Cert.KernelIdeal.Val

open Cert.KernelIdeal Cert.KernelIdeal.Gen
open Idealize.ShloMosaic Idealize.ShloMosaic.TcCoe Idealize.ShloMosaic.Tactic

/-- What the accumulator holds after a grid point that found `B` in it. -/
def AccAfter (x : S4992.Idx → BitVec 32) (A : S832x3840.Idx → BitVec 8) (X : S39x16x256.Idx → EReal) (tab : S664x2x128.Idx → EReal)
    (p : ℕ) (B : ℕ → ℕ → EReal) (f : S16x1920.Idx → EReal) : Prop :=
  ∀ r q l : ℕ, r < 16 → q < 15 → l < 128 → at2 f r (q * 128 + l) = B r (q * 128 + l) + ∑ s ∈ Finset.range 13, stepSum X A x tab p q r l s

theorem pay185_apply (a : Fin 16) (b : Fin 1920) : k0_pay185 (F := Ideal) (ix2 a b) = (0 : EReal) := by
  pointwise [k0_pay185]

theorem pay186_apply (a : Fin 7) (b : Fin 16) (c : Fin 256) : k0_pay186 (F := Ideal) (ix3 a b c) = (0 : EReal) := by
  pointwise [k0_pay186]

/-- The sums of a grid point start from zero. -/
theorem part_zero (M : Memref sig .tc .vmem S7x16x256 .f32) (f : BufTy.Contents (Elt Ideal) M.view.ty)
    (inb : ∀ a, (![0, 0, 0] : Fin 3 → ℕ) a + S7x16x256.size a ≤ S7x16x256.size a) (t r c : ℕ) (ht : t < 7) (hr : r < 16) (hc : c < 256) :
    at3 (M.view.read (Elt Ideal) (M.view.writes (Elt Ideal) f [⟨Rect.unit (s := S7x16x256) ![0, 0, 0] S7x16x256.size inb, k0_pay186 (F := Ideal)⟩])) t r c = (0 : EReal) :=
  (write3_in M.view f inb _ [] 0 0 0 rfl (⟨t, ht⟩ : Fin 7) (⟨r, hr⟩ : Fin 16) (⟨c, hc⟩ : Fin 256) t r c (Nat.zero_add _).symm (Nat.zero_add _).symm (Nat.zero_add _).symm).trans
    (pay186_apply _ _ _)

/-- The accumulator starts from zero in each column of the grid. -/
theorem acc_zero (M : Memref sig .tc .vmem S16x1920 .f32) (f : BufTy.Contents (Elt Ideal) M.view.ty)
    (inb : ∀ a, (![0, 0] : Fin 2 → ℕ) a + S16x1920.size a ≤ S16x1920.size a) (r c : ℕ) (hr : r < 16) (hc : c < 1920) :
    at2 (M.view.read (Elt Ideal) (M.view.writes (Elt Ideal) f [⟨Rect.unit (s := S16x1920) ![0, 0] S16x1920.size inb, k0_pay185 (F := Ideal)⟩])) r c = (0 : EReal) :=
  (write2_in M.view f inb _ [] 0 0 rfl (⟨r, hr⟩ : Fin 16) (⟨c, hc⟩ : Fin 1920) r c (Nat.zero_add _).symm (Nat.zero_add _).symm).trans
    (pay185_apply _ _)

/-- The last step's product for the last pair. -/
def tailP (u : FVec Ideal S1x16x256 .bf16) (W : FVec Ideal S256x128 .bf16) : FVec Ideal S16x128 .f32 :=
  matmul dot_S16x256_S256x128_S16x128_1_0_0_1_n_n none (shapeCast S16x256 u shapeCasts_S1x16x256_S16x256) W (constant S16x128 .f32 0x00000000#32)

/-- The last pair's sums, added to the accumulator. -/
def accUpd (acc : FVec Ideal S32x256 .f32) (u : FVec Ideal S1x16x256 .bf16) (W : FVec Ideal S256x128 .bf16) (a : FVec Ideal S16x128 .f32) : FVec Ideal S16x128 .f32 :=
  k0_pay1 (F := Ideal) acc (tailP u W) a

theorem accUpd_apply (acc : FVec Ideal S32x256 .f32) (u : FVec Ideal S1x16x256 .bf16) (W : FVec Ideal S256x128 .bf16) (a : FVec Ideal S16x128 .f32) (r : Fin 16) (l : Fin 128) :
    accUpd acc u W a (ix2 r l) = a (ix2 r l) + ((acc (ix2 ⟨r.val, by omega⟩ ⟨l.val, by omega⟩) + acc (ix2 ⟨16 + r.val, by omega⟩ ⟨128 + l.val, by omega⟩))
      + ∑ K : Fin 256, u (ix3 0 r K) * W (ix2 K l)) := by
  pointwise [accUpd, k0_pay1, tailP]

theorem acc_final {S : S2304x2x128.Idx → EReal} {A : S832x3840.Idx → BitVec 8} {x : S4992.Idx → BitVec 32} {tab : S664x2x128.Idx → EReal}
    {X : S39x16x256.Idx → EReal} {p : ℕ} {B : ℕ → ℕ → EReal} {G : S16x1920.Idx → EReal} {Z P5 P6 : S7x16x256.Idx → EReal}
    (M : Memref sig .tc .vmem S16x1920 .f32) {f : BufTy.Contents (Elt Ideal) M.view.ty}
    (hS : SAk (1664 * p + 12 * 128) 128 x tab S) (v : FVec Ideal S1x16x256 .bf16)
    (hv : ∀ r K, r < 16 → K < 256 → at3 v 0 r K = at3 X (13 * p + 12) r K)
    (hZ : ∀ t r c, t < 7 → r < 16 → c < 256 → at3 Z t r c = 0) (hp : PartSum X A x tab p 12 Z P5) (hr : PartRel v A S 12 7 P5 P6)
    (hG : ∀ r c, r < 16 → c < 1920 → at2 G r c = B r c) (ha : AccRel 7 P6 G (M.view.read (Elt Ideal) f))
    {acc : FVec Ideal S32x256 .f32} (hl : LastP X A x tab p 12 acc)
    (W : FVec Ideal S256x128 .bf16) (hW : ∀ K l, W (ix2 K l) = wraw A S 12 14 K.val l.val)
    (inb : ∀ a, (![0, 1792] : Fin 2 → ℕ) a + S16x128.size a ≤ S16x1920.size a) :
    AccAfter x A X tab p B (M.view.read (Elt Ideal) (M.view.writes (Elt Ideal) f [⟨Rect.unit (s := S16x1920) ![0, 1792] S16x128.size inb,
      accUpd acc v W (M.view.readAt (Elt Ideal) (Rect.unit (s := S16x1920) ![0, 1792] S16x128.size inb).toLoadRect f)⟩])) := by
  intro r q l hr' hq hl'
  by_cases h : q = 14
  · subst h
    refine (write2_in M.view f inb _ [] 0 1792 rfl (⟨r, hr'⟩ : Fin 16) (⟨l, hl'⟩ : Fin 128) r (14 * 128 + l) (Nat.zero_add _).symm (by show 14 * 128 + l = 1792 + l; omega)).trans ?_
    refine (accUpd_apply acc v W _ _ _).trans ?_
    refine congrArg₂ (· + ·) ?_ ?_
    · refine (readAt2 M.view f inb _ _ rfl (⟨r, hr'⟩ : Fin 16) (⟨l, hl'⟩ : Fin 128)).trans ?_
      have e := ha r (14 * 128 + l) hr' (by omega)
      rw [if_neg (by omega), add_zero, hG r _ hr' (by omega)] at e
      rw [← e]
      congr 1
      exact Nat.zero_add _
    · rw [Finset.sum_range_succ, ← hl r l hr' hl', ← stepSum_eq hS v hv 14 r l (by omega) hr' hl']
      refine congrArg₂ (· + ·) (congrArg₂ (· + ·) (eq_at2 acc _ _) (eq_at2 acc _ _)) (Finset.sum_congr rfl fun K _ => ?_)
      rw [hW]
      exact congrArg (· * _) (eq_at3 v 0 ⟨r, hr'⟩ K)
  · rw [write2_out M.view f inb _ [] 0 1792 rfl r (q * 128 + l) hr' (by omega) (Or.inr (Or.inl (by omega))), View.writes_nil,
      ha r _ hr' (by omega), if_pos (by omega), hG r _ hr' (by omega),
      PartSum.step hS v hv hp hr _ r _ (by omega) hr' (by omega), hZ _ r _ (by omega) hr' (by omega), zero_add,
      show 2 * ((q * 128 + l) / 256) + (q * 128 + l) % 256 / 128 = q from by omega, show (q * 128 + l) % 256 % 128 = l from by omega]

end Cert.KernelIdeal.Val

end
-- ==== Proof.RunVal.lean ====
/- The kernel's body at one grid point, run by value: what it leaves in the scratch and in the output block. -/
module

public import proofs.«01_k».proof.Proof.Gen.KernelIdeal.Frame
public import proofs.«01_k».proof.Proof.Gen.KernelIdeal.Loops
public import Idealize.ShloMosaic.Lib.Tactic
public import Idealize.ShloMosaic.PureOps.Ideal
public import proofs.«01_k».proof.Proof.LoopsStep
public import proofs.«01_k».proof.Proof.LoopsProd
public import proofs.«01_k».proof.Proof.Spec4
public import proofs.«01_k».proof.Proof.Gen.KernelIdeal.Skeleton

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ
local notation "𝕄" => MT nD τ sig Unit (Elt Ideal) ℕ (UR sig nD τ) ℕ

theorem cond1_cond2 : ∀ i : grid0.Coords, k0_cond1 i = 1#1 → k0_cond2 i = 1#1 := by decide +kernel

/-- The body's triple, for any continuation. -/
theorem kernelRunV (c : Dev nD) (i : grid0.Coords) (arg2 : Memref sig .tc .smem S4992 .i32) (harg2 : arg2.IsWhole) (arg3 : Memref sig .tc .vmem S8x4992 .bf16) (harg3 : arg3.IsWhole) (arg4 : Memref sig .tc .vmem S832x3840 .i8) (harg4 : arg4.IsWhole) (arg5 : Memref sig .tc .vmem S39x3840 .bf16) (harg5 : arg5.IsWhole) (arg6 : Memref sig .tc .vmem S8x3840 .bf16) (harg6 : arg6.IsWhole) (arg7 : Memref sig .tc .vmem S39x16x256 .bf16) (harg7 : arg7.IsWhole) (arg8 : Memref sig .tc .vmem S664x2x128 .bf16) (harg8 : arg8.IsWhole) (arg9 : Memref sig .tc .vmem S2304x2x128 .bf16) (harg9 : arg9.IsWhole) (arg10 : Memref sig .tc .vmem S2304x2x128 .bf16) (harg10 : arg10.IsWhole) (arg11 : Memref sig .tc .vmem S16x1920 .f32) (harg11 : arg11.IsWhole) (arg12 : Memref sig .tc .vmem S7x16x256 .f32) (harg12 : arg12.IsWhole)
    (d2 : S4992.Idx → Elt Ideal .i32) (d3 : S8x4992.Idx → Elt Ideal .bf16) (d4 : S832x3840.Idx → Elt Ideal .i8) (d5 : S39x3840.Idx → Elt Ideal .bf16)
    (d6 : S8x3840.Idx → Elt Ideal .bf16)
    (d7 : S39x16x256.Idx → Elt Ideal .bf16) (d8 : S664x2x128.Idx → Elt Ideal .bf16) (d11 : S16x1920.Idx → Elt Ideal .f32)
    (B : ℕ → ℕ → EReal)
    (hd2 : ∀ j, (show BitVec 32 from d2 j).toNat < 39)
    (h7 : k0_cond1 i ≠ 1#1 → XTk 39 d3 d7) (h8 : k0_cond2 i ≠ 1#1 → TABk 15 d5 d8)
    (h11 : k0_cond2 i ≠ 1#1 → ∀ r c, r < 16 → c < 1920 → at2 d11 r c = B r c) (hB : k0_cond2 i = 1#1 → ∀ r c, B r c = 0) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5
        ∗ owns (c : Thread nD τ) arg6 fullShare d6 ∗ owns (c : Thread nD τ) arg7 fullShare d7 ∗ owns (c : Thread nD τ) arg8 fullShare d8
        ∗ (∃ d, owns (c : Thread nD τ) arg9 fullShare d) ∗ (∃ d, owns (c : Thread nD τ) arg10 fullShare d)
        ∗ owns (c : Thread nD τ) arg11 fullShare d11 ∗ (∃ d, owns (c : Thread nD τ) arg12 fullShare d)
        ∗ (iprop(owns (c : Thread nD τ) arg2 fullShare d2 ∗ owns (c : Thread nD τ) arg3 fullShare d3 ∗ owns (c : Thread nD τ) arg4 fullShare d4 ∗ owns (c : Thread nD τ) arg5 fullShare d5
        ∗ (∃ e6 e7 e8 e11, owns (c : Thread nD τ) arg6 fullShare e6 ∗ owns (c : Thread nD τ) arg7 fullShare e7 ∗ owns (c : Thread nD τ) arg8 fullShare e8
          ∗ owns (c : Thread nD τ) arg11 fullShare e11
          ∗ ⌜XTk 39 d3 e7 ∧ TABk 15 d5 e8 ∧ AccAfter d2 d4 e7 e8 (i 1).val B e11 ∧ (k0_cond3 i = 1#1 → OutIs 15 e11 e6) ∧ (k0_cond3 i ≠ 1#1 → e6 = d6)⌝)
        ∗ (∃ d, owns (c : Thread nD τ) arg9 fullShare d) ∗ (∃ d, owns (c : Thread nD τ) arg10 fullShare d) ∗ (∃ d, owns (c : Thread nD τ) arg12 fullShare d)) -∗ K ⟨⟩))
      ⊢ wp frame (wpE (defs₀ (F := Ideal)) Variants.none c none) Set.univ (cc0_int4_linear i arg2 harg2 arg3 harg3 arg4 harg4 arg5 harg5 arg6 harg6 arg7 harg7 arg8 harg8 arg9 harg9 arg10 harg10 arg11 harg11 arg12 harg12) K := by
  simp only [cc0_int4_linear_eq_skeleton]; unfold cc0_int4_linear_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, ⟨%f11, %e11, H11⟩, ⟨%d12, %f12, -, H12⟩, Hk⟩
  have hX : InRange arg2 f2 := fun r x => by
    have h := hd2 (r.idx x); rw [← e2] at h; exact h
  subst e2 e3 e4 e5 e6 e7 e8 e11
  by_cases k0_h1 : k0_cond1 i = 1#1 <;> by_cases k0_h2 : k0_cond2 i = 1#1 <;> by_cases k0_h3 : k0_cond3 i = 1#1
  · sl_exec_parts
    sl_step
    have hT : XTk 39 (arg3.view.read (Elt Ideal) f3) (arg7.view.read (Elt Ideal) fL0) := hL2
    have hB5 : TABk 15 (arg5.view.read (Elt Ideal) f5) (arg8.view.read (Elt Ideal) fL1) := hL5
    have hS := hL17
    have hP := hL20
    have hQ := hL21
    have hR := hL25
    have hA := hL28
    rw [show Scf.trips k0_t4_loop.lb k0_t4_loop.ub k0_t4_loop.st = 6 from by decide] at hS hP hQ hR
    rw [show Scf.trips k0_t9_loop.lb k0_t9_loop.ub k0_t9_loop.st = 7 from by decide] at hR
    rw [show Scf.trips k0_t10_loop.lb k0_t10_loop.ub k0_t10_loop.st = 7 from by decide] at hA
    have hF := acc_final (B := B) arg11 hS _ (fun r K hr hK => ld7 arg7 (k0_off36_inb i) _ (k0_off36_eq i) r K hr hK)
      (part_zero arg12 _ inb_S7x16x256_S7x16x256_0_0_0) hP hR
      (fun r c hr hc => (acc_zero arg11 _ inb_S16x1920_S16x1920_0_0 r c hr hc).trans (hB k0_h2 r c).symm) hA hQ _
      (tile_rd arg4 arg9 f4 fL3 (12) (14) (ia0 := inb_S832x3840_S32x128_768_3584) (ib0 := inb_S832x3840_S32x128_768_3712) (ia1 := inb_S832x3840_S32x128_800_3584) (ib1 := inb_S832x3840_S32x128_800_3712) (ie0 := inb_S2304x2x128_S8x2x128_126_0_0) (ie1 := inb_S2304x2x128_S8x2x128_414_0_0) (ie2 := inb_S2304x2x128_S8x2x128_702_0_0) (ie3 := inb_S2304x2x128_S8x2x128_990_0_0) (ie4 := inb_S2304x2x128_S8x2x128_1278_0_0) (ie5 := inb_S2304x2x128_S8x2x128_1566_0_0) (ie6 := inb_S2304x2x128_S8x2x128_1854_0_0) (ie7 := inb_S2304x2x128_S8x2x128_2142_0_0) (io0 := inb_S2304x2x128_S8x2x128_270_0_0) (io1 := inb_S2304x2x128_S8x2x128_558_0_0) (io2 := inb_S2304x2x128_S8x2x128_846_0_0) (io3 := inb_S2304x2x128_S8x2x128_1134_0_0) (io4 := inb_S2304x2x128_S8x2x128_1422_0_0) (io5 := inb_S2304x2x128_S8x2x128_1710_0_0) (io6 := inb_S2304x2x128_S8x2x128_1998_0_0) (io7 := inb_S2304x2x128_S8x2x128_2286_0_0) rfl rfl rfl rfl rfl rfl rfl rfl rfl rfl rfl rfl rfl rfl rfl rfl rfl rfl rfl rfl) inb_S16x1920_S16x128_0_1792
    iapply Hk
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6 H7 H8 H11]
    · iexists _, _, _, _
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H11]
      · iexists _; isplitr; swap; · iexact H11
        ipureintro; rfl
      ipureintro
      exact ⟨hT, hB5, hF, fun _ => hL31, fun h => absurd k0_h3 h⟩
    isplitl [H9]
    · iexists _, _; isplitr; swap; · iexact H9
      ipureintro; rfl
    isplitl [H10]
    · iexists _, _; isplitr; swap; · iexact H10
      ipureintro; rfl
    iexists _, _; isplitr; swap; · iexact H12
    ipureintro; rfl
  · sl_exec_parts
    sl_step
    have hT : XTk 39 (arg3.view.read (Elt Ideal) f3) (arg7.view.read (Elt Ideal) fL0) := hL2
    have hB5 : TABk 15 (arg5.view.read (Elt Ideal) f5) (arg8.view.read (Elt Ideal) fL1) := hL5
    have hS := hL17
    have hP := hL20
    have hQ := hL21
    have hR := hL25
    have hA := hL28
    rw [show Scf.trips k0_t4_loop.lb k0_t4_loop.ub k0_t4_loop.st = 6 from by decide] at hS hP hQ hR
    rw [show Scf.trips k0_t9_loop.lb k0_t9_loop.ub k0_t9_loop.st = 7 from by decide] at hR
    rw [show Scf.trips k0_t10_loop.lb k0_t10_loop.ub k0_t10_loop.st = 7 from by decide] at hA
    have hF := acc_final (B := B) arg11 hS _ (fun r K hr hK => ld7 arg7 (k0_off36_inb i) _ (k0_off36_eq i) r K hr hK)
      (part_zero arg12 _ inb_S7x16x256_S7x16x256_0_0_0) hP hR
      (fun r c hr hc => (acc_zero arg11 _ inb_S16x1920_S16x1920_0_0 r c hr hc).trans (hB k0_h2 r c).symm) hA hQ _
      (tile_rd arg4 arg9 f4 fL3 (12) (14) (ia0 := inb_S832x3840_S32x128_768_3584) (ib0 := inb_S832x3840_S32x128_768_3712) (ia1 := inb_S832x3840_S32x128_800_3584) (ib1 := inb_S832x3840_S32x128_800_3712) (ie0 := inb_S2304x2x128_S8x2x128_126_0_0) (ie1 := inb_S2304x2x128_S8x2x128_414_0_0) (ie2 := inb_S2304x2x128_S8x2x128_702_0_0) (ie3 := inb_S2304x2x128_S8x2x128_990_0_0) (ie4 := inb_S2304x2x128_S8x2x128_1278_0_0) (ie5 := inb_S2304x2x128_S8x2x128_1566_0_0) (ie6 := inb_S2304x2x128_S8x2x128_1854_0_0) (ie7 := inb_S2304x2x128_S8x2x128_2142_0_0) (io0 := inb_S2304x2x128_S8x2x128_270_0_0) (io1 := inb_S2304x2x128_S8x2x128_558_0_0) (io2 := inb_S2304x2x128_S8x2x128_846_0_0) (io3 := inb_S2304x2x128_S8x2x128_1134_0_0) (io4 := inb_S2304x2x128_S8x2x128_1422_0_0) (io5 := inb_S2304x2x128_S8x2x128_1710_0_0) (io6 := inb_S2304x2x128_S8x2x128_1998_0_0) (io7 := inb_S2304x2x128_S8x2x128_2286_0_0) rfl rfl rfl rfl rfl rfl rfl rfl rfl rfl rfl rfl rfl rfl rfl rfl rfl rfl rfl rfl) inb_S16x1920_S16x128_0_1792
    iapply Hk
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6 H7 H8 H11]
    · iexists _, _, _, _
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H11]
      · iexists _; isplitr; swap; · iexact H11
        ipureintro; rfl
      ipureintro
      exact ⟨hT, hB5, hF, fun h => absurd h k0_h3, fun _ => rfl⟩
    isplitl [H9]
    · iexists _, _; isplitr; swap; · iexact H9
      ipureintro; rfl
    isplitl [H10]
    · iexists _, _; isplitr; swap; · iexact H10
      ipureintro; rfl
    iexists _, _; isplitr; swap; · iexact H12
    ipureintro; rfl
  · exact absurd (cond1_cond2 i k0_h1) k0_h2
  · exact absurd (cond1_cond2 i k0_h1) k0_h2
  · sl_exec_parts
    sl_step
    have hT : XTk 39 (arg3.view.read (Elt Ideal) f3) (arg7.view.read (Elt Ideal) f7) := h7 k0_h1
    have hB5 : TABk 15 (arg5.view.read (Elt Ideal) f5) (arg8.view.read (Elt Ideal) fL0) := hL2
    have hS := hL14
    have hP := hL17
    have hQ := hL18
    have hR := hL22
    have hA := hL25
    rw [show Scf.trips k0_t4_loop.lb k0_t4_loop.ub k0_t4_loop.st = 6 from by decide] at hS hP hQ hR
    rw [show Scf.trips k0_t9_loop.lb k0_t9_loop.ub k0_t9_loop.st = 7 from by decide] at hR
    rw [show Scf.trips k0_t10_loop.lb k0_t10_loop.ub k0_t10_loop.st = 7 from by decide] at hA
    have hF := acc_final (B := B) arg11 hS _ (fun r K hr hK => ld7 arg7 (k0_off36_inb i) _ (k0_off36_eq i) r K hr hK)
      (part_zero arg12 _ inb_S7x16x256_S7x16x256_0_0_0) hP hR
      (fun r c hr hc => (acc_zero arg11 _ inb_S16x1920_S16x1920_0_0 r c hr hc).trans (hB k0_h2 r c).symm) hA hQ _
      (tile_rd arg4 arg9 f4 fL2 (12) (14) (ia0 := inb_S832x3840_S32x128_768_3584) (ib0 := inb_S832x3840_S32x128_768_3712) (ia1 := inb_S832x3840_S32x128_800_3584) (ib1 := inb_S832x3840_S32x128_800_3712) (ie0 := inb_S2304x2x128_S8x2x128_126_0_0) (ie1 := inb_S2304x2x128_S8x2x128_414_0_0) (ie2 := inb_S2304x2x128_S8x2x128_702_0_0) (ie3 := inb_S2304x2x128_S8x2x128_990_0_0) (ie4 := inb_S2304x2x128_S8x2x128_1278_0_0) (ie5 := inb_S2304x2x128_S8x2x128_1566_0_0) (ie6 := inb_S2304x2x128_S8x2x128_1854_0_0) (ie7 := inb_S2304x2x128_S8x2x128_2142_0_0) (io0 := inb_S2304x2x128_S8x2x128_270_0_0) (io1 := inb_S2304x2x128_S8x2x128_558_0_0) (io2 := inb_S2304x2x128_S8x2x128_846_0_0) (io3 := inb_S2304x2x128_S8x2x128_1134_0_0) (io4 := inb_S2304x2x128_S8x2x128_1422_0_0) (io5 := inb_S2304x2x128_S8x2x128_1710_0_0) (io6 := inb_S2304x2x128_S8x2x128_1998_0_0) (io7 := inb_S2304x2x128_S8x2x128_2286_0_0) rfl rfl rfl rfl rfl rfl rfl rfl rfl rfl rfl rfl rfl rfl rfl rfl rfl rfl rfl rfl) inb_S16x1920_S16x128_0_1792
    iapply Hk
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6 H7 H8 H11]
    · iexists _, _, _, _
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H11]
      · iexists _; isplitr; swap; · iexact H11
        ipureintro; rfl
      ipureintro
      exact ⟨hT, hB5, hF, fun _ => hL28, fun h => absurd k0_h3 h⟩
    isplitl [H9]
    · iexists _, _; isplitr; swap; · iexact H9
      ipureintro; rfl
    isplitl [H10]
    · iexists _, _; isplitr; swap; · iexact H10
      ipureintro; rfl
    iexists _, _; isplitr; swap; · iexact H12
    ipureintro; rfl
  · sl_exec_parts
    sl_step
    have hT : XTk 39 (arg3.view.read (Elt Ideal) f3) (arg7.view.read (Elt Ideal) f7) := h7 k0_h1
    have hB5 : TABk 15 (arg5.view.read (Elt Ideal) f5) (arg8.view.read (Elt Ideal) fL0) := hL2
    have hS := hL14
    have hP := hL17
    have hQ := hL18
    have hR := hL22
    have hA := hL25
    rw [show Scf.trips k0_t4_loop.lb k0_t4_loop.ub k0_t4_loop.st = 6 from by decide] at hS hP hQ hR
    rw [show Scf.trips k0_t9_loop.lb k0_t9_loop.ub k0_t9_loop.st = 7 from by decide] at hR
    rw [show Scf.trips k0_t10_loop.lb k0_t10_loop.ub k0_t10_loop.st = 7 from by decide] at hA
    have hF := acc_final (B := B) arg11 hS _ (fun r K hr hK => ld7 arg7 (k0_off36_inb i) _ (k0_off36_eq i) r K hr hK)
      (part_zero arg12 _ inb_S7x16x256_S7x16x256_0_0_0) hP hR
      (fun r c hr hc => (acc_zero arg11 _ inb_S16x1920_S16x1920_0_0 r c hr hc).trans (hB k0_h2 r c).symm) hA hQ _
      (tile_rd arg4 arg9 f4 fL2 (12) (14) (ia0 := inb_S832x3840_S32x128_768_3584) (ib0 := inb_S832x3840_S32x128_768_3712) (ia1 := inb_S832x3840_S32x128_800_3584) (ib1 := inb_S832x3840_S32x128_800_3712) (ie0 := inb_S2304x2x128_S8x2x128_126_0_0) (ie1 := inb_S2304x2x128_S8x2x128_414_0_0) (ie2 := inb_S2304x2x128_S8x2x128_702_0_0) (ie3 := inb_S2304x2x128_S8x2x128_990_0_0) (ie4 := inb_S2304x2x128_S8x2x128_1278_0_0) (ie5 := inb_S2304x2x128_S8x2x128_1566_0_0) (ie6 := inb_S2304x2x128_S8x2x128_1854_0_0) (ie7 := inb_S2304x2x128_S8x2x128_2142_0_0) (io0 := inb_S2304x2x128_S8x2x128_270_0_0) (io1 := inb_S2304x2x128_S8x2x128_558_0_0) (io2 := inb_S2304x2x128_S8x2x128_846_0_0) (io3 := inb_S2304x2x128_S8x2x128_1134_0_0) (io4 := inb_S2304x2x128_S8x2x128_1422_0_0) (io5 := inb_S2304x2x128_S8x2x128_1710_0_0) (io6 := inb_S2304x2x128_S8x2x128_1998_0_0) (io7 := inb_S2304x2x128_S8x2x128_2286_0_0) rfl rfl rfl rfl rfl rfl rfl rfl rfl rfl rfl rfl rfl rfl rfl rfl rfl rfl rfl rfl) inb_S16x1920_S16x128_0_1792
    iapply Hk
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6 H7 H8 H11]
    · iexists _, _, _, _
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H11]
      · iexists _; isplitr; swap; · iexact H11
        ipureintro; rfl
      ipureintro
      exact ⟨hT, hB5, hF, fun h => absurd h k0_h3, fun _ => rfl⟩
    isplitl [H9]
    · iexists _, _; isplitr; swap; · iexact H9
      ipureintro; rfl
    isplitl [H10]
    · iexists _, _; isplitr; swap; · iexact H10
      ipureintro; rfl
    iexists _, _; isplitr; swap; · iexact H12
    ipureintro; rfl
  · sl_exec_parts
    sl_step
    have hT : XTk 39 (arg3.view.read (Elt Ideal) f3) (arg7.view.read (Elt Ideal) f7) := h7 k0_h1
    have hB5 : TABk 15 (arg5.view.read (Elt Ideal) f5) (arg8.view.read (Elt Ideal) f8) := h8 k0_h2
    have hS := hL11
    have hP := hL14
    have hQ := hL15
    have hR := hL19
    have hA := hL22
    rw [show Scf.trips k0_t4_loop.lb k0_t4_loop.ub k0_t4_loop.st = 6 from by decide] at hS hP hQ hR
    rw [show Scf.trips k0_t9_loop.lb k0_t9_loop.ub k0_t9_loop.st = 7 from by decide] at hR
    rw [show Scf.trips k0_t10_loop.lb k0_t10_loop.ub k0_t10_loop.st = 7 from by decide] at hA
    have hF := acc_final (B := B) arg11 hS _ (fun r K hr hK => ld7 arg7 (k0_off36_inb i) _ (k0_off36_eq i) r K hr hK)
      (part_zero arg12 _ inb_S7x16x256_S7x16x256_0_0_0) hP hR
      (h11 k0_h2) hA hQ _
      (tile_rd arg4 arg9 f4 fL1 (12) (14) (ia0 := inb_S832x3840_S32x128_768_3584) (ib0 := inb_S832x3840_S32x128_768_3712) (ia1 := inb_S832x3840_S32x128_800_3584) (ib1 := inb_S832x3840_S32x128_800_3712) (ie0 := inb_S2304x2x128_S8x2x128_126_0_0) (ie1 := inb_S2304x2x128_S8x2x128_414_0_0) (ie2 := inb_S2304x2x128_S8x2x128_702_0_0) (ie3 := inb_S2304x2x128_S8x2x128_990_0_0) (ie4 := inb_S2304x2x128_S8x2x128_1278_0_0) (ie5 := inb_S2304x2x128_S8x2x128_1566_0_0) (ie6 := inb_S2304x2x128_S8x2x128_1854_0_0) (ie7 := inb_S2304x2x128_S8x2x128_2142_0_0) (io0 := inb_S2304x2x128_S8x2x128_270_0_0) (io1 := inb_S2304x2x128_S8x2x128_558_0_0) (io2 := inb_S2304x2x128_S8x2x128_846_0_0) (io3 := inb_S2304x2x128_S8x2x128_1134_0_0) (io4 := inb_S2304x2x128_S8x2x128_1422_0_0) (io5 := inb_S2304x2x128_S8x2x128_1710_0_0) (io6 := inb_S2304x2x128_S8x2x128_1998_0_0) (io7 := inb_S2304x2x128_S8x2x128_2286_0_0) rfl rfl rfl rfl rfl rfl rfl rfl rfl rfl rfl rfl rfl rfl rfl rfl rfl rfl rfl rfl) inb_S16x1920_S16x128_0_1792
    iapply Hk
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6 H7 H8 H11]
    · iexists _, _, _, _
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H11]
      · iexists _; isplitr; swap; · iexact H11
        ipureintro; rfl
      ipureintro
      exact ⟨hT, hB5, hF, fun _ => hL25, fun h => absurd k0_h3 h⟩
    isplitl [H9]
    · iexists _, _; isplitr; swap; · iexact H9
      ipureintro; rfl
    isplitl [H10]
    · iexists _, _; isplitr; swap; · iexact H10
      ipureintro; rfl
    iexists _, _; isplitr; swap; · iexact H12
    ipureintro; rfl
  · sl_exec_parts
    sl_step
    have hT : XTk 39 (arg3.view.read (Elt Ideal) f3) (arg7.view.read (Elt Ideal) f7) := h7 k0_h1
    have hB5 : TABk 15 (arg5.view.read (Elt Ideal) f5) (arg8.view.read (Elt Ideal) f8) := h8 k0_h2
    have hS := hL11
    have hP := hL14
    have hQ := hL15
    have hR := hL19
    have hA := hL22
    rw [show Scf.trips k0_t4_loop.lb k0_t4_loop.ub k0_t4_loop.st = 6 from by decide] at hS hP hQ hR
    rw [show Scf.trips k0_t9_loop.lb k0_t9_loop.ub k0_t9_loop.st = 7 from by decide] at hR
    rw [show Scf.trips k0_t10_loop.lb k0_t10_loop.ub k0_t10_loop.st = 7 from by decide] at hA
    have hF := acc_final (B := B) arg11 hS _ (fun r K hr hK => ld7 arg7 (k0_off36_inb i) _ (k0_off36_eq i) r K hr hK)
      (part_zero arg12 _ inb_S7x16x256_S7x16x256_0_0_0) hP hR
      (h11 k0_h2) hA hQ _
      (tile_rd arg4 arg9 f4 fL1 (12) (14) (ia0 := inb_S832x3840_S32x128_768_3584) (ib0 := inb_S832x3840_S32x128_768_3712) (ia1 := inb_S832x3840_S32x128_800_3584) (ib1 := inb_S832x3840_S32x128_800_3712) (ie0 := inb_S2304x2x128_S8x2x128_126_0_0) (ie1 := inb_S2304x2x128_S8x2x128_414_0_0) (ie2 := inb_S2304x2x128_S8x2x128_702_0_0) (ie3 := inb_S2304x2x128_S8x2x128_990_0_0) (ie4 := inb_S2304x2x128_S8x2x128_1278_0_0) (ie5 := inb_S2304x2x128_S8x2x128_1566_0_0) (ie6 := inb_S2304x2x128_S8x2x128_1854_0_0) (ie7 := inb_S2304x2x128_S8x2x128_2142_0_0) (io0 := inb_S2304x2x128_S8x2x128_270_0_0) (io1 := inb_S2304x2x128_S8x2x128_558_0_0) (io2 := inb_S2304x2x128_S8x2x128_846_0_0) (io3 := inb_S2304x2x128_S8x2x128_1134_0_0) (io4 := inb_S2304x2x128_S8x2x128_1422_0_0) (io5 := inb_S2304x2x128_S8x2x128_1710_0_0) (io6 := inb_S2304x2x128_S8x2x128_1998_0_0) (io7 := inb_S2304x2x128_S8x2x128_2286_0_0) rfl rfl rfl rfl rfl rfl rfl rfl rfl rfl rfl rfl rfl rfl rfl rfl rfl rfl rfl rfl) inb_S16x1920_S16x128_0_1792
    iapply Hk
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6 H7 H8 H11]
    · iexists _, _, _, _
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H11]
      · iexists _; isplitr; swap; · iexact H11
        ipureintro; rfl
      ipureintro
      exact ⟨hT, hB5, hF, fun h => absurd h k0_h3, fun _ => rfl⟩
    isplitl [H9]
    · iexists _, _; isplitr; swap; · iexact H9
      ipureintro; rfl
    isplitl [H10]
    · iexists _, _; isplitr; swap; · iexact H10
      ipureintro; rfl
    iexists _, _; isplitr; swap; · iexact H12
    ipureintro; rfl

end Cert.KernelIdeal.Val

end
-- ==== Proof.Spec5.lean ====
/- The sums of a grid point as parts of the one sum over the packed rows. -/
module

public import proofs.«01_k».proof.Proof.Spec4

@[expose] public section

set_option maxRecDepth 16384
set_option maxHeartbeats 1000000

noncomputable section

namespace Cert.KernelIdeal.Val

open Cert.KernelIdeal Cert.KernelIdeal.Gen
open Idealize.ShloMosaic Idealize.ShloMosaic.TcCoe Idealize.ShloMosaic.Tactic

/-- The weight of input row `2 R + e` in column `C`: its nibble times the scale of its group. -/
def ww (W : S2496x26880.Idx → BitVec 8) (sc : S39x26880.Idx → EReal) (g : S4992.Idx → BitVec 32) (R e C : ℕ) : EReal :=
  val4 ((if e = 0 then lo4 else hi4) (at2 W R C)) * at2 sc (gw g (2 * R + e)) C

/-- What packed row `R` adds to element `(b, C)` of the product. -/
def Fr (x : S8x4992.Idx → EReal) (W : S2496x26880.Idx → BitVec 8) (sc : S39x26880.Idx → EReal) (g : S4992.Idx → BitVec 32)
    (b C R : ℕ) : EReal :=
  at2 x b (2 * R) * ww W sc g R 0 C + at2 x b (2 * R + 1) * ww W sc g R 1 C

theorem sum_pairs (f : ℕ → EReal) (n : ℕ) :
    ∑ j ∈ Finset.range (2 * n), f j = ∑ j ∈ Finset.range n, (f (2 * j) + f (2 * j + 1)) := by
  induction n with
  | zero => rfl
  | succ n ih =>
    rw [show 2 * (n + 1) = 2 * n + 1 + 1 from by omega, Finset.sum_range_succ, Finset.sum_range_succ, ih, Finset.sum_range_succ, add_assoc]

theorem sum_blocks (f : ℕ → EReal) (m n : ℕ) :
    ∑ s ∈ Finset.range n, ∑ j ∈ Finset.range m, f (m * s + j) = ∑ j ∈ Finset.range (m * n), f j := by
  induction n with
  | zero => rfl
  | succ n ih => rw [Finset.sum_range_succ, ih, Nat.mul_succ, Finset.sum_range_add]

theorem sum_halves (f : ℕ → EReal) :
    ∑ K ∈ Finset.range 256, f K
      = ∑ j ∈ Finset.range 64, ((f (2 * j) + f (2 * j + 1)) + (f (128 + 2 * j) + f (128 + (2 * j + 1)))) := by
  rw [Finset.sum_range_add f 128 128, sum_pairs f 64, sum_pairs (fun K => f (128 + K)) 64, ← Finset.sum_add_distrib]

/-- One element of the selected inputs times the weights: zero off the row's own parity, else one product of the sum. -/
theorem term_eq {x : S8x4992.Idx → EReal} {W : S2496x26880.Idx → BitVec 8} {sc : S39x26880.Idx → EReal} {g : S4992.Idx → BitVec 32}
    {A : S832x3840.Idx → BitVec 8} {scb : S39x3840.Idx → EReal} {X : S39x16x256.Idx → EReal} {tab : S664x2x128.Idx → EReal} {p n : ℕ}
    (hX : XTk 39 x X) (hT : TABk 15 scb tab) (hg : ∀ j, gw g j < 39)
    (hA : ∀ a b, a < 832 → b < 3840 → at2 A a b = at2 W (832 * p + a) (3840 * n + b))
    (hs : ∀ a b, a < 39 → b < 3840 → at2 scb a b = at2 sc a (3840 * n + b))
    (q r l s : ℕ) (hp : p < 3) (hs13 : s < 13) (hq : q < 15) (hr : r < 16) (hl : l < 128) (e h j : ℕ) (he : e < 2) (hh : h < 2) (hj : j < 64) :
    at3 X (13 * p + s) r (128 * e + (2 * j + h)) * wsp A g tab (1664 * p + s * 128) s q (128 * e + (2 * j + h)) l
      = if h = r / 8 then at2 x (r % 8) (2 * (64 * (13 * p + s) + j) + e) * ww W sc g (64 * (13 * p + s) + j) e (3840 * n + ((2 * q + r / 8) * 128 + l))
        else 0 := by
  have e1 : (128 * e + (2 * j + h)) % 128 / 2 = j := by omega
  have e2 : (128 * e + (2 * j + h)) % 2 = h := by omega
  have e3 : (128 * e + (2 * j + h)) / 128 = e := by omega
  have e4 : (128 * e + (2 * j + h)) % 128 = 2 * j + h := by omega
  have e5 : (128 * e + (2 * j + h) < 128) = (e = 0) := by rw [eq_iff_iff]; omega
  rw [hX _ _ _ (by omega) (by omega) hr (by omega)]
  unfold xtv wsp
  rw [e1, e2, e3, e4]
  simp only [e5]
  by_cases c : h = r / 8
  · rw [if_pos c]
    have hw : Wb A s q j h l = at2 W (64 * (13 * p + s) + j) (3840 * n + ((2 * q + r / 8) * 128 + l)) := by
      unfold Wb
      rw [hA _ _ (by omega) (by omega), ← c]; congr 1; omega
    have ht : at3 tab (gw g (1664 * p + s * 128 + (2 * j + e)) * 17 + q) h l
        = at2 sc (gw g (2 * (64 * (13 * p + s) + j) + e)) (3840 * n + ((2 * q + r / 8) * 128 + l)) := by
      rw [hT _ q h l hq hq (hg _) hh hl, hs _ _ (hg _) (by omega), ← c]
      congr 2; omega
    rw [hw, ht]
    unfold ww
    by_cases r8 : r < 8
    · have h0 : h = 0 := by omega
      rw [if_pos r8, if_pos h0, show r % 8 = r from by omega]
      congr 2; omega
    · have h1 : h ≠ 0 := by omega
      rw [if_neg r8, if_neg h1, show r % 8 = r - 8 from by omega]
      congr 2; omega
  · rw [if_neg c]
    by_cases r8 : r < 8
    · have h0 : h ≠ 0 := by omega
      rw [if_pos r8, if_neg h0, zero_mul]
    · have h1 : h = 0 := by omega
      rw [if_neg r8, if_pos h1, zero_mul]

/-- One step's sum is a run of 64 packed rows of the product. -/
theorem stepSum_rows {x : S8x4992.Idx → EReal} {W : S2496x26880.Idx → BitVec 8} {sc : S39x26880.Idx → EReal} {g : S4992.Idx → BitVec 32}
    {A : S832x3840.Idx → BitVec 8} {scb : S39x3840.Idx → EReal} {X : S39x16x256.Idx → EReal} {tab : S664x2x128.Idx → EReal} {p n : ℕ}
    (hX : XTk 39 x X) (hT : TABk 15 scb tab) (hg : ∀ j, gw g j < 39)
    (hA : ∀ a b, a < 832 → b < 3840 → at2 A a b = at2 W (832 * p + a) (3840 * n + b))
    (hs : ∀ a b, a < 39 → b < 3840 → at2 scb a b = at2 sc a (3840 * n + b))
    (q r l s : ℕ) (hp : p < 3) (hs13 : s < 13) (hq : q < 15) (hr : r < 16) (hl : l < 128) :
    stepSum X A g tab p q r l s
      = ∑ j ∈ Finset.range 64, Fr x W sc g (r % 8) (3840 * n + ((2 * q + r / 8) * 128 + l)) (64 * (13 * p + s) + j) := by
  unfold stepSum
  rw [Finset.sum_range (fun K => at3 X (13 * p + s) r K * wsp A g tab (1664 * p + s * 128) s q K l) |>.symm, sum_halves]
  refine Finset.sum_congr rfl fun j hj => ?_
  have hj := Finset.mem_range.mp hj
  have t := term_eq hX hT hg hA hs q r l s hp hs13 hq hr hl
  have t00 := t 0 0 j (by omega) (by omega) hj
  have t01 := t 0 1 j (by omega) (by omega) hj
  have t10 := t 1 0 j (by omega) (by omega) hj
  have t11 := t 1 1 j (by omega) (by omega) hj
  simp only [Nat.mul_zero, Nat.mul_one, Nat.zero_add, Nat.add_zero] at t00 t01 t10 t11
  rw [t00, t01, t10, t11]
  unfold Fr
  by_cases c : r < 8
  · rw [if_pos (by omega), if_neg (by omega), if_pos (by omega), if_neg (by omega), add_zero, add_zero]
  · rw [if_neg (by omega), if_pos (by omega), if_neg (by omega), if_pos (by omega), zero_add, zero_add]

/-- The accumulator of column `n` after `k` of its grid points. -/
def Bf (x : S8x4992.Idx → EReal) (W : S2496x26880.Idx → BitVec 8) (sc : S39x26880.Idx → EReal) (g : S4992.Idx → BitVec 32)
    (n k r c : ℕ) : EReal :=
  ∑ R ∈ Finset.range (832 * k), Fr x W sc g (r % 8) (3840 * n + ((2 * (c / 128) + r / 8) * 128 + c % 128)) R

theorem Bf_zero (x : S8x4992.Idx → EReal) (W : S2496x26880.Idx → BitVec 8) (sc : S39x26880.Idx → EReal) (g : S4992.Idx → BitVec 32)
    (n r c : ℕ) : Bf x W sc g n 0 r c = 0 := rfl

/-- A grid point adds its 832 packed rows to the accumulator. -/
theorem acc_step {x : S8x4992.Idx → EReal} {W : S2496x26880.Idx → BitVec 8} {sc : S39x26880.Idx → EReal} {g : S4992.Idx → BitVec 32}
    {A : S832x3840.Idx → BitVec 8} {scb : S39x3840.Idx → EReal} {X : S39x16x256.Idx → EReal} {tab : S664x2x128.Idx → EReal} {p n : ℕ}
    {f : S16x1920.Idx → EReal}
    (hX : XTk 39 x X) (hT : TABk 15 scb tab) (hg : ∀ j, gw g j < 39)
    (hA : ∀ a b, a < 832 → b < 3840 → at2 A a b = at2 W (832 * p + a) (3840 * n + b))
    (hs : ∀ a b, a < 39 → b < 3840 → at2 scb a b = at2 sc a (3840 * n + b)) (hp : p < 3)
    (h : AccAfter g A X tab p (Bf x W sc g n p) f) (r c : ℕ) (hr : r < 16) (hc : c < 1920) :
    at2 f r c = Bf x W sc g n (p + 1) r c := by
  have h := h r (c / 128) (c % 128) hr (by omega) (by omega)
  rw [show c / 128 * 128 + c % 128 = c from by omega] at h
  rw [h]
  unfold Bf
  rw [show 832 * (p + 1) = 832 * p + 64 * 13 from by omega, Finset.sum_range_add]
  congr 1
  rw [← sum_blocks _ 64 13]
  refine Finset.sum_congr rfl fun s hs' => ?_
  have hs' := Finset.mem_range.mp hs'
  rw [stepSum_rows hX hT hg hA hs _ r _ s hp hs' (by omega) hr (by omega)]
  refine Finset.sum_congr rfl fun j _ => ?_
  congr 1; omega

/-- What the kernel leaves in its result. -/
def outV (x : S8x4992.Idx → EReal) (W : S2496x26880.Idx → BitVec 8) (sc : S39x26880.Idx → EReal) (g : S4992.Idx → BitVec 32)
    (b C : ℕ) : EReal :=
  ∑ R ∈ Finset.range 2496, Fr x W sc g b C R

theorem out_of_acc {x : S8x4992.Idx → EReal} {W : S2496x26880.Idx → BitVec 8} {sc : S39x26880.Idx → EReal} {g : S4992.Idx → BitVec 32} {n : ℕ}
    {a : S16x1920.Idx → EReal} {f : S8x3840.Idx → EReal} (h : OutIs 15 a f)
    (ha : ∀ r c, r < 16 → c < 1920 → at2 a r c = Bf x W sc g n 3 r c) (b c : ℕ) (hb : b < 8) (hc : c < 3840) :
    at2 f b c = outV x W sc g b (3840 * n + c) := by
  rw [h b c (by omega) hb hc, ha _ _ (by omega) (by omega)]
  unfold Bf outV
  rw [show (c / 128 % 2 * 8 + b) % 8 = b from by omega,
    show (2 * ((c / 256 * 128 + c % 128) / 128) + (c / 128 % 2 * 8 + b) / 8) * 128 + (c / 256 * 128 + c % 128) % 128 = c from by omega]

end Cert.KernelIdeal.Val

end
-- ==== Proof.Blocks.lean ====
/- The blocks that the kernel is handed, as parts of the arrays, and where the grid's points lie. -/
module

public import proofs.«01_k».proof.Proof.Spec5
public import proofs.«01_k».proof.Proof.Gen.KernelIdeal
public import proofs.«01_k».proof.Proof.Gen.KernelIdeal.Frame
public import Idealize.ShloMosaic.Lib.Pipeline.ValueKit
public import Idealize.ShloMosaic.Lib.Pointwise

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic

variable (m : (ℓ : Loc nD τ sig) → Buf (Elt Ideal) ℓ)

/-- The arrays as the kernel finds them. -/
def gX (c : Dev nD) : S8x4992.Idx → EReal := V m c main_v0
def gW (c : Dev nD) : S2496x26880.Idx → BitVec 8 := V m c main_arg1
def gS (c : Dev nD) : S39x26880.Idx → EReal := V m c main_arg2
def gG (c : Dev nD) : S4992.Idx → BitVec 32 := V m c main_arg3

theorem coords_eq : ∀ t : Fin grid0.N, (grid0.coords t 0).val = t.val / 3 ∧ (grid0.coords t 1).val = t.val % 3 := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val % 3 = 0 := by decide +kernel
theorem cond3_iff : ∀ t : Fin grid0.N, k0_cond3 (grid0.coords t) = 1#1 ↔ t.val % 3 = 2 := by decide +kernel

theorem index_0 : ∀ t : Fin cfg0.N, win0_0.index t = ![0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val % 3, t.val / 3] := (by decide +kernel : ∀ t : Fin grid0.N, _)
theorem index_3 : ∀ t : Fin cfg0.N, win0_3.index t = ![0, t.val / 3] := (by decide +kernel : ∀ t : Fin grid0.N, _)
theorem index_4 : ∀ t : Fin cfg0.N, win0_4.index t = ![0, t.val / 3] := (by decide +kernel : ∀ t : Fin grid0.N, _)

theorem blk_0 (c : Dev nD) (t : Fin cfg0.N) : (iblk m c 0 t : S4992.Idx → BitVec 32) = gG m c := by
  funext y
  unfold gG
  blk_ext [iblk, index_0]

theorem blk_1 (c : Dev nD) (t : Fin cfg0.N) : (iblk m c 1 t : S8x4992.Idx → EReal) = gX m c := by
  funext y
  unfold gX
  blk_ext [iblk, index_1]

theorem blk_2 (c : Dev nD) (t : Fin cfg0.N) (a b : ℕ) (ha : a < 832) (hb : b < 3840) :
    at2 (iblk m c 2 t : S832x3840.Idx → BitVec 8) a b = at2 (gW m c) (832 * (t.val % 3) + a) (3840 * (t.val / 3) + b) := by
  have ht : t.val < 21 := t.isLt
  unfold at2 gW
  rw [ofNat_mk ha, ofNat_mk hb, ofNat_mk (show 832 * (t.val % 3) + a < 2496 by omega), ofNat_mk (show 3840 * (t.val / 3) + b < 26880 by omega)]
  blk_ext [iblk, index_2]

theorem blk_3 (c : Dev nD) (t : Fin cfg0.N) (a b : ℕ) (ha : a < 39) (hb : b < 3840) :
    at2 (iblk m c 3 t : S39x3840.Idx → EReal) a b = at2 (gS m c) a (3840 * (t.val / 3) + b) := by
  have ht : t.val < 21 := t.isLt
  unfold at2 gS
  rw [ofNat_mk ha, ofNat_mk hb, ofNat_mk (show 3840 * (t.val / 3) + b < 26880 by omega)]
  blk_ext [iblk, index_3]

theorem gX_apply (c : Dev nD) (b : Fin 8) (k : Fin 4992) :
    gX m c (ix2 b k) = (m ((c.tc : Thread nD τ).loc main_arg0) : S8x1x4992.Idx → EReal) (ix3 b 0 k) := by
  unfold gX
  entry_read
  pointwise

end Cert.KernelIdeal.Val

end
-- ==== Proof.FrameVal.lean ====
/- The proof data of the kernel's pipeline with what the buffers hold between the grid's points, the body obligation from the
   body's run, and what the launch leaves in the result. -/
module

public import proofs.«01_k».proof.Proof.RunVal
public import proofs.«01_k».proof.Proof.Blocks
public import proofs.«01_k».proof.Proof.FrameIdeal

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)

local notation "𝕄" => MT nD τ sig Unit (Elt Ideal) ℕ (UR sig nD τ) ℕ

variable (m : (ℓ : Loc nD τ sig) → Buf (Elt Ideal) ℓ) (ρ : Dev nD → PrngReg)

/-- The result's block of column `n`. -/
def outBlk (c : Dev nD) (n : ℕ) : S8x3840.Idx → EReal := fun j =>
  outV (gX m c) (gW m c) (gS m c) (gG m c) (j 0).val (3840 * n + (j 1).val)

/-- The column's scales are laid out as pairs. -/
def TabOf (c : Dev nD) (n : ℕ) (f : S664x2x128.Idx → EReal) : Prop :=
  ∀ g q h l : ℕ, q < 15 → g < 39 → h < 2 → l < 128 → at3 f (g * 17 + q) h l = at2 (gS m c) g (3840 * n + ((2 * q + h) * 128 + l))

/-- What the scratch holds before grid point `k`. -/
def Inv (c : Dev nD) (k : ℕ) (d7 : S39x16x256.Idx → EReal) (d8 : S664x2x128.Idx → EReal) (d11 : S16x1920.Idx → EReal) : Prop :=
  (k ≠ 0 → XTk 39 (gX m c) d7)
  ∧ (k % 3 ≠ 0 → TabOf m c (k / 3) d8
      ∧ ∀ r q : ℕ, r < 16 → q < 1920 → at2 d11 r q = Bf (gX m c) (gW m c) (gS m c) (gG m c) (k / 3) (k % 3) r q)

/-- The invariant between the grid's points. -/
def Phi (c : Dev nD) (k : ℕ) : sProp 𝕄 :=
  iprop(∃ d7 d8 d11, owns (c : Thread nD τ) (Memref.whole cc0_scratch0) fullShare d7 ∗ owns (c : Thread nD τ) (Memref.whole cc0_scratch1) fullShare d8 ∗ (∃ d, owns (c : Thread nD τ) (Memref.whole cc0_scratch2) fullShare d) ∗ (∃ d, owns (c : Thread nD τ) (Memref.whole cc0_scratch3) fullShare d) ∗ owns (c : Thread nD τ) (Memref.whole cc0_scratch4) fullShare d11 ∗ (∃ d, owns (c : Thread nD τ) (Memref.whole cc0_scratch5) fullShare d)
    ∗ ⌜Inv m c k d7 d8 d11⌝ ∗ (∃ r, prngReg c r))

/-- The proof data on core `c`. -/
def dats (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => outBlk m c (t.val / 3)
  Φ t := Phi m c t.val
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d

/-- What the output's buffer is left at: the block where the column ends, as found elsewhere. -/
def leave4 (c : Dev nD) (t : Fin cfg0.N) : sProp 𝕄 :=
  match cfg0.idle 4 (cfg0.grid.coords t) with
  | true =>
    match (cfg0.win 4).flush t with
    | false => iprop(∃ d, owns (c : Thread nD τ) (win0_4.stage (cfg0.slots t 4)) fullShare ((dats m 0 c).before 4 t d))
    | true => owns (c : Thread nD τ) (win0_4.stage (cfg0.slots t 4)) fullShare ((dats m 0 c).after 4 t)
  | false => owns (c : Thread nD τ) (win0_4.stage (cfg0.slots t 4)) fullShare ((dats m 0 c).after 4 t)

theorem idle_4 : ∀ t : Fin grid0.N, cfg0.idle 4 (grid0.coords t) = !(decide (t.val % 3 = 2)) := by decide +kernel
theorem flush_4 : ∀ t : Fin grid0.N, (cfg0.win 4).flush t = decide (t.val % 3 = 2) := by decide +kernel

theorem leave4_last (c : Dev nD) (t : Fin cfg0.N) (h : t.val % 3 = 2) :
    leave4 m c t = owns (c : Thread nD τ) (win0_4.stage (cfg0.slots t 4)) fullShare (outBlk m c (t.val / 3) : S8x3840.Idx → Elt Ideal .bf16) := by
  unfold leave4
  rw [show cfg0.idle 4 (cfg0.grid.coords t) = false from (idle_4 t).trans (by rw [decide_eq_true h]; rfl)]
  rfl

theorem leave4_idle (c : Dev nD) (t : Fin cfg0.N) (h : t.val % 3 ≠ 2) :
    leave4 m c t = iprop(∃ d, owns (c : Thread nD τ) (win0_4.stage (cfg0.slots t 4)) fullShare ((dats m 0 c).before 4 t d)) := by
  unfold leave4
  rw [show cfg0.idle 4 (cfg0.grid.coords t) = true from (idle_4 t).trans (by rw [decide_eq_false h]; rfl),
    show (cfg0.win 4).flush t = false from (flush_4 t).trans (decide_eq_false h)]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ leave4 m c t)

theorem gw_lt (c : Dev nD) (hg : ∀ j, (gG m c j).toNat < 39) (j : ℕ) : gw (gG m c) j < 39 := hg _

/-- The scratch after a grid point, from what the body's run says of it. -/
theorem inv_step (c : Dev nD) (t : Fin cfg0.N) (hg : ∀ j, (gG m c j).toNat < 39) {e7 : S39x16x256.Idx → EReal} {e8 : S664x2x128.Idx → EReal} {e11 : S16x1920.Idx → EReal}
    (h7 : XTk 39 (gX m c) e7) (h8 : TABk 15 (iblk m c 3 t : S39x3840.Idx → EReal) e8)
    (hA : AccAfter (gG m c) (iblk m c 2 t : S832x3840.Idx → BitVec 8) e7 e8 (t.val % 3) (Bf (gX m c) (gW m c) (gS m c) (gG m c) (t.val / 3) (t.val % 3)) e11) :
    Inv m c (t.val + 1) e7 e8 e11
    ∧ ∀ r q : ℕ, r < 16 → q < 1920 → at2 e11 r q = Bf (gX m c) (gW m c) (gS m c) (gG m c) (t.val / 3) (t.val % 3 + 1) r q := by
  have hB := fun r q hr hq => acc_step h7 h8 (gw_lt m c hg) (blk_2 m c t) (blk_3 m c t) (Nat.mod_lt _ (by omega)) hA r q hr hq
  refine ⟨⟨fun _ => h7, fun h => ?_⟩, hB⟩
  have e1 : (t.val + 1) / 3 = t.val / 3 := by omega
  have e2 : (t.val + 1) % 3 = t.val % 3 + 1 := by omega
  rw [e1, e2]
  exact ⟨fun g q h l hq hg' hh hl => (h8 g q h l hq hq hg' hh hl).trans (blk_3 m c t _ _ hg' (by omega)), hB⟩

theorem out_block (c : Dev nD) (n : ℕ) {a : S16x1920.Idx → EReal} {f : S8x3840.Idx → EReal} (h : OutIs 15 a f)
    (ha : ∀ r q : ℕ, r < 16 → q < 1920 → at2 a r q = Bf (gX m c) (gW m c) (gS m c) (gG m c) n 3 r q) : f = outBlk m c n := by
  refine funext fun j => ?_
  obtain ⟨b, q, rfl⟩ : ∃ (b : Fin 8) (q : Fin 3840), j = ix2 b q := ⟨j 0, j 1, by funext a; match a with | ⟨0, _⟩ => rfl | ⟨1, _⟩ => rfl⟩
  exact (eq_at2 f b q).trans (out_of_acc h ha b.val q.val b.isLt q.isLt)

/-- The body at the point: the invariant opened, the body's run, the invariant closed. -/
theorem sound_body (c : Dev nD) (t : Fin cfg0.N) (hg : ∀ j, (gG m c j).toNat < 39) :
    bodyPre m c t ⊢ wp frame (wpE (defs₀ (F := Ideal)) Variants.none c none) Set.univ (bodyAt0 t) (fun _ => bodyPost m c t) := by
  unfold bodyPre bodyPost bodyAt0
  simp only [before_0, before_1, before_2, before_3]
  rw [show (dats m 0 c).Φ t.succ = Phi m c (t.val + 1) from rfl,
    show (dats m 0 c).owesAt () t.succ = (dats m 0 c).owesAt () t.castSucc from rfl,
    show (dats m 0 c).Φ t.castSucc = Phi m c t.val from rfl]
  rw [show (dats m 0 c).after 0 t = iblk m c 0 t from rfl, show (dats m 0 c).after 1 t = iblk m c 1 t from rfl,
    show (dats m 0 c).after 2 t = iblk m c 2 t from rfl, show (dats m 0 c).after 3 t = iblk m c 3 t from rfl]
  unfold Phi
  have c1 := (coords_eq t).2
  iintro ⟨⟨%d7, %d8, %d11, S0, S1, S2, S3, S4, S5, %hI, Hg⟩, HO, ⟨%d0, H0⟩, ⟨%d1, H1⟩, ⟨%d2, H2⟩, ⟨%d3, H3⟩, ⟨%d4, H4⟩⟩
  have q7 : k0_cond1 (grid0.coords t) ≠ 1#1 → XTk 39 (iblk m c 1 t : S8x4992.Idx → EReal) d7 := fun h => by
    rw [blk_1]; exact hI.1 fun h0 => h ((cond1_iff t).mpr h0)
  have q8 : k0_cond2 (grid0.coords t) ≠ 1#1 → TABk 15 (iblk m c 3 t : S39x3840.Idx → EReal) d8 := fun h g q h' l hq hq' hg' hh hl =>
    ((hI.2 fun h0 => h ((cond2_iff t).mpr h0)).1 g q h' l hq' hg' hh hl).trans (blk_3 m c t _ _ hg' (by omega)).symm
  have q11 : k0_cond2 (grid0.coords t) ≠ 1#1 → ∀ r q : ℕ, r < 16 → q < 1920 → at2 d11 r q = Bf (gX m c) (gW m c) (gS m c) (gG m c) (t.val / 3) (t.val % 3) r q :=
    fun h => (hI.2 fun h0 => h ((cond2_iff t).mpr h0)).2
  have qB : k0_cond2 (grid0.coords t) = 1#1 → ∀ r q, Bf (gX m c) (gW m c) (gS m c) (gG m c) (t.val / 3) (t.val % 3) r q = 0 := fun h r q => by
    rw [(cond2_iff t).mp h]; exact Bf_zero _ _ _ _ _ _ _
  have q2 : ∀ j, (show BitVec 32 from iblk m c 0 t j).toNat < 39 := fun j => by
    have e := congrFun (blk_0 m c t) j
    have h := hg j
    rw [← e] at h; exact h
  iapply (kernelRunV c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) ((dats m 0 c).before 4 t d4) d7 d8 d11
    (Bf (gX m c) (gW m c) (gS m c) (gG m c) (t.val / 3) (t.val % 3)) q2 q7 q8 q11 qB _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, ⟨%e6, %e7, %e8, %e11, H4, S0, S1, S4, %hE⟩, S2, S3, S5⟩
  obtain ⟨x7, x8, xA, xO, xI⟩ := hE
  rw [blk_1] at x7
  rw [c1, blk_0] at xA
  have hs := inv_step m c t hg x7 x8 xA
  isplitl [S0 S1 S2 S3 S4 S5 Hg]
  · iexists e7; iexists e8; iexists e11
    isplitl [S0]; · iexact S0
    isplitl [S1]; · iexact S1
    isplitl [S2]; · iexact S2
    isplitl [S3]; · iexact S3
    isplitl [S4]; · iexact S4
    isplitl [S5]; · iexact S5
    isplitr; · ipureintro; exact hs.1
    iexact Hg
  isplitl [HO]; · iexact HO
  isplitl [H0]; · iexact H0
  isplitl [H1]; · iexact H1
  isplitl [H2]; · iexact H2
  isplitl [H3]; · iexact H3
  by_cases h3 : t.val % 3 = 2
  · rw [leave4_last m c t h3]
    have hb : e6 = outBlk m c (t.val / 3) := out_block m c (t.val / 3) (xO ((cond3_iff t).mpr h3)) (by have h := hs.2; rw [h3] at h; exact h)
    rw [← hb]
    iexact H4
  · rw [leave4_idle m c t h3]
    have hb := xI fun h => h3 ((cond3_iff t).mp h)
    iexists d4
    rw [← hb]
    iexact H4

/-- The library's body obligation. -/
theorem body_obligation (c : Dev nD) (hg : ∀ j, (gG m c j).toNat < 39) :
    BodyObligation (dats m 0 c) (defs₀ (F := Ideal)) Variants.none () Set.univ := fun t => by
  rw [bigSep_W0, bigSep_W0, Frame0.defs₀_row]
  exact triple_restated (sound_body m c t hg) rfl .rfl fun _ => .rfl

theorem phi_in (c : Dev nD) : (Pipeline.ΦA spec0 c : sProp 𝕄) ⊢ Phi m c 0 := by
  rw [Frame0.PhiA0_eq]; unfold Phi
  iintro ⟨⟨⟨%d7, S0⟩, ⟨%d8, S1⟩, S2, S3, ⟨%d11, S4⟩, S5⟩, Hg⟩
  iexists d7; iexists d8; iexists d11
  isplitl [S0]; · iexact S0
  isplitl [S1]; · iexact S1
  isplitl [S2]; · iexact S2
  isplitl [S3]; · iexact S3
  isplitl [S4]; · iexact S4
  isplitl [S5]; · iexact S5
  isplitr; · ipureintro; exact ⟨fun h => absurd rfl h, fun h => absurd rfl h⟩
  iexact Hg

theorem phi_out (c : Dev nD) (k : ℕ) : Phi m c k ⊢ (Pipeline.ΦA spec0 c : sProp 𝕄) := by
  rw [Frame0.PhiA0_eq]; unfold Phi
  iintro ⟨%d7, %d8, %d11, S0, S1, S2, S3, S4, S5, -, Hg⟩
  isplitl [S0 S1 S2 S3 S4 S5]
  · isplitl [S0]; · iexists _; iexact S0
    isplitl [S1]; · iexists _; iexact S1
    isplitl [S2]; · iexact S2
    isplitl [S3]; · iexact S3
    isplitl [S4]; · iexists _; iexact S4
    iexact S5
  iexact Hg

set_option backward.isDefEq.respectTransparency.types false in
/-- Every weakly fair execution terminates, and in every final state the result holds its blocks. -/
theorem run_main (hg : ∀ c j, (gG m c j).toNat < 39) :
    θ_run defs (onTc (τ := τ) (main (F := Ideal))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c (hg c)).loose) (hshare := fun c => (dats m 0 c).share_full fun _ => rfl)
    (howed := fun _ _ => rfl) (V := V m) (hmain := hmain m Variants.none) (hA := A_eq m)
    (hin := fun c => phi_in m c) (hout := fun c => phi_out m c _)

/-- The result after the run. -/
theorem final_out (c : Dev nD) : (dats m 0 c).arrAt 4 cfg0.N
    = (fun i => outV (gX m c) (gW m c) (gS m c) (gG m c) (i 0).val (i 1).val : S8x26880.Idx → EReal) := by
  refine (dats m 0 c).arrAt_eq_of_covers 4 _ (by decide +kernel) fun t hf y => ?_
  show outBlk m c (t.val / 3) _ = _
  unfold outBlk
  blk_simp [index_4]
  rw [Nat.mul_comm 3840]

/-- The run of the idealized kernel: its result, its arguments unchanged. -/
theorem run_value (hg : ∀ c : Dev nD, ∀ j, (show BitVec 32 from m ((c.tc : Thread nD τ).loc main_arg3) j).toNat < 39) :
    θ_run defs (onTc (τ := τ) (main (F := Ideal))) ⟨m, fun _ => 0, ρ⟩ (fun r => ∀ c : Dev nD,
      r.2.mem ((c.tc : Thread nD τ).loc main_v1) = (fun i => outV (gX m c) (gW m c) (gS m c) (gG m c) (i 0).val (i 1).val : S8x26880.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.out_eq c 4).trans (final_out m c),
      (h.1.rest_eq c main_arg0 (Pipeline.mem_restRefs_of main_arg0 (by decide) (by decide))).trans (V_main_arg0 m c),
      (h.1.in_eq c 2 rfl).trans (V_main_arg1 m c),
      (h.1.in_eq c 3 rfl).trans (V_main_arg2 m c),
      (h.1.in_eq c 0 rfl).trans (V_main_arg3 m c)⟩)
    (run_main m ρ fun c j => by unfold gG; rw [V_main_arg3]; exact hg c j)

end Cert.KernelIdeal.Val

end
-- ==== Proof.RefVal.lean ====
/- The reference's result, element by element. -/
module

public import proofs.«01_k».proof.Proof.Spec5
public import proofs.«01_k».proof.Proof.Gen.ReferenceIdeal
public import proofs.«01_k».proof.Proof.Gen.ReferenceIdeal.Run
public import Idealize.ShloMosaic.Lib.Pointwise

@[expose] public section

set_option maxRecDepth 16384
set_option maxHeartbeats 1000000

noncomputable section

namespace Cert.ReferenceIdeal.Val

open Cert.ReferenceIdeal Cert.ReferenceIdeal.Gen
open Idealize.ShloMosaic Idealize.ShloMosaic.TcCoe Idealize.ShloMosaic.Tactic Idealize.ShloMosaic.StableHlo

/-- The reference's result as a term of its arguments. -/
def refOut (x : FVec Ideal S8x1x4992 .bf16) (W : IVec S2496x26880 8) (sc : FVec Ideal S39x26880 .bf16) (g : IVec S4992 32) :
    FVec Ideal S8x26880 .bf16 :=
  shapeCast _ (truncf .bf16 (addf (Host.dotGeneral dot_S8x1x2496_S2496x26880_S8x1x26880_2_0_01_1_n_n none (Host.slice S8x1x2496 ![0, 0, 0] ![1, 1, 2] x slicesBy_S8x1x4992_S8x1x2496_0s1_0s1_0s2) (mulf (subf (sitofp .bf16 (andi (extui 32 W natLt_8_32) (broadcastInDim S2496x26880 ![] bcast_S_S2496x26880 (constantI S_ 32 15#32)))) (broadcastInDim S2496x26880 ![] bcast_S_S2496x26880 (constant S_ .bf16 0x4100#16))) (shapeCast _ (extractStridedSlice S2496x1x26880 ![0, 0, 0] (Host.gather gather_S39x26880_S2496x2x1_S2496x2x26880_2_0_n_n_0_2_126880 sc (broadcastInDim S2496x2x1 ![0, 1] bcast_S2496x2_S2496x2x1_0_1 (select (cmpi .slt (shapeCast _ g shapeCasts_S4992_S2496x2) (broadcastInDim S2496x2 ![] bcast_S_S2496x2 (constantI S_ 32 0#32))) (addi (shapeCast _ g shapeCasts_S4992_S2496x2) (broadcastInDim S2496x2 ![] bcast_S_S2496x2 (constantI S_ 32 39#32))) (shapeCast _ g shapeCasts_S4992_S2496x2)))) slices_S2496x2x26880_S2496x1x26880_0_0_0) shapeCasts_S2496x1x26880_S2496x26880))) (Host.dotGeneral dot_S8x1x2496_S2496x26880_S8x1x26880_2_0_01_1_n_n none (Host.slice S8x1x2496 ![0, 0, 1] ![1, 1, 2] x slicesBy_S8x1x4992_S8x1x2496_0s1_0s1_1s2) (mulf (subf (sitofp .bf16 (Host.shrsi (extui 32 W natLt_8_32) (broadcastInDim S2496x26880 ![] bcast_S_S2496x26880 (constantI S_ 32 4#32)))) (broadcastInDim S2496x26880 ![] bcast_S_S2496x26880 (constant S_ .bf16 0x4100#16))) (shapeCast _ (extractStridedSlice S2496x1x26880 ![0, 1, 0] (Host.gather gather_S39x26880_S2496x2x1_S2496x2x26880_2_0_n_n_0_2_126880 sc (broadcastInDim S2496x2x1 ![0, 1] bcast_S2496x2_S2496x2x1_0_1 (select (cmpi .slt (shapeCast _ g shapeCasts_S4992_S2496x2) (broadcastInDim S2496x2 ![] bcast_S_S2496x2 (constantI S_ 32 0#32))) (addi (shapeCast _ g shapeCasts_S4992_S2496x2) (broadcastInDim S2496x2 ![] bcast_S_S2496x2 (constantI S_ 32 39#32))) (shapeCast _ g shapeCasts_S4992_S2496x2)))) slices_S2496x2x26880_S2496x1x26880_0_1_0) shapeCasts_S2496x1x26880_S2496x26880)))) bitsLt_bf16_f32) shapeCasts_S8x1x26880_S8x26880

theorem ref_gather {α : Type} (x : S39x26880.Idx → α) (idx : IVec S2496x2x1 32) (R : Fin 2496) (e : Fin 2) (C : Fin 26880) :
    Host.gather gather_S39x26880_S2496x2x1_S2496x2x26880_2_0_n_n_0_2_126880 x idx (ix3 R e C)
      = x (ix2 ⟨min (idx (ix3 R e 0)).toInt.toNat 38, by omega⟩ C) := by
  unfold Host.gather
  congr 1
  funext a
  refine Fin.ext ?_
  show GatherDims.start _ (ix3 R e C) idx a + GatherDims.batchCoord _ (ix3 R e C) a + GatherDims.offCoord _ (ix3 R e C) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S39x26880_S2496x2x1_S2496x2x26880_2_0_n_n_0_2_126880).startIndexMap from List.mem_singleton.mpr rfl)]
    have hsi : (gather_S39x26880_S2496x2x1_S2496x2x26880_2_0_n_n_0_2_126880).siIdx (ix3 R e C)
        ⟨List.idxOf (0 : Fin 2) (gather_S39x26880_S2496x2x1_S2496x2x26880_2_0_n_n_0_2_126880).startIndexMap,
        List.idxOf_lt_length_iff.2 (List.mem_singleton.mpr rfl)⟩ = ix3 R e 0 := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start GatherDims.offCoord
    rw [dif_neg (by decide), dif_pos (by decide)]
    simp only [Nat.zero_add, Nat.add_zero]
    rfl

theorem eight : Ideal.ofBits FTy.bf16 16640#16 = ((8 : ℝ) : EReal) := by
  simp [Ideal.ofBits, Ideal.ieee, -EReal.coe_mul]; norm_num

theorem lo_and : ∀ w : BitVec 8, (IntOp.andi (BitVec.setWidth 32 w) 15#32).toInt = ((Cert.KernelIdeal.Val.lo4 w).toNat : ℤ) := by
  decide +kernel

theorem hi_shr : ∀ w : BitVec 8, (IntOp.shrsi ArithUnit.host (BitVec.setWidth 32 w) 4#32).toInt = ((Cert.KernelIdeal.Val.hi4 w).toNat : ℤ) := by
  decide +kernel

theorem code_val (z : BitVec 32) (n : BitVec 4) (h : z.toInt = (n.toNat : ℤ)) :
    (FloatOps.sitofp (F := Ideal) FTy.bf16 z - Ideal.ofBits FTy.bf16 16640#16 : EReal) = Cert.KernelIdeal.Val.val4 n := by
  rw [eight]
  show (((z.toInt : ℝ) : EReal) - ((8 : ℝ) : EReal)) = _
  rw [h, ← EReal.coe_sub]
  unfold Cert.KernelIdeal.Val.val4
  push_cast
  rfl

/-- The group that the reference looks up: the table's word, which is never negative. -/
def gidx (g : IVec S4992 32) : IVec S2496x2x1 32 :=
  broadcastInDim S2496x2x1 ![0, 1] bcast_S2496x2_S2496x2x1_0_1 (select (cmpi .slt (shapeCast _ g shapeCasts_S4992_S2496x2) (broadcastInDim S2496x2 ![] bcast_S_S2496x2 (constantI S_ 32 0#32))) (addi (shapeCast _ g shapeCasts_S4992_S2496x2) (broadcastInDim S2496x2 ![] bcast_S_S2496x2 (constantI S_ 32 39#32))) (shapeCast _ g shapeCasts_S4992_S2496x2))

theorem word_wrap (w : BitVec 32) (h : w.toNat < 39) :
    Scalar.select (BitVec.ofBool (decide (w.toInt < (0#32 : BitVec 32).toInt))) (w + 39#32) w = w := by
  have e0 : (0#32 : BitVec 32).toInt = 0 := by decide
  have e : ¬ w.toInt < (0#32 : BitVec 32).toInt := by
    rw [e0, BitVec.toInt_eq_toNat_cond]; split <;> omega
  rw [decide_eq_false e]; rfl

theorem gidx_apply (g : IVec S4992 32) (hg : ∀ j, (g j).toNat < 39) (R : Fin 2496) (e : Fin 2) :
    gidx g (ix3 R e 0) = g (ix1 (Fin.ofNat 4992 (2 * R.val + e.val))) := by
  have hj : (⟨R.val * 2 + e.val, by omega⟩ : Fin 4992) = Fin.ofNat 4992 (2 * R.val + e.val) := by
    rw [Cert.KernelIdeal.Val.ofNat_mk (by omega)]; exact Fin.ext (by show R.val * 2 + e.val = 2 * R.val + e.val; omega)
  rw [← hj]
  generalize hr : g (ix1 ⟨R.val * 2 + e.val, by omega⟩) = w
  pointwise [gidx]
  rw [hr]
  exact word_wrap w (hr ▸ hg _)

theorem gather_eq (sc : S39x26880.Idx → EReal) (g : IVec S4992 32) (hg : ∀ j, (g j).toNat < 39) (R : Fin 2496) (e : Fin 2) (C : Fin 26880) :
    Host.gather gather_S39x26880_S2496x2x1_S2496x2x26880_2_0_n_n_0_2_126880 sc (gidx g) (ix3 R e C)
      = Cert.KernelIdeal.Val.at2 sc (Cert.KernelIdeal.Val.gw g (2 * R.val + e.val)) C.val := by
  rw [ref_gather]
  unfold Cert.KernelIdeal.Val.at2 Cert.KernelIdeal.Val.gw
  have h := hg (ix1 (Fin.ofNat 4992 (2 * R.val + e.val)))
  rw [Cert.KernelIdeal.Val.ofNat_val, Cert.KernelIdeal.Val.ofNat_mk h]
  congr 2
  refine Fin.ext ?_
  show min (gidx g (ix3 R e 0)).toInt.toNat 38 = (g _).toNat
  rw [gidx_apply g hg, BitVec.toInt_eq_toNat_cond]; split <;> omega

theorem refOut_apply (x : FVec Ideal S8x1x4992 .bf16) (x2 : Cert.KernelIdeal.S8x4992.Idx → EReal) (hx : ∀ b k, x2 (ix2 b k) = x (ix3 b 0 k))
    (W : IVec S2496x26880 8) (sc : FVec Ideal S39x26880 .bf16) (g : IVec S4992 32)
    (hg : ∀ j, (g j).toNat < 39) (b : Fin 8) (C : Fin 26880) :
    refOut x W sc g (ix2 b C) = Cert.KernelIdeal.Val.outV x2 W sc g b.val C.val := by
  have h : refOut x W sc g (ix2 b C)
      = (∑ R : Fin 2496, x (ix3 b 0 ⟨2 * R.val, by omega⟩) * ((FloatOps.sitofp (F := Ideal) FTy.bf16 (IntOp.andi (BitVec.setWidth 32 (W (ix2 R C))) 15#32) - Ideal.ofBits FTy.bf16 16640#16)
            * Host.gather gather_S39x26880_S2496x2x1_S2496x2x26880_2_0_n_n_0_2_126880 sc (gidx g) (ix3 R 0 C)) : EReal)
        + (∑ R : Fin 2496, x (ix3 b 0 ⟨1 + 2 * R.val, by omega⟩) * ((FloatOps.sitofp (F := Ideal) FTy.bf16 (IntOp.shrsi ArithUnit.host (BitVec.setWidth 32 (W (ix2 R C))) 4#32) - Ideal.ofBits FTy.bf16 16640#16)
            * Host.gather gather_S39x26880_S2496x2x1_S2496x2x26880_2_0_n_n_0_2_126880 sc (gidx g) (ix3 R 1 C)) : EReal) := by
    pointwise [refOut]
    rfl
  rw [h, ← Finset.sum_add_distrib]
  unfold Cert.KernelIdeal.Val.outV
  rw [Finset.sum_range]
  refine Finset.sum_congr rfl fun R _ => ?_
  rw [gather_eq sc g hg, gather_eq sc g hg, code_val _ _ (lo_and _), code_val _ _ (hi_shr _)]
  unfold Cert.KernelIdeal.Val.Fr Cert.KernelIdeal.Val.ww
  rw [← hx, ← hx, Cert.KernelIdeal.Val.eq_at2 x2, Cert.KernelIdeal.Val.eq_at2 x2, Cert.KernelIdeal.Val.eq_at2 W]
  rw [if_pos rfl, if_neg (by decide)]
  show _ + Cert.KernelIdeal.Val.at2 x2 b.val (1 + 2 * R.val) * _ = _
  rw [Nat.add_comm 1]
  rfl

end Cert.ReferenceIdeal.Val

end
-- ==== Proof.Algebraic.lean ====
/- The idealized kernel and the reference leave equal results. -/
module

public import proofs.«01_k».proof.Proof.FrameVal
public import proofs.«01_k».proof.Proof.Gen.Kernel
public import proofs.«01_k».proof.Proof.RefVal
public import proofs.«01_k».proof.Proof.Pre
public import proofs.«01_k».proof.Defs

@[expose] public section

noncomputable section

open Idealize.ShloMosaic Idealize.ShloMosaic.TcCoe Idealize.SL.Sem Idealize.ShloMosaic.Tactic

namespace Cert.Proof

attribute [local instance] Cert.Kernel.Gen.facts Cert.KernelIdeal.Gen.facts Cert.ReferenceIdeal.Gen.facts Cert.Pre_groups_in_range.Gen.facts

open Cert.KernelIdeal.Val in
/-- Both results are one sum over the packed rows. -/
theorem algebraic : Cert.algebraic_KernelIdeal_ReferenceIdeal := fun m g m' g' hp hm => by
  have hlt : ∀ c : Dev Cert.KernelIdeal.nD, ∀ j, (show BitVec 32 from m ((c.tc : Thread Cert.KernelIdeal.nD Cert.KernelIdeal.τ).loc Cert.KernelIdeal.main_arg3) j).toNat < 39 :=
    fun c => Cert.pre_lt _ _ _ _ (hp c)
  refine ⟨fun c => (fun i => outV (gX m c) (gW m c) (gS m c) (gG m c) (i 0).val (i 1).val : Cert.KernelIdeal.S8x26880.Idx → EReal),
    Cert.KernelIdeal.Val.run_value m g hlt, ?_⟩
  refine (θ_run Cert.ReferenceIdeal.defs _ _).mono (fun r h c => ⟨(h c).1.trans ?_, (h c).2⟩) (Cert.ReferenceIdeal.Value.run (F := Ideal) m' g')
  obtain ⟨h0, h1, h2, h3⟩ := hm c
  rw [h0, h1, h2, h3]
  show Cert.ReferenceIdeal.Val.refOut _ _ _ _ = _
  funext i
  obtain ⟨b, C, rfl⟩ : ∃ (b : Fin 8) (C : Fin 26880), i = ix2 b C := ⟨i 0, i 1, by funext a; match a with | ⟨0, _⟩ => rfl | ⟨1, _⟩ => rfl⟩
  refine (Cert.ReferenceIdeal.Val.refOut_apply _ (gX m c) (gX_apply m c) _ _ _ (hlt c) b C).trans ?_
  show _ = outV (gX m c) (gW m c) (gS m c) (gG m c) b.val C.val
  rw [show gW m c = _ from Cert.KernelIdeal.Gen.V_main_arg1 m c, show gS m c = _ from Cert.KernelIdeal.Gen.V_main_arg2 m c,
    show gG m c = _ from Cert.KernelIdeal.Gen.V_main_arg3 m c]
  rfl

end Cert.Proof

end
-- ==== Proof.lean ====
module

public import proofs.«01_k».proof.Proof.Claims
public import proofs.«01_k».proof.Proof.Algebraic

@[expose] public section

namespace Cert.Proof

theorem claim : Cert.Claim :=
  ⟨Cert.Kernel.Gen.facts, Cert.KernelIdeal.Gen.facts, Cert.ReferenceIdeal.Gen.facts, Cert.Pre_groups_in_range.Gen.facts,
    frame_p, frame_pi, frame_ri, preserves, algebraic⟩

end Cert.Proof
